-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 512, 8, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 512, 8, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 512, 8, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.blockN ⟨4, ![2, 256, 8, 64]⟩ ⟨4, ![2, 512, 8, 64]⟩ (Layout.meshBlock [2, 4, 4] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)

variable [Facts]

def fn {F : FTy → Type} [FloatOps F] (main_arg0 : FVec F S2x256x8x64 .f32) (main_arg1 : FVec F S2x256x8x64 .f32) (main_arg2 : FVec F S2x256x8x64 .f32) : IVec S2x256x8x64 1 × IVec S2x256x8x64 1 :=
  let main_v0 : FVec F S2x256x8x64 .f32 := Host.absf main_arg0
  let main_cst : FVec F S_ .f32 := constant S_ .f32 0x7F800000#32
  let main_v1 : FVec F S2x256x8x64 .f32 := broadcastInDim S2x256x8x64 ![] bcast_S_S2x256x8x64 main_cst
  let main_v2 : IVec S2x256x8x64 1 := cmpf .olt main_v0 main_v1
  let main_v3 : FVec F S2x256x8x64 .f32 := Host.absf main_arg1
  let main_cst_0 : FVec F S_ .f32 := constant S_ .f32 0x7F800000#32
  let main_v4 : FVec F S2x256x8x64 .f32 := broadcastInDim S2x256x8x64 ![] bcast_S_S2x256x8x64 main_cst_0
  let main_v5 : IVec S2x256x8x64 1 := cmpf .olt main_v3 main_v4
  (main_v2, main_v5)
-- ==== Pre_finite_qk_ReferenceIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)

variable [Facts]

def fn {F : FTy → Type} [FloatOps F] (main_arg0 : FVec F S2x512x8x64 .f32) (main_arg1 : FVec F S2x512x8x64 .f32) (main_arg2 : FVec F S2x512x8x64 .f32) : IVec S2x512x8x64 1 × IVec S2x512x8x64 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_v3 : FVec F S2x512x8x64 .f32 := Host.absf main_arg1
  let main_cst_0 : FVec F S_ .f32 := constant S_ .f32 0x7F800000#32
  let main_v4 : FVec F S2x512x8x64 .f32 := broadcastInDim S2x512x8x64 ![] bcast_S_S2x512x8x64 main_cst_0
  let main_v5 : IVec S2x512x8x64 1 := cmpf .olt main_v3 main_v4
  (main_v2, main_v5)
-- ==== Kernel.lean ====
abbrev S2x256x8x64 : Shape := ⟨4, ![2, 256, 8, 64]⟩
abbrev S512x512 : Shape := ⟨2, ![512, 512]⟩
abbrev S1024x512 : Shape := ⟨2, ![1024, 512]⟩
abbrev S512x8 : Shape := ⟨2, ![512, 8]⟩
abbrev S8 : Shape := ⟨1, ![8]⟩
abbrev S16 : Shape := ⟨1, ![16]⟩
abbrev S_ : Shape := ⟨0, ![]⟩
abbrev S64x512 : Shape := ⟨2, ![64, 512]⟩
abbrev S1 : Shape := ⟨1, ![1]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S128x64 : Shape := ⟨2, ![128, 64]⟩
abbrev S256x128 : Shape := ⟨2, ![256, 128]⟩

abbrev nBuf : Space → Nat
  | .hbm => 8
  | .vmem => 9
  | .smem => 0
  | _ => 0

abbrev bufTy : (tb : Table) → Fin (tcTables nBuf tb) → BufTy
  | .hbm, ⟨0, _⟩ => ⟨S2x256x8x64, .f32⟩
  | .hbm, ⟨1, _⟩ => ⟨S2x256x8x64, .f32⟩
  | .hbm, ⟨2, _⟩ => ⟨S2x256x8x64, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S2x256x8x64, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1024x512, .bf16⟩
  | .local _ .vmem, ⟨5, _⟩ => ⟨S1024x512, .bf16⟩
  | .local _ .vmem, ⟨6, _⟩ => ⟨S512x512, .bf16⟩
  | .local _ .vmem, ⟨7, _⟩ => ⟨S512x512, .f32⟩
  | .local _ .vmem, ⟨8, _⟩ => ⟨S512x8, .f32⟩
  | _, _ => ⟨S2x256x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c16_i32_21 : BitVec 32 := 16#32
  let v32 : BitVec 32 := Scalar.muli v20 c16_i32_21
  let v33 : BitVec 32 := Scalar.addi c0_i32 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_22 : BitVec 32 := 4#32
  let v34 : BitVec 32 := Scalar.muli v5 c4_i32_22
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v36 : BitVec 32 := Scalar.muli v8 c1_i32_23
  let v37 : BitVec 32 := Scalar.addi v35 v36
  v37.toNat
def k0_dev2 (d0 : Dev nD) : Nat :=
  let c0_i32_26 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_25 : BitVec 32 := 16#32
  let v38 : BitVec 32 := Scalar.muli v2 c16_i32_25
  let v39 : BitVec 32 := Scalar.addi c0_i32_26 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12 : BitVec 32 := 4#32
  let v23 : BitVec 32 := Scalar.addi v5 c4_i32_12
  let c1_i32_13 : BitVec 32 := 1#32
  let v24 : BitVec 32 := Scalar.subi v23 c1_i32_13
  let c4_i32_14 : BitVec 32 := 4#32
  let v25 : BitVec 32 := Scalar.remsi v24 c4_i32_14
  let c4_i32_27 : BitVec 32 := 4#32
  let v40 : BitVec 32 := Scalar.muli v25 c4_i32_27
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v42 : BitVec 32 := Scalar.muli v8 c1_i32_28
  let v43 : BitVec 32 := Scalar.addi v41 v42
  v43.toNat
def k0_dev3 (d0 : Dev nD) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_30 : BitVec 32 := 16#32
  let v44 : BitVec 32 := Scalar.muli v2 c16_i32_30
  let v45 : BitVec 32 := Scalar.addi c0_i32_31 v44
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_32 : BitVec 32 := 4#32
  let v46 : BitVec 32 := Scalar.muli v5 c4_i32_32
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_17 : BitVec 32 := 4#32
  let v28 : BitVec 32 := Scalar.addi v8 c4_i32_17
  let c1_i32_18 : BitVec 32 := 1#32
  let v29 : BitVec 32 := Scalar.subi v28 c1_i32_18
  let c4_i32_19 : BitVec 32 := 4#32
  let v30 : BitVec 32 := Scalar.remsi v29 c4_i32_19
  let c1_i32_33 : BitVec 32 := 1#32
  let v48 : BitVec 32 := Scalar.muli v30 c1_i32_33
  let v49 : BitVec 32 := Scalar.addi v47 v48
  v49.toNat
def k0_off1 (d0 : Dev nD) (c0_i32_34 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32 : BitVec 32 := 128#32
  let v50 : BitVec 32 := Scalar.muli v12 c128_i32
  let v51 : BitVec 32 := Scalar.addi v50 c0_i32_34
  let v52 : Index := Scalar.indexCast v51
  let c0 : Index := 0#32
  ![v52.toNat, 0]
def k0_off2 (d0 : Dev nD) (c0_i32_34 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32 : BitVec 32 := 128#32
  let v50 : BitVec 32 := Scalar.muli v12 c128_i32
  let v51 : BitVec 32 := Scalar.addi v50 c0_i32_34
  let v56 : Index := Scalar.indexCast v51
  let c0_35 : Index := 0#32
  ![v56.toNat, 0]
def k0_off3 (d0 : Dev nD) (c0_i32_34 : BitVec 32) : Fin 2 → Nat :=
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32 : BitVec 32 := 128#32
  let v50 : BitVec 32 := Scalar.muli v12 c128_i32
  let v51 : BitVec 32 := Scalar.addi v50 c0_i32_34
  let v64 : BitVec 32 := Scalar.addi c512_i32 v51
  let v65 : Index := Scalar.indexCast v64
  let c0_37 : Index := 0#32
  ![v65.toNat, 0]
def k0_off4 (d0 : Dev nD) (c0_i32_45 : BitVec 32) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_44 : BitVec 32 := 128#32
  let v88 : BitVec 32 := Scalar.muli v13 c128_i32_44
  let v89 : BitVec 32 := Scalar.addi v88 c0_i32_45
  let v90 : Index := Scalar.indexCast v89
  let c0_46 : Index := 0#32
  ![v90.toNat, 0]
def k0_off5 (d0 : Dev nD) (c0_i32_45 : BitVec 32) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_44 : BitVec 32 := 128#32
  let v88 : BitVec 32 := Scalar.muli v13 c128_i32_44
  let v89 : BitVec 32 := Scalar.addi v88 c0_i32_45
  let v94 : Index := Scalar.indexCast v89
  let c0_47 : Index := 0#32
  ![v94.toNat, 0]
def k0_off6 (d0 : Dev nD) (c0_i32_45 : BitVec 32) : Fin 2 → Nat :=
  let c512_i32_49 : BitVec 32 := 512#32
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_44 : BitVec 32 := 128#32
  let v88 : BitVec 32 := Scalar.muli v13 c128_i32_44
  let v89 : BitVec 32 := Scalar.addi v88 c0_i32_45
  let v102 : BitVec 32 := Scalar.addi c512_i32_49 v89
  let v103 : Index := Scalar.indexCast v102
  let c0_50 : Index := 0#32
  ![v103.toNat, 0]
def k0_off7 (d0 : Dev nD) (c0_i32_60 : BitVec 32) (c0_i32_61 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_59 : BitVec 32 := 128#32
  let v126 : BitVec 32 := Scalar.muli v12 c128_i32_59
  let v127 : BitVec 32 := Scalar.addi v126 c0_i32_60
  let v128 : BitVec 32 := Scalar.addi v127 c0_i32_61
  let c0_i32_68 : BitVec 32 := 0#32
  ![v128.toNat, 0]
def k0_dev4 (d0 : Dev nD) : Nat :=
  let c0_i32_65 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c16_i32_64 : BitVec 32 := 16#32
  let v129 : BitVec 32 := Scalar.muli v20 c16_i32_64
  let v130 : BitVec 32 := Scalar.addi c0_i32_65 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_66 : BitVec 32 := 4#32
  let v131 : BitVec 32 := Scalar.muli v5 c4_i32_66
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v133 : BitVec 32 := Scalar.muli v8 c1_i32_67
  let v134 : BitVec 32 := Scalar.addi v132 v133
  v134.toNat
def k0_dev5 (d0 : Dev nD) : Nat :=
  let c0_i32_76 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c16_i32_75 : BitVec 32 := 16#32
  let v144 : BitVec 32 := Scalar.muli v20 c16_i32_75
  let v145 : BitVec 32 := Scalar.addi c0_i32_76 v144
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_77 : BitVec 32 := 4#32
  let v146 : BitVec 32 := Scalar.muli v5 c4_i32_77
  let v147 : BitVec 32 := Scalar.addi v145 v146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v148 : BitVec 32 := Scalar.muli v8 c1_i32_78
  let v149 : BitVec 32 := Scalar.addi v147 v148
  v149.toNat
def k0_dev6 (d0 : Dev nD) : Nat :=
  let c0_i32_87 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c16_i32_86 : BitVec 32 := 16#32
  let v159 : BitVec 32 := Scalar.muli v20 c16_i32_86
  let v160 : BitVec 32 := Scalar.addi c0_i32_87 v159
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_88 : BitVec 32 := 4#32
  let v161 : BitVec 32 := Scalar.muli v5 c4_i32_88
  let v162 : BitVec 32 := Scalar.addi v160 v161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v163 : BitVec 32 := Scalar.muli v8 c1_i32_89
  let v164 : BitVec 32 := Scalar.addi v162 v163
  v164.toNat
def k0_dev7 (d0 : Dev nD) : Nat :=
  let c0_i32_98 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c16_i32_97 : BitVec 32 := 16#32
  let v174 : BitVec 32 := Scalar.muli v20 c16_i32_97
  let v175 : BitVec 32 := Scalar.addi c0_i32_98 v174
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_99 : BitVec 32 := 4#32
  let v176 : BitVec 32 := Scalar.muli v5 c4_i32_99
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v178 : BitVec 32 := Scalar.muli v8 c1_i32_100
  let v179 : BitVec 32 := Scalar.addi v177 v178
  v179.toNat
def k0_off8 (d0 : Dev nD) (c0_i32_104 : BitVec 32) (c0_i32_105 : BitVec 32) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_103 : BitVec 32 := 128#32
  let v186 : BitVec 32 := Scalar.muli v13 c128_i32_103
  let v187 : BitVec 32 := Scalar.addi v186 c0_i32_104
  let v188 : BitVec 32 := Scalar.addi v187 c0_i32_105
  let c0_i32_112 : BitVec 32 := 0#32
  ![v188.toNat, 0]
def k0_dev8 (d0 : Dev nD) : Nat :=
  let c0_i32_109 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c16_i32_108 : BitVec 32 := 16#32
  let v189 : BitVec 32 := Scalar.muli v20 c16_i32_108
  let v190 : BitVec 32 := Scalar.addi c0_i32_109 v189
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_110 : BitVec 32 := 4#32
  let v191 : BitVec 32 := Scalar.muli v5 c4_i32_110
  let v192 : BitVec 32 := Scalar.addi v190 v191
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v193 : BitVec 32 := Scalar.muli v8 c1_i32_111
  let v194 : BitVec 32 := Scalar.addi v192 v193
  v194.toNat
def k0_dev9 (d0 : Dev nD) : Nat :=
  let c0_i32_119 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c16_i32_118 : BitVec 32 := 16#32
  let v204 : BitVec 32 := Scalar.muli v20 c16_i32_118
  let v205 : BitVec 32 := Scalar.addi c0_i32_119 v204
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_120 : BitVec 32 := 4#32
  let v206 : BitVec 32 := Scalar.muli v5 c4_i32_120
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v208 : BitVec 32 := Scalar.muli v8 c1_i32_121
  let v209 : BitVec 32 := Scalar.addi v207 v208
  v209.toNat
def k0_dev10 (d0 : Dev nD) : Nat :=
  let c0_i32_129 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c16_i32_128 : BitVec 32 := 16#32
  let v219 : BitVec 32 := Scalar.muli v20 c16_i32_128
  let v220 : BitVec 32 := Scalar.addi c0_i32_129 v219
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_130 : BitVec 32 := 4#32
  let v221 : BitVec 32 := Scalar.muli v5 c4_i32_130
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v223 : BitVec 32 := Scalar.muli v8 c1_i32_131
  let v224 : BitVec 32 := Scalar.addi v222 v223
  v224.toNat
def k0_dev11 (d0 : Dev nD) : Nat :=
  let c0_i32_139 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c16_i32_138 : BitVec 32 := 16#32
  let v234 : BitVec 32 := Scalar.muli v20 c16_i32_138
  let v235 : BitVec 32 := Scalar.addi c0_i32_139 v234
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_140 : BitVec 32 := 4#32
  let v236 : BitVec 32 := Scalar.muli v5 c4_i32_140
  let v237 : BitVec 32 := Scalar.addi v235 v236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_141 : BitVec 32 := 1#32
  let v238 : BitVec 32 := Scalar.muli v8 c1_i32_141
  let v239 : BitVec 32 := Scalar.addi v237 v238
  v239.toNat
def k0_off9 (d0 : Dev nD) (c0_i32_145 : BitVec 32) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_144 : BitVec 32 := 128#32
  let v246 : BitVec 32 := Scalar.muli v16 c128_i32_144
  let v247 : BitVec 32 := Scalar.addi v246 c0_i32_145
  let v248 : Index := Scalar.indexCast v247
  let c0_146 : Index := 0#32
  ![v248.toNat, 0]
def k0_off10 (d0 : Dev nD) (c0_i32_145 : BitVec 32) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_144 : BitVec 32 := 128#32
  let v246 : BitVec 32 := Scalar.muli v16 c128_i32_144
  let v247 : BitVec 32 := Scalar.addi v246 c0_i32_145
  let v252 : Index := Scalar.indexCast v247
  let c0_147 : Index := 0#32
  ![v252.toNat, 0]
def k0_off11 (d0 : Dev nD) (c0_i32_145 : BitVec 32) : Fin 2 → Nat :=
  let c512_i32_149 : BitVec 32 := 512#32
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_144 : BitVec 32 := 128#32
  let v246 : BitVec 32 := Scalar.muli v16 c128_i32_144
  let v247 : BitVec 32 := Scalar.addi v246 c0_i32_145
  let v260 : BitVec 32 := Scalar.addi c512_i32_149 v247
  let v261 : Index := Scalar.indexCast v260
  let c0_150 : Index := 0#32
  ![v261.toNat, 0]
def k0_off12 (d0 : Dev nD) (c0_i32_159 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_158 : BitVec 32 := 128#32
  let v284 : BitVec 32 := Scalar.muli v19 c128_i32_158
  let v285 : BitVec 32 := Scalar.addi v284 c0_i32_159
  let v286 : Index := Scalar.indexCast v285
  let c0_160 : Index := 0#32
  ![v286.toNat, 0]
def k0_off13 (d0 : Dev nD) (c0_i32_159 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_158 : BitVec 32 := 128#32
  let v284 : BitVec 32 := Scalar.muli v19 c128_i32_158
  let v285 : BitVec 32 := Scalar.addi v284 c0_i32_159
  let v290 : Index := Scalar.indexCast v285
  let c0_161 : Index := 0#32
  ![v290.toNat, 0]
def k0_off14 (d0 : Dev nD) (c0_i32_159 : BitVec 32) : Fin 2 → Nat :=
  let c512_i32_163 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_158 : BitVec 32 := 128#32
  let v284 : BitVec 32 := Scalar.muli v19 c128_i32_158
  let v285 : BitVec 32 := Scalar.addi v284 c0_i32_159
  let v298 : BitVec 32 := Scalar.addi c512_i32_163 v285
  let v299 : Index := Scalar.indexCast v298
  let c0_164 : Index := 0#32
  ![v299.toNat, 0]
def k0_dev12 (d0 : Dev nD) : Nat :=
  let c0_i32_272 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_271 : BitVec 32 := 16#32
  let v452 : BitVec 32 := Scalar.muli v2 c16_i32_271
  let v453 : BitVec 32 := Scalar.addi c0_i32_272 v452
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v21 : BitVec 32 := Scalar.addi v5 c1_i32_10
  let c4_i32_11 : BitVec 32 := 4#32
  let v22 : BitVec 32 := Scalar.remsi v21 c4_i32_11
  let c4_i32_273 : BitVec 32 := 4#32
  let v454 : BitVec 32 := Scalar.muli v22 c4_i32_273
  let v455 : BitVec 32 := Scalar.addi v453 v454
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_274 : BitVec 32 := 1#32
  let v456 : BitVec 32 := Scalar.muli v8 c1_i32_274
  let v457 : BitVec 32 := Scalar.addi v455 v456
  v457.toNat
def k0_dev13 (d0 : Dev nD) : Nat :=
  let c0_i32_279 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_278 : BitVec 32 := 16#32
  let v464 : BitVec 32 := Scalar.muli v2 c16_i32_278
  let v465 : BitVec 32 := Scalar.addi c0_i32_279 v464
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_280 : BitVec 32 := 4#32
  let v466 : BitVec 32 := Scalar.muli v5 c4_i32_280
  let v467 : BitVec 32 := Scalar.addi v465 v466
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.addi v8 c1_i32_15
  let c4_i32_16 : BitVec 32 := 4#32
  let v27 : BitVec 32 := Scalar.remsi v26 c4_i32_16
  let c1_i32_281 : BitVec 32 := 1#32
  let v468 : BitVec 32 := Scalar.muli v27 c1_i32_281
  let v469 : BitVec 32 := Scalar.addi v467 v468
  v469.toNat
def k0_dev14 (d0 : Dev nD) : Nat :=
  let c0_i32_325 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_324 : BitVec 32 := 16#32
  let v523 : BitVec 32 := Scalar.muli v2 c16_i32_324
  let v524 : BitVec 32 := Scalar.addi c0_i32_325 v523
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v21 : BitVec 32 := Scalar.addi v5 c1_i32_10
  let c4_i32_11 : BitVec 32 := 4#32
  let v22 : BitVec 32 := Scalar.remsi v21 c4_i32_11
  let c4_i32_326 : BitVec 32 := 4#32
  let v525 : BitVec 32 := Scalar.muli v22 c4_i32_326
  let v526 : BitVec 32 := Scalar.addi v524 v525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v527 : BitVec 32 := Scalar.muli v8 c1_i32_327
  let v528 : BitVec 32 := Scalar.addi v526 v527
  v528.toNat
def k0_dev15 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v535 : BitVec 32 := Scalar.muli v2 c16_i32_331
  let v536 : BitVec 32 := Scalar.addi c0_i32_332 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_333 : BitVec 32 := 4#32
  let v537 : BitVec 32 := Scalar.muli v5 c4_i32_333
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.addi v8 c1_i32_15
  let c4_i32_16 : BitVec 32 := 4#32
  let v27 : BitVec 32 := Scalar.remsi v26 c4_i32_16
  let c1_i32_334 : BitVec 32 := 1#32
  let v539 : BitVec 32 := Scalar.muli v27 c1_i32_334
  let v540 : BitVec 32 := Scalar.addi v538 v539
  v540.toNat
def k0_dev16 (d0 : Dev nD) : Nat :=
  let c0_i32_381 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_380 : BitVec 32 := 16#32
  let v594 : BitVec 32 := Scalar.muli v2 c16_i32_380
  let v595 : BitVec 32 := Scalar.addi c0_i32_381 v594
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v21 : BitVec 32 := Scalar.addi v5 c1_i32_10
  let c4_i32_11 : BitVec 32 := 4#32
  let v22 : BitVec 32 := Scalar.remsi v21 c4_i32_11
  let c4_i32_382 : BitVec 32 := 4#32
  let v596 : BitVec 32 := Scalar.muli v22 c4_i32_382
  let v597 : BitVec 32 := Scalar.addi v595 v596
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_383 : BitVec 32 := 1#32
  let v598 : BitVec 32 := Scalar.muli v8 c1_i32_383
  let v599 : BitVec 32 := Scalar.addi v597 v598
  v599.toNat
def k0_dev17 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v606 : BitVec 32 := Scalar.muli v2 c16_i32_387
  let v607 : BitVec 32 := Scalar.addi c0_i32_388 v606
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v608 : BitVec 32 := Scalar.muli v5 c4_i32_389
  let v609 : BitVec 32 := Scalar.addi v607 v608
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.addi v8 c1_i32_15
  let c4_i32_16 : BitVec 32 := 4#32
  let v27 : BitVec 32 := Scalar.remsi v26 c4_i32_16
  let c1_i32_390 : BitVec 32 := 1#32
  let v610 : BitVec 32 := Scalar.muli v27 c1_i32_390
  let v611 : BitVec 32 := Scalar.addi v609 v610
  v611.toNat
def k0_dev18 (d0 : Dev nD) : Nat :=
  let c0_i32_437 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_436 : BitVec 32 := 16#32
  let v665 : BitVec 32 := Scalar.muli v2 c16_i32_436
  let v666 : BitVec 32 := Scalar.addi c0_i32_437 v665
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v21 : BitVec 32 := Scalar.addi v5 c1_i32_10
  let c4_i32_11 : BitVec 32 := 4#32
  let v22 : BitVec 32 := Scalar.remsi v21 c4_i32_11
  let c4_i32_438 : BitVec 32 := 4#32
  let v667 : BitVec 32 := Scalar.muli v22 c4_i32_438
  let v668 : BitVec 32 := Scalar.addi v666 v667
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_439 : BitVec 32 := 1#32
  let v669 : BitVec 32 := Scalar.muli v8 c1_i32_439
  let v670 : BitVec 32 := Scalar.addi v668 v669
  v670.toNat
def k0_dev19 (d0 : Dev nD) : Nat :=
  let c0_i32_444 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_443 : BitVec 32 := 16#32
  let v677 : BitVec 32 := Scalar.muli v2 c16_i32_443
  let v678 : BitVec 32 := Scalar.addi c0_i32_444 v677
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_445 : BitVec 32 := 4#32
  let v679 : BitVec 32 := Scalar.muli v5 c4_i32_445
  let v680 : BitVec 32 := Scalar.addi v678 v679
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.addi v8 c1_i32_15
  let c4_i32_16 : BitVec 32 := 4#32
  let v27 : BitVec 32 := Scalar.remsi v26 c4_i32_16
  let c1_i32_446 : BitVec 32 := 1#32
  let v681 : BitVec 32 := Scalar.muli v27 c1_i32_446
  let v682 : BitVec 32 := Scalar.addi v680 v681
  v682.toNat
def k0_off15 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v753 : Index := Scalar.indexCast v752
  let c0_496 : Index := 0#32
  ![v753.toNat, 0]
def k0_off16 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v755 : Index := Scalar.indexCast v734
  let c0_497 : Index := 0#32
  ![v755.toNat, 0]
def k0_off17 (d0 : Dev nD) : Fin 2 → Nat :=
  let c512_i32_498 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v757 : BitVec 32 := Scalar.addi c512_i32_498 v734
  let v758 : Index := Scalar.indexCast v757
  let c0_499 : Index := 0#32
  ![v758.toNat, 0]
def k0_off18 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v762 : Index := Scalar.indexCast v752
  let c0_501 : Index := 0#32
  ![v762.toNat, 0]
def k0_off19 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v780 : Index := Scalar.indexCast v752
  let c64_507 : Index := 64#32
  ![v780.toNat, 64]
def k0_off20 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v782 : Index := Scalar.indexCast v734
  let c64_508 : Index := 64#32
  ![v782.toNat, 64]
def k0_off21 (d0 : Dev nD) : Fin 2 → Nat :=
  let c512_i32_509 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v784 : BitVec 32 := Scalar.addi c512_i32_509 v734
  let v785 : Index := Scalar.indexCast v784
  let c64_510 : Index := 64#32
  ![v785.toNat, 64]
def k0_off22 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v789 : Index := Scalar.indexCast v752
  let c1_512 : Index := 1#32
  ![v789.toNat, 1]
def k0_off23 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v807 : Index := Scalar.indexCast v752
  let c128_518 : Index := 128#32
  ![v807.toNat, 128]
def k0_off24 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v809 : Index := Scalar.indexCast v734
  let c128_519 : Index := 128#32
  ![v809.toNat, 128]
def k0_off25 (d0 : Dev nD) : Fin 2 → Nat :=
  let c512_i32_520 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v811 : BitVec 32 := Scalar.addi c512_i32_520 v734
  let v812 : Index := Scalar.indexCast v811
  let c128_521 : Index := 128#32
  ![v812.toNat, 128]
def k0_off26 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v816 : Index := Scalar.indexCast v752
  let c2_523 : Index := 2#32
  ![v816.toNat, 2]
def k0_off27 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v834 : Index := Scalar.indexCast v752
  let c192_529 : Index := 192#32
  ![v834.toNat, 192]
def k0_off28 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v836 : Index := Scalar.indexCast v734
  let c192_530 : Index := 192#32
  ![v836.toNat, 192]
def k0_off29 (d0 : Dev nD) : Fin 2 → Nat :=
  let c512_i32_531 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v838 : BitVec 32 := Scalar.addi c512_i32_531 v734
  let v839 : Index := Scalar.indexCast v838
  let c192_532 : Index := 192#32
  ![v839.toNat, 192]
def k0_off30 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v843 : Index := Scalar.indexCast v752
  let c3_534 : Index := 3#32
  ![v843.toNat, 3]
def k0_off31 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v861 : Index := Scalar.indexCast v752
  let c256_540 : Index := 256#32
  ![v861.toNat, 256]
def k0_off32 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v863 : Index := Scalar.indexCast v734
  let c256_541 : Index := 256#32
  ![v863.toNat, 256]
def k0_off33 (d0 : Dev nD) : Fin 2 → Nat :=
  let c512_i32_542 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v865 : BitVec 32 := Scalar.addi c512_i32_542 v734
  let v866 : Index := Scalar.indexCast v865
  let c256_543 : Index := 256#32
  ![v866.toNat, 256]
def k0_off34 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v870 : Index := Scalar.indexCast v752
  let c4_545 : Index := 4#32
  ![v870.toNat, 4]
def k0_off35 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v888 : Index := Scalar.indexCast v752
  let c320_551 : Index := 320#32
  ![v888.toNat, 320]
def k0_off36 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v890 : Index := Scalar.indexCast v734
  let c320_552 : Index := 320#32
  ![v890.toNat, 320]
def k0_off37 (d0 : Dev nD) : Fin 2 → Nat :=
  let c512_i32_553 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v892 : BitVec 32 := Scalar.addi c512_i32_553 v734
  let v893 : Index := Scalar.indexCast v892
  let c320_554 : Index := 320#32
  ![v893.toNat, 320]
def k0_off38 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v897 : Index := Scalar.indexCast v752
  let c5_556 : Index := 5#32
  ![v897.toNat, 5]
def k0_off39 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v915 : Index := Scalar.indexCast v752
  let c384_562 : Index := 384#32
  ![v915.toNat, 384]
def k0_off40 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v917 : Index := Scalar.indexCast v734
  let c384_563 : Index := 384#32
  ![v917.toNat, 384]
def k0_off41 (d0 : Dev nD) : Fin 2 → Nat :=
  let c512_i32_564 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v919 : BitVec 32 := Scalar.addi c512_i32_564 v734
  let v920 : Index := Scalar.indexCast v919
  let c384_565 : Index := 384#32
  ![v920.toNat, 384]
def k0_off42 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v924 : Index := Scalar.indexCast v752
  let c6_567 : Index := 6#32
  ![v924.toNat, 6]
def k0_off43 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v942 : Index := Scalar.indexCast v752
  let c448_573 : Index := 448#32
  ![v942.toNat, 448]
def k0_off44 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v944 : Index := Scalar.indexCast v734
  let c448_574 : Index := 448#32
  ![v944.toNat, 448]
def k0_off45 (d0 : Dev nD) : Fin 2 → Nat :=
  let c512_i32_575 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c128_i32_488 : BitVec 32 := 128#32
  let v734 : BitVec 32 := Scalar.muli v12 c128_i32_488
  let v946 : BitVec 32 := Scalar.addi c512_i32_575 v734
  let v947 : Index := Scalar.indexCast v946
  let c448_576 : Index := 448#32
  ![v947.toNat, 448]
def k0_off46 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let c0_i32_490 : BitVec 32 := 0#32
  let v736 : BitVec 1 := Scalar.cmpi .sgt v12 c0_i32_490
  let v737 : BitVec 32 := Scalar.extui v736
  let c0_i32_491 : BitVec 32 := 0#32
  let v738 : BitVec 1 := Scalar.cmpi .slt v12 c0_i32_491
  let v739 : BitVec 32 := Scalar.extui v738
  let v740 : BitVec 32 := Scalar.subi v737 v739
  let c2_i32_489 : BitVec 32 := 2#32
  let c0_i32_492 : BitVec 32 := 0#32
  let v741 : BitVec 1 := Scalar.cmpi .sgt c2_i32_489 c0_i32_492
  let v742 : BitVec 32 := Scalar.extui v741
  let c0_i32_493 : BitVec 32 := 0#32
  let v743 : BitVec 1 := Scalar.cmpi .slt c2_i32_489 c0_i32_493
  let v744 : BitVec 32 := Scalar.extui v743
  let v745 : BitVec 32 := Scalar.subi v742 v744
  let v746 : BitVec 1 := Scalar.cmpi .ne v740 v745
  let v747 : BitVec 32 := Scalar.remsi v12 c2_i32_489
  let c0_i32_494 : BitVec 32 := 0#32
  let v748 : BitVec 1 := Scalar.cmpi .ne v747 c0_i32_494
  let v749 : BitVec 1 := Scalar.andi v746 v748
  let v735 : BitVec 32 := Scalar.divsi v12 c2_i32_489
  let c1_i32_495 : BitVec 32 := 1#32
  let v750 : BitVec 32 := Scalar.subi v735 c1_i32_495
  let v751 : BitVec 32 := Scalar.select v749 v750 v735
  let c256_i32 : BitVec 32 := 256#32
  let v752 : BitVec 32 := Scalar.muli v751 c256_i32
  let v951 : Index := Scalar.indexCast v752
  let c7_578 : Index := 7#32
  ![v951.toNat, 7]
def k0_off47 (d0 : Dev nD) (c0_i32_588 : BitVec 32) (c0_i32_589 : BitVec 32) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_587 : BitVec 32 := 128#32
  let v972 : BitVec 32 := Scalar.muli v16 c128_i32_587
  let v973 : BitVec 32 := Scalar.addi v972 c0_i32_588
  let v974 : BitVec 32 := Scalar.addi v973 c0_i32_589
  let c0_i32_596 : BitVec 32 := 0#32
  ![v974.toNat, 0]
def k0_off48 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1052 : Index := Scalar.indexCast v1051
  let c0_649 : Index := 0#32
  ![v1052.toNat, 0]
def k0_off49 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1054 : Index := Scalar.indexCast v1033
  let c0_650 : Index := 0#32
  ![v1054.toNat, 0]
def k0_off50 (d0 : Dev nD) : Fin 2 → Nat :=
  let c512_i32_651 : BitVec 32 := 512#32
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1056 : BitVec 32 := Scalar.addi c512_i32_651 v1033
  let v1057 : Index := Scalar.indexCast v1056
  let c0_652 : Index := 0#32
  ![v1057.toNat, 0]
def k0_off51 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1061 : Index := Scalar.indexCast v1051
  let c0_654 : Index := 0#32
  ![v1061.toNat, 0]
def k0_off52 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1079 : Index := Scalar.indexCast v1051
  let c64_660 : Index := 64#32
  ![v1079.toNat, 64]
def k0_off53 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1081 : Index := Scalar.indexCast v1033
  let c64_661 : Index := 64#32
  ![v1081.toNat, 64]
def k0_off54 (d0 : Dev nD) : Fin 2 → Nat :=
  let c512_i32_662 : BitVec 32 := 512#32
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1083 : BitVec 32 := Scalar.addi c512_i32_662 v1033
  let v1084 : Index := Scalar.indexCast v1083
  let c64_663 : Index := 64#32
  ![v1084.toNat, 64]
def k0_off55 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1088 : Index := Scalar.indexCast v1051
  let c1_665 : Index := 1#32
  ![v1088.toNat, 1]
def k0_off56 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1106 : Index := Scalar.indexCast v1051
  let c128_671 : Index := 128#32
  ![v1106.toNat, 128]
def k0_off57 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1108 : Index := Scalar.indexCast v1033
  let c128_672 : Index := 128#32
  ![v1108.toNat, 128]
def k0_off58 (d0 : Dev nD) : Fin 2 → Nat :=
  let c512_i32_673 : BitVec 32 := 512#32
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1110 : BitVec 32 := Scalar.addi c512_i32_673 v1033
  let v1111 : Index := Scalar.indexCast v1110
  let c128_674 : Index := 128#32
  ![v1111.toNat, 128]
def k0_off59 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1115 : Index := Scalar.indexCast v1051
  let c2_676 : Index := 2#32
  ![v1115.toNat, 2]
def k0_off60 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1133 : Index := Scalar.indexCast v1051
  let c192_682 : Index := 192#32
  ![v1133.toNat, 192]
def k0_off61 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1135 : Index := Scalar.indexCast v1033
  let c192_683 : Index := 192#32
  ![v1135.toNat, 192]
def k0_off62 (d0 : Dev nD) : Fin 2 → Nat :=
  let c512_i32_684 : BitVec 32 := 512#32
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1137 : BitVec 32 := Scalar.addi c512_i32_684 v1033
  let v1138 : Index := Scalar.indexCast v1137
  let c192_685 : Index := 192#32
  ![v1138.toNat, 192]
def k0_off63 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1142 : Index := Scalar.indexCast v1051
  let c3_687 : Index := 3#32
  ![v1142.toNat, 3]
def k0_off64 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1160 : Index := Scalar.indexCast v1051
  let c256_693 : Index := 256#32
  ![v1160.toNat, 256]
def k0_off65 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1162 : Index := Scalar.indexCast v1033
  let c256_694 : Index := 256#32
  ![v1162.toNat, 256]
def k0_off66 (d0 : Dev nD) : Fin 2 → Nat :=
  let c512_i32_695 : BitVec 32 := 512#32
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1164 : BitVec 32 := Scalar.addi c512_i32_695 v1033
  let v1165 : Index := Scalar.indexCast v1164
  let c256_696 : Index := 256#32
  ![v1165.toNat, 256]
def k0_off67 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1169 : Index := Scalar.indexCast v1051
  let c4_698 : Index := 4#32
  ![v1169.toNat, 4]
def k0_off68 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1187 : Index := Scalar.indexCast v1051
  let c320_704 : Index := 320#32
  ![v1187.toNat, 320]
def k0_off69 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1189 : Index := Scalar.indexCast v1033
  let c320_705 : Index := 320#32
  ![v1189.toNat, 320]
def k0_off70 (d0 : Dev nD) : Fin 2 → Nat :=
  let c512_i32_706 : BitVec 32 := 512#32
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1191 : BitVec 32 := Scalar.addi c512_i32_706 v1033
  let v1192 : Index := Scalar.indexCast v1191
  let c320_707 : Index := 320#32
  ![v1192.toNat, 320]
def k0_off71 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1196 : Index := Scalar.indexCast v1051
  let c5_709 : Index := 5#32
  ![v1196.toNat, 5]
def k0_off72 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1214 : Index := Scalar.indexCast v1051
  let c384_715 : Index := 384#32
  ![v1214.toNat, 384]
def k0_off73 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1216 : Index := Scalar.indexCast v1033
  let c384_716 : Index := 384#32
  ![v1216.toNat, 384]
def k0_off74 (d0 : Dev nD) : Fin 2 → Nat :=
  let c512_i32_717 : BitVec 32 := 512#32
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1218 : BitVec 32 := Scalar.addi c512_i32_717 v1033
  let v1219 : Index := Scalar.indexCast v1218
  let c384_718 : Index := 384#32
  ![v1219.toNat, 384]
def k0_off75 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1223 : Index := Scalar.indexCast v1051
  let c6_720 : Index := 6#32
  ![v1223.toNat, 6]
def k0_off76 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1241 : Index := Scalar.indexCast v1051
  let c448_726 : Index := 448#32
  ![v1241.toNat, 448]
def k0_off77 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1243 : Index := Scalar.indexCast v1033
  let c448_727 : Index := 448#32
  ![v1243.toNat, 448]
def k0_off78 (d0 : Dev nD) : Fin 2 → Nat :=
  let c512_i32_728 : BitVec 32 := 512#32
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c128_i32_640 : BitVec 32 := 128#32
  let v1033 : BitVec 32 := Scalar.muli v16 c128_i32_640
  let v1245 : BitVec 32 := Scalar.addi c512_i32_728 v1033
  let v1246 : Index := Scalar.indexCast v1245
  let c448_729 : Index := 448#32
  ![v1246.toNat, 448]
def k0_off79 (d0 : Dev nD) : Fin 2 → Nat :=
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v14 : BitVec 32 := Scalar.subi c1_i32_5 v9
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.muli c2_i32_6 v10
  let v16 : BitVec 32 := Scalar.addi v14 v15
  let c0_i32_642 : BitVec 32 := 0#32
  let v1035 : BitVec 1 := Scalar.cmpi .sgt v16 c0_i32_642
  let v1036 : BitVec 32 := Scalar.extui v1035
  let c0_i32_643 : BitVec 32 := 0#32
  let v1037 : BitVec 1 := Scalar.cmpi .slt v16 c0_i32_643
  let v1038 : BitVec 32 := Scalar.extui v1037
  let v1039 : BitVec 32 := Scalar.subi v1036 v1038
  let c2_i32_641 : BitVec 32 := 2#32
  let c0_i32_644 : BitVec 32 := 0#32
  let v1040 : BitVec 1 := Scalar.cmpi .sgt c2_i32_641 c0_i32_644
  let v1041 : BitVec 32 := Scalar.extui v1040
  let c0_i32_645 : BitVec 32 := 0#32
  let v1042 : BitVec 1 := Scalar.cmpi .slt c2_i32_641 c0_i32_645
  let v1043 : BitVec 32 := Scalar.extui v1042
  let v1044 : BitVec 32 := Scalar.subi v1041 v1043
  let v1045 : BitVec 1 := Scalar.cmpi .ne v1039 v1044
  let v1046 : BitVec 32 := Scalar.remsi v16 c2_i32_641
  let c0_i32_646 : BitVec 32 := 0#32
  let v1047 : BitVec 1 := Scalar.cmpi .ne v1046 c0_i32_646
  let v1048 : BitVec 1 := Scalar.andi v1045 v1047
  let v1034 : BitVec 32 := Scalar.divsi v16 c2_i32_641
  let c1_i32_647 : BitVec 32 := 1#32
  let v1049 : BitVec 32 := Scalar.subi v1034 c1_i32_647
  let v1050 : BitVec 32 := Scalar.select v1048 v1049 v1034
  let c256_i32_648 : BitVec 32 := 256#32
  let v1051 : BitVec 32 := Scalar.muli v1050 c256_i32_648
  let v1250 : Index := Scalar.indexCast v1051
  let c7_731 : Index := 7#32
  ![v1250.toNat, 7]
def k0_off80 (d0 : Dev nD) (c0_i32_741 : BitVec 32) (c0_i32_742 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_740 : BitVec 32 := 128#32
  let v1271 : BitVec 32 := Scalar.muli v19 c128_i32_740
  let v1272 : BitVec 32 := Scalar.addi v1271 c0_i32_741
  let v1273 : BitVec 32 := Scalar.addi v1272 c0_i32_742
  let c0_i32_749 : BitVec 32 := 0#32
  ![v1273.toNat, 0]
def k0_off81 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1351 : Index := Scalar.indexCast v1350
  let c0_802 : Index := 0#32
  ![v1351.toNat, 0]
def k0_off82 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1353 : Index := Scalar.indexCast v1332
  let c0_803 : Index := 0#32
  ![v1353.toNat, 0]
def k0_off83 (d0 : Dev nD) : Fin 2 → Nat :=
  let c512_i32_804 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1355 : BitVec 32 := Scalar.addi c512_i32_804 v1332
  let v1356 : Index := Scalar.indexCast v1355
  let c0_805 : Index := 0#32
  ![v1356.toNat, 0]
def k0_off84 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1360 : Index := Scalar.indexCast v1350
  let c0_807 : Index := 0#32
  ![v1360.toNat, 0]
def k0_off85 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1378 : Index := Scalar.indexCast v1350
  let c64_813 : Index := 64#32
  ![v1378.toNat, 64]
def k0_off86 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1380 : Index := Scalar.indexCast v1332
  let c64_814 : Index := 64#32
  ![v1380.toNat, 64]
def k0_off87 (d0 : Dev nD) : Fin 2 → Nat :=
  let c512_i32_815 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1382 : BitVec 32 := Scalar.addi c512_i32_815 v1332
  let v1383 : Index := Scalar.indexCast v1382
  let c64_816 : Index := 64#32
  ![v1383.toNat, 64]
def k0_off88 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1387 : Index := Scalar.indexCast v1350
  let c1_818 : Index := 1#32
  ![v1387.toNat, 1]
def k0_off89 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1405 : Index := Scalar.indexCast v1350
  let c128_824 : Index := 128#32
  ![v1405.toNat, 128]
def k0_off90 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1407 : Index := Scalar.indexCast v1332
  let c128_825 : Index := 128#32
  ![v1407.toNat, 128]
def k0_off91 (d0 : Dev nD) : Fin 2 → Nat :=
  let c512_i32_826 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1409 : BitVec 32 := Scalar.addi c512_i32_826 v1332
  let v1410 : Index := Scalar.indexCast v1409
  let c128_827 : Index := 128#32
  ![v1410.toNat, 128]
def k0_off92 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1414 : Index := Scalar.indexCast v1350
  let c2_829 : Index := 2#32
  ![v1414.toNat, 2]
def k0_off93 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1432 : Index := Scalar.indexCast v1350
  let c192_835 : Index := 192#32
  ![v1432.toNat, 192]
def k0_off94 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1434 : Index := Scalar.indexCast v1332
  let c192_836 : Index := 192#32
  ![v1434.toNat, 192]
def k0_off95 (d0 : Dev nD) : Fin 2 → Nat :=
  let c512_i32_837 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1436 : BitVec 32 := Scalar.addi c512_i32_837 v1332
  let v1437 : Index := Scalar.indexCast v1436
  let c192_838 : Index := 192#32
  ![v1437.toNat, 192]
def k0_off96 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1441 : Index := Scalar.indexCast v1350
  let c3_840 : Index := 3#32
  ![v1441.toNat, 3]
def k0_off97 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1459 : Index := Scalar.indexCast v1350
  let c256_846 : Index := 256#32
  ![v1459.toNat, 256]
def k0_off98 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1461 : Index := Scalar.indexCast v1332
  let c256_847 : Index := 256#32
  ![v1461.toNat, 256]
def k0_off99 (d0 : Dev nD) : Fin 2 → Nat :=
  let c512_i32_848 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1463 : BitVec 32 := Scalar.addi c512_i32_848 v1332
  let v1464 : Index := Scalar.indexCast v1463
  let c256_849 : Index := 256#32
  ![v1464.toNat, 256]
def k0_off100 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1468 : Index := Scalar.indexCast v1350
  let c4_851 : Index := 4#32
  ![v1468.toNat, 4]
def k0_off101 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1486 : Index := Scalar.indexCast v1350
  let c320_857 : Index := 320#32
  ![v1486.toNat, 320]
def k0_off102 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1488 : Index := Scalar.indexCast v1332
  let c320_858 : Index := 320#32
  ![v1488.toNat, 320]
def k0_off103 (d0 : Dev nD) : Fin 2 → Nat :=
  let c512_i32_859 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1490 : BitVec 32 := Scalar.addi c512_i32_859 v1332
  let v1491 : Index := Scalar.indexCast v1490
  let c320_860 : Index := 320#32
  ![v1491.toNat, 320]
def k0_off104 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1495 : Index := Scalar.indexCast v1350
  let c5_862 : Index := 5#32
  ![v1495.toNat, 5]
def k0_off105 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1513 : Index := Scalar.indexCast v1350
  let c384_868 : Index := 384#32
  ![v1513.toNat, 384]
def k0_off106 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1515 : Index := Scalar.indexCast v1332
  let c384_869 : Index := 384#32
  ![v1515.toNat, 384]
def k0_off107 (d0 : Dev nD) : Fin 2 → Nat :=
  let c512_i32_870 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1517 : BitVec 32 := Scalar.addi c512_i32_870 v1332
  let v1518 : Index := Scalar.indexCast v1517
  let c384_871 : Index := 384#32
  ![v1518.toNat, 384]
def k0_off108 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1522 : Index := Scalar.indexCast v1350
  let c6_873 : Index := 6#32
  ![v1522.toNat, 6]
def k0_off109 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1540 : Index := Scalar.indexCast v1350
  let c448_879 : Index := 448#32
  ![v1540.toNat, 448]
def k0_off110 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1542 : Index := Scalar.indexCast v1332
  let c448_880 : Index := 448#32
  ![v1542.toNat, 448]
def k0_off111 (d0 : Dev nD) : Fin 2 → Nat :=
  let c512_i32_881 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c128_i32_793 : BitVec 32 := 128#32
  let v1332 : BitVec 32 := Scalar.muli v19 c128_i32_793
  let v1544 : BitVec 32 := Scalar.addi c512_i32_881 v1332
  let v1545 : Index := Scalar.indexCast v1544
  let c448_882 : Index := 448#32
  ![v1545.toNat, 448]
def k0_off112 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_8 : BitVec 32 := 2#32
  let c1_i32_7 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_7 v10
  let v18 : BitVec 32 := Scalar.muli c2_i32_8 v17
  let v19 : BitVec 32 := Scalar.addi v9 v18
  let c0_i32_795 : BitVec 32 := 0#32
  let v1334 : BitVec 1 := Scalar.cmpi .sgt v19 c0_i32_795
  let v1335 : BitVec 32 := Scalar.extui v1334
  let c0_i32_796 : BitVec 32 := 0#32
  let v1336 : BitVec 1 := Scalar.cmpi .slt v19 c0_i32_796
  let v1337 : BitVec 32 := Scalar.extui v1336
  let v1338 : BitVec 32 := Scalar.subi v1335 v1337
  let c2_i32_794 : BitVec 32 := 2#32
  let c0_i32_797 : BitVec 32 := 0#32
  let v1339 : BitVec 1 := Scalar.cmpi .sgt c2_i32_794 c0_i32_797
  let v1340 : BitVec 32 := Scalar.extui v1339
  let c0_i32_798 : BitVec 32 := 0#32
  let v1341 : BitVec 1 := Scalar.cmpi .slt c2_i32_794 c0_i32_798
  let v1342 : BitVec 32 := Scalar.extui v1341
  let v1343 : BitVec 32 := Scalar.subi v1340 v1342
  let v1344 : BitVec 1 := Scalar.cmpi .ne v1338 v1343
  let v1345 : BitVec 32 := Scalar.remsi v19 c2_i32_794
  let c0_i32_799 : BitVec 32 := 0#32
  let v1346 : BitVec 1 := Scalar.cmpi .ne v1345 c0_i32_799
  let v1347 : BitVec 1 := Scalar.andi v1344 v1346
  let v1333 : BitVec 32 := Scalar.divsi v19 c2_i32_794
  let c1_i32_800 : BitVec 32 := 1#32
  let v1348 : BitVec 32 := Scalar.subi v1333 c1_i32_800
  let v1349 : BitVec 32 := Scalar.select v1347 v1348 v1333
  let c256_i32_801 : BitVec 32 := 256#32
  let v1350 : BitVec 32 := Scalar.muli v1349 c256_i32_801
  let v1549 : Index := Scalar.indexCast v1350
  let c7_884 : Index := 7#32
  ![v1549.toNat, 7]
def k0_off113 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1642 : Index := Scalar.indexCast v1641
  let c0_951 : Index := 0#32
  ![v1642.toNat, 0]
def k0_off114 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1644 : Index := Scalar.indexCast v1623
  let c0_952 : Index := 0#32
  ![v1644.toNat, 0]
def k0_off115 (d0 : Dev nD) : Fin 2 → Nat :=
  let c512_i32_953 : BitVec 32 := 512#32
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1646 : BitVec 32 := Scalar.addi c512_i32_953 v1623
  let v1647 : Index := Scalar.indexCast v1646
  let c0_954 : Index := 0#32
  ![v1647.toNat, 0]
def k0_off116 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1651 : Index := Scalar.indexCast v1641
  let c0_956 : Index := 0#32
  ![v1651.toNat, 0]
def k0_off117 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1669 : Index := Scalar.indexCast v1641
  let c64_962 : Index := 64#32
  ![v1669.toNat, 64]
def k0_off118 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1671 : Index := Scalar.indexCast v1623
  let c64_963 : Index := 64#32
  ![v1671.toNat, 64]
def k0_off119 (d0 : Dev nD) : Fin 2 → Nat :=
  let c512_i32_964 : BitVec 32 := 512#32
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1673 : BitVec 32 := Scalar.addi c512_i32_964 v1623
  let v1674 : Index := Scalar.indexCast v1673
  let c64_965 : Index := 64#32
  ![v1674.toNat, 64]
def k0_off120 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1678 : Index := Scalar.indexCast v1641
  let c1_967 : Index := 1#32
  ![v1678.toNat, 1]
def k0_off121 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1696 : Index := Scalar.indexCast v1641
  let c128_973 : Index := 128#32
  ![v1696.toNat, 128]
def k0_off122 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1698 : Index := Scalar.indexCast v1623
  let c128_974 : Index := 128#32
  ![v1698.toNat, 128]
def k0_off123 (d0 : Dev nD) : Fin 2 → Nat :=
  let c512_i32_975 : BitVec 32 := 512#32
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1700 : BitVec 32 := Scalar.addi c512_i32_975 v1623
  let v1701 : Index := Scalar.indexCast v1700
  let c128_976 : Index := 128#32
  ![v1701.toNat, 128]
def k0_off124 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1705 : Index := Scalar.indexCast v1641
  let c2_978 : Index := 2#32
  ![v1705.toNat, 2]
def k0_off125 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1723 : Index := Scalar.indexCast v1641
  let c192_984 : Index := 192#32
  ![v1723.toNat, 192]
def k0_off126 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1725 : Index := Scalar.indexCast v1623
  let c192_985 : Index := 192#32
  ![v1725.toNat, 192]
def k0_off127 (d0 : Dev nD) : Fin 2 → Nat :=
  let c512_i32_986 : BitVec 32 := 512#32
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1727 : BitVec 32 := Scalar.addi c512_i32_986 v1623
  let v1728 : Index := Scalar.indexCast v1727
  let c192_987 : Index := 192#32
  ![v1728.toNat, 192]
def k0_off128 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1732 : Index := Scalar.indexCast v1641
  let c3_989 : Index := 3#32
  ![v1732.toNat, 3]
def k0_off129 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1750 : Index := Scalar.indexCast v1641
  let c256_995 : Index := 256#32
  ![v1750.toNat, 256]
def k0_off130 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1752 : Index := Scalar.indexCast v1623
  let c256_996 : Index := 256#32
  ![v1752.toNat, 256]
def k0_off131 (d0 : Dev nD) : Fin 2 → Nat :=
  let c512_i32_997 : BitVec 32 := 512#32
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1754 : BitVec 32 := Scalar.addi c512_i32_997 v1623
  let v1755 : Index := Scalar.indexCast v1754
  let c256_998 : Index := 256#32
  ![v1755.toNat, 256]
def k0_off132 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1759 : Index := Scalar.indexCast v1641
  let c4_1000 : Index := 4#32
  ![v1759.toNat, 4]
def k0_off133 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1777 : Index := Scalar.indexCast v1641
  let c320_1006 : Index := 320#32
  ![v1777.toNat, 320]
def k0_off134 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1779 : Index := Scalar.indexCast v1623
  let c320_1007 : Index := 320#32
  ![v1779.toNat, 320]
def k0_off135 (d0 : Dev nD) : Fin 2 → Nat :=
  let c512_i32_1008 : BitVec 32 := 512#32
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1781 : BitVec 32 := Scalar.addi c512_i32_1008 v1623
  let v1782 : Index := Scalar.indexCast v1781
  let c320_1009 : Index := 320#32
  ![v1782.toNat, 320]
def k0_off136 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1786 : Index := Scalar.indexCast v1641
  let c5_1011 : Index := 5#32
  ![v1786.toNat, 5]
def k0_off137 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1804 : Index := Scalar.indexCast v1641
  let c384_1017 : Index := 384#32
  ![v1804.toNat, 384]
def k0_off138 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1806 : Index := Scalar.indexCast v1623
  let c384_1018 : Index := 384#32
  ![v1806.toNat, 384]
def k0_off139 (d0 : Dev nD) : Fin 2 → Nat :=
  let c512_i32_1019 : BitVec 32 := 512#32
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1808 : BitVec 32 := Scalar.addi c512_i32_1019 v1623
  let v1809 : Index := Scalar.indexCast v1808
  let c384_1020 : Index := 384#32
  ![v1809.toNat, 384]
def k0_off140 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1813 : Index := Scalar.indexCast v1641
  let c6_1022 : Index := 6#32
  ![v1813.toNat, 6]
def k0_off141 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1831 : Index := Scalar.indexCast v1641
  let c448_1028 : Index := 448#32
  ![v1831.toNat, 448]
def k0_off142 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1833 : Index := Scalar.indexCast v1623
  let c448_1029 : Index := 448#32
  ![v1833.toNat, 448]
def k0_off143 (d0 : Dev nD) : Fin 2 → Nat :=
  let c512_i32_1030 : BitVec 32 := 512#32
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c128_i32_942 : BitVec 32 := 128#32
  let v1623 : BitVec 32 := Scalar.muli v13 c128_i32_942
  let v1835 : BitVec 32 := Scalar.addi c512_i32_1030 v1623
  let v1836 : Index := Scalar.indexCast v1835
  let c448_1031 : Index := 448#32
  ![v1836.toNat, 448]
def k0_off144 (d0 : Dev nD) : Fin 2 → Nat :=
  let c3_i32 : BitVec 32 := 3#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.muli c2_i32_4 v10
  let v12 : BitVec 32 := Scalar.addi v9 v11
  let v13 : BitVec 32 := Scalar.subi c3_i32 v12
  let c0_i32_944 : BitVec 32 := 0#32
  let v1625 : BitVec 1 := Scalar.cmpi .sgt v13 c0_i32_944
  let v1626 : BitVec 32 := Scalar.extui v1625
  let c0_i32_945 : BitVec 32 := 0#32
  let v1627 : BitVec 1 := Scalar.cmpi .slt v13 c0_i32_945
  let v1628 : BitVec 32 := Scalar.extui v1627
  let v1629 : BitVec 32 := Scalar.subi v1626 v1628
  let c2_i32_943 : BitVec 32 := 2#32
  let c0_i32_946 : BitVec 32 := 0#32
  let v1630 : BitVec 1 := Scalar.cmpi .sgt c2_i32_943 c0_i32_946
  let v1631 : BitVec 32 := Scalar.extui v1630
  let c0_i32_947 : BitVec 32 := 0#32
  let v1632 : BitVec 1 := Scalar.cmpi .slt c2_i32_943 c0_i32_947
  let v1633 : BitVec 32 := Scalar.extui v1632
  let v1634 : BitVec 32 := Scalar.subi v1631 v1633
  let v1635 : BitVec 1 := Scalar.cmpi .ne v1629 v1634
  let v1636 : BitVec 32 := Scalar.remsi v13 c2_i32_943
  let c0_i32_948 : BitVec 32 := 0#32
  let v1637 : BitVec 1 := Scalar.cmpi .ne v1636 c0_i32_948
  let v1638 : BitVec 1 := Scalar.andi v1635 v1637
  let v1624 : BitVec 32 := Scalar.divsi v13 c2_i32_943
  let c1_i32_949 : BitVec 32 := 1#32
  let v1639 : BitVec 32 := Scalar.subi v1624 c1_i32_949
  let v1640 : BitVec 32 := Scalar.select v1638 v1639 v1624
  let c256_i32_950 : BitVec 32 := 256#32
  let v1641 : BitVec 32 := Scalar.muli v1640 c256_i32_950
  let v1840 : Index := Scalar.indexCast v1641
  let c7_1033 : Index := 7#32
  ![v1840.toNat, 7]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x8x64 : Shape := ⟨4, ![2, 512, 8, 64]⟩
abbrev S2x8x512x512 : Shape := ⟨4, ![2, 8, 512, 512]⟩
abbrev S_ : Shape := ⟨0, ![]⟩
abbrev S2x8x512 : Shape := ⟨3, ![2, 8, 512]⟩
abbrev S2x8x512x1 : Shape := ⟨4, ![2, 8, 512, 1]⟩
abbrev S2x8x64x512 : Shape := ⟨4, ![2, 8, 64, 512]⟩

abbrev nBuf : Space → Nat
  | .hbm => 20
  | .vmem => 0
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x512x8x64, .f32⟩
  | .hbm, ⟨3, _⟩ => ⟨S2x8x512x512, .f32⟩
  | .hbm, ⟨4, _⟩ => ⟨S_, .f32⟩
  | .hbm, ⟨5, _⟩ => ⟨S2x8x512x512, .f32⟩
  | .hbm, ⟨6, _⟩ => ⟨S2x8x512x512, .f32⟩
  | .hbm, ⟨7, _⟩ => ⟨S_, .f32⟩
  | .hbm, ⟨8, _⟩ => ⟨S2x8x512, .f32⟩
  | .hbm, ⟨9, _⟩ => ⟨S2x8x512x1, .f32⟩
  | .hbm, ⟨10, _⟩ => ⟨S2x8x512x512, .f32⟩
  | .hbm, ⟨11, _⟩ => ⟨S2x8x512x512, .f32⟩
  | .hbm, ⟨12, _⟩ => ⟨S2x8x512x512, .f32⟩
  | .hbm, ⟨13, _⟩ => ⟨S_, .f32⟩
  | .hbm, ⟨14, _⟩ => ⟨S2x8x512, .f32⟩
  | .hbm, ⟨15, _⟩ => ⟨S2x8x512x1, .f32⟩
  | .hbm, ⟨16, _⟩ => ⟨S2x8x512x512, .f32⟩
  | .hbm, ⟨17, _⟩ => ⟨S2x8x512x512, .f32⟩
  | .hbm, ⟨18, _⟩ => ⟨S2x8x64x512, .f32⟩
  | .hbm, ⟨19, _⟩ => ⟨S2x512x8x64, .f32⟩
  | _, _ => ⟨S2x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Grid2.lean ====
/-
Rank-two indices by natural-number coordinates, the block of an array at an offset, and what a rectangle
of unit strides reads and writes, in those terms.
-/
module

public import Idealize.ShloMosaic.Lib.Pipeline.Kit
public import Idealize.ShloMosaic.Lib.Tactic
public import Idealize.ShloMosaic.Rules.Step

@[expose] public section

noncomputable section

namespace Cert.Grid2

open Idealize.ShloMosaic

/-- The index of an `R × C` array at row `i`, column `j`, the coordinates wrapped so that it is always one. -/
def at2 (R C : ℕ) [NeZero R] [NeZero C] (i j : ℕ) : (⟨2, ![R, C]⟩ : Shape).Idx := fun d =>
  match d with
  | ⟨0, _⟩ => (⟨i % R, Nat.mod_lt _ (Nat.pos_of_ne_zero (NeZero.ne R))⟩ : Fin R)
  | ⟨1, _⟩ => (⟨j % C, Nat.mod_lt _ (Nat.pos_of_ne_zero (NeZero.ne C))⟩ : Fin C)

section
variable {R C : ℕ} [NeZero R] [NeZero C]

theorem at2_0 (i j : ℕ) : ((at2 R C i j) 0).val = i % R := rfl
theorem at2_1 (i j : ℕ) : ((at2 R C i j) 1).val = j % C := rfl

omit [NeZero R] [NeZero C] in
theorem lt0 (x : (⟨2, ![R, C]⟩ : Shape).Idx) : (x 0).val < R := (x 0).isLt
omit [NeZero R] [NeZero C] in
theorem lt1 (x : (⟨2, ![R, C]⟩ : Shape).Idx) : (x 1).val < C := (x 1).isLt

omit [NeZero R] [NeZero C] in
/-- Two indices with the same two coordinates are one. -/
theorem ext2 {x y : (⟨2, ![R, C]⟩ : Shape).Idx} (h0 : (x 0).val = (y 0).val) (h1 : (x 1).val = (y 1).val) : x = y := by
  funext d
  match d with
  | ⟨0, _⟩ => exact Fin.ext h0
  | ⟨1, _⟩ => exact Fin.ext h1

theorem at2_eta (x : (⟨2, ![R, C]⟩ : Shape).Idx) : at2 R C (x 0).val (x 1).val = x :=
  ext2 (Nat.mod_eq_of_lt (lt0 x)) (Nat.mod_eq_of_lt (lt1 x))

theorem at2_of {x : (⟨2, ![R, C]⟩ : Shape).Idx} {i j : ℕ} (h0 : (x 0).val = i) (h1 : (x 1).val = j) : x = at2 R C i j := by
  subst h0 h1; exact (at2_eta x).symm

/-- The `h × w` block of `f` whose first element is at row `a`, column `b`. -/
def blk (h w a b : ℕ) {V : Type} (f : (⟨2, ![R, C]⟩ : Shape).Idx → V) : (⟨2, ![h, w]⟩ : Shape).Idx → V :=
  fun x => f (at2 R C (a + (x 0).val) (b + (x 1).val))

/-- A block depends on its own elements alone. -/
theorem blk_congr {h w a b : ℕ} {V : Type} {f g : (⟨2, ![R, C]⟩ : Shape).Idx → V}
    (e : ∀ i j, i < h → j < w → f (at2 R C (a + i) (b + j)) = g (at2 R C (a + i) (b + j))) :
    blk h w a b f = blk h w a b g :=
  funext fun x => e _ _ (lt0 x) (lt1 x)

/-- A rectangle of unit strides at `![a, b]` takes `x` to `(a + x 0, b + x 1)`. -/
theorem unit_emb {h w a b : ℕ} {off : Fin 2 → ℕ} (ho : off = ![a, b])
    (inb : ∀ d, off d + (![h, w] : Fin 2 → ℕ) d ≤ (⟨2, ![R, C]⟩ : Shape).size d)
    (x : (Rect.unit (s := ⟨2, ![R, C]⟩) off ![h, w] inb).shape.Idx) :
    (Rect.unit (s := ⟨2, ![R, C]⟩) off ![h, w] inb).emb x = at2 R C (a + (x 0).val) (b + (x 1).val) := by
  subst ho
  exact at2_of (by show a + 1 * (x 0).val = _; omega) (by show b + 1 * (x 1).val = _; omega)

/-- The rows and columns such a rectangle covers. -/
theorem unit_mem {h w a b : ℕ} {off : Fin 2 → ℕ} (ho : off = ![a, b])
    (inb : ∀ d, off d + (![h, w] : Fin 2 → ℕ) d ≤ (⟨2, ![R, C]⟩ : Shape).size d) (i : (⟨2, ![R, C]⟩ : Shape).Idx) :
    i ∈ (Rect.unit (s := ⟨2, ![R, C]⟩) off ![h, w] inb).set
      ↔ (a ≤ (i 0).val ∧ (i 0).val < a + h) ∧ (b ≤ (i 1).val ∧ (i 1).val < b + w) := by
  subst ho
  rw [Rect.mem_set_unit]
  constructor
  · intro H; exact ⟨H 0, H 1⟩
  · rintro ⟨h0, h1⟩ d
    match d with
    | ⟨0, _⟩ => exact h0
    | ⟨1, _⟩ => exact h1

/-- `f'` is `f` with the block `W` put at row `a`, column `b`. -/
def Upd (a b : ℕ) {h w : ℕ} [NeZero h] [NeZero w] {V : Type} (W : (⟨2, ![h, w]⟩ : Shape).Idx → V)
    (f f' : (⟨2, ![R, C]⟩ : Shape).Idx → V) : Prop :=
  ∀ x, f' x = if (a ≤ (x 0).val ∧ (x 0).val < a + h) ∧ (b ≤ (x 1).val ∧ (x 1).val < b + w)
    then W (at2 h w ((x 0).val - a) ((x 1).val - b)) else f x

theorem upd_of {h w a b : ℕ} [NeZero h] [NeZero w] {off : Fin 2 → ℕ} (ho : off = ![a, b])
    (inb : ∀ d, off d + (![h, w] : Fin 2 → ℕ) d ≤ (⟨2, ![R, C]⟩ : Shape).size d)
    {V : Type} {W : (⟨2, ![h, w]⟩ : Shape).Idx → V} {f f' : (⟨2, ![R, C]⟩ : Shape).Idx → V}
    (hi : ∀ x : (⟨2, ![h, w]⟩ : Shape).Idx, f' ((Rect.unit (s := ⟨2, ![R, C]⟩) off ![h, w] inb).emb x) = W x)
    (hn : ∀ x, x ∉ (Rect.unit (s := ⟨2, ![R, C]⟩) off ![h, w] inb).set → f' x = f x) : Upd a b W f f' := by
  intro x
  have hm := unit_mem ho inb x
  by_cases hx : (a ≤ (x 0).val ∧ (x 0).val < a + h) ∧ (b ≤ (x 1).val ∧ (x 1).val < b + w)
  · rw [if_pos hx, ← hi]
    congr 1
    rw [unit_emb ho inb]
    refine at2_of ?_ ?_
    · show _ = a + (((x 0).val - a) % h)
      rw [Nat.mod_eq_of_lt (by omega)]; omega
    · show _ = b + (((x 1).val - b) % w)
      rw [Nat.mod_eq_of_lt (by omega)]; omega
  · rw [if_neg hx]; exact hn x fun h => hx (hm.mp h)

end

section
variable {sig : RefSig} {Val : EltTy → Type}

/-- Inside the rectangle a store through a whole buffer leaves the stored value. -/
theorem write_in (b : Ref sig .tc) (r : Rect b.ty.shape) (f : b.ty.Contents Val) (w : r.shape.Idx → Val b.ty.elt) (x : r.shape.Idx) :
    ((Memref.whole b).access r).write Val f w Finset.univ (r.emb x) = w x := by
  have h := View.write_emb_of_mem (v := (Memref.whole b).access r) (Val := Val) f w (M := Finset.univ) (x := x) (Finset.mem_univ x)
  exact h

/-- Outside it the buffer is as it was. -/
theorem write_out (b : Ref sig .tc) (r : Rect b.ty.shape) (f : b.ty.Contents Val) (w : r.shape.Idx → Val b.ty.elt)
    {i : b.ty.Idx} (hi : i ∉ r.set) :
    ((Memref.whole b).access r).write Val f w Finset.univ i = f i :=
  View.write_of_not_mem f w _ (by
    rw [View.setOn_univ]
    have : ((Memref.whole b).access r).set = r.set := View.set_slice_whole b r
    rw [this]; exact hi)

end

section
open Idealize.SL Idealize.SL.RA Idealize.SL.BI
open scoped Idealize.SL.BI
open Idealize.SL.BI.BIBase Idealize.SL.BI.Laws Idealize.SL.ProofMode Idealize.SL.Sem
open Idealize.ShloMosaic.TcCoe

variable {nD : Nat} {τ : Topo} {sig : RefSig} {Ix : Type} [DecidableEq Ix]
variable {Val : EltTy → Type} {Name : Type} [DecidableEq Name] {U : Type} [URA U] {Lvl : Type} {Λ : Labels}
variable [Preorder Lvl] {defs : Defs nD τ sig Val Λ} (𝒱 : Variants) (c : Dev nD) (E : Set Name)
local notation "𝕄" => MT nD τ sig Ix Val Name U Lvl

/-- The vector-memory buffer number `i`. -/
abbrev vb (i : Fin (sig.nNear .tc .vmem)) (hi : sig.names .tc .vmem i = true) : Ref sig .tc := ⟨.vmem, i, hi⟩

/-- A load through a whole buffer, holding the elements it reads. -/
theorem load_at (i : Fin (sig.nNear .tc .vmem)) (hi : sig.names .tc .vmem i = true) {r : Rect (vb i hi).ty.shape}
    {hl : (Memref.whole (vb i hi)).view.LoadsAt r.toLoadRect} {α : Type}
    {k : (r.toLoadRect.shape.Idx → Val (vb i hi).ty.elt) → Prog (TpuEff nD τ sig Val Λ .tc) α} {Q : α → sProp 𝕄}
    {I : Finset (vb i hi).ty.Idx} {q : PosShare TreeShare} {f : (vb i hi).ty.Contents Val} (hS : r.set ⊆ I) :
    ((c : Thread nD τ).loc (vb i hi) ↦[I]{q} f : sProp 𝕄)
      ⊢ iprop((((c : Thread nD τ).loc (vb i hi) ↦[I]{q} f)
          -∗ wp frame (wpE defs 𝒱 (c : Thread nD τ) none) E (k ((Memref.whole (vb i hi)).view.readAt Val r.toLoadRect f)) Q)
      -∗ wp frame (wpE defs 𝒱 (c : Thread nD τ) none) E (.op (.load (Memref.whole (vb i hi)) r.toLoadRect hl) k) Q) := by
  have hS' : (Memref.whole (vb i hi)).view.setOn r.toLoadRect.set ⊆ I := by
    intro j hj
    obtain ⟨x, hx, rfl⟩ := Finset.mem_map.mp hj
    exact hS hx
  exact wp_load 𝒱 (c : Thread nD τ) none E (m := Memref.whole (vb i hi)) (r := r.toLoadRect) (S := I) (f := f) (q := q) hS'

/-- A store through a whole buffer, holding the elements it writes whole. -/
theorem store_at (i : Fin (sig.nNear .tc .vmem)) (hi : sig.names .tc .vmem i = true) {r : Rect (vb i hi).ty.shape}
    {w : r.shape.Idx → Val (vb i hi).ty.elt} {hx : ((Memref.whole (vb i hi)).access r).Stores Finset.univ} {hm} {α : Type}
    {k : PUnit → Prog (TpuEff nD τ sig Val Λ .tc) α} {Q : α → sProp 𝕄}
    {I : Finset (vb i hi).ty.Idx} {f : (vb i hi).ty.Contents Val} (hS : r.set ⊆ I) :
    ((c : Thread nD τ).loc (vb i hi) ↦[I]{fullShare} f : sProp 𝕄)
      ⊢ iprop((((c : Thread nD τ).loc (vb i hi) ↦[I]{fullShare} (((Memref.whole (vb i hi)).access r).write Val f w Finset.univ))
          -∗ wp frame (wpE defs 𝒱 (c : Thread nD τ) none) E (k ⟨⟩) Q)
      -∗ wp frame (wpE defs 𝒱 (c : Thread nD τ) none) E (.op (.store (Memref.whole (vb i hi)) r w Finset.univ hx hm) k) Q) := by
  have hS' : ((Memref.whole (vb i hi)).access r).setOn Finset.univ ⊆ I := by
    rw [View.setOn_univ]
    have : ((Memref.whole (vb i hi)).access r).set = r.set := View.set_slice_whole (vb i hi) r
    rw [this]; exact hS
  exact wp_store 𝒱 (c : Thread nD τ) none E (m := Memref.whole (vb i hi)) (r := r) (S := I) (f := f) hS'

end

end Cert.Grid2

end
-- ==== Proof.KernelIdealRun.Mem.lean ====
/-
The nine buffers one device's body works on, and what a load from or a store into each does to them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Grid2
public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.KernelIdeal.Run

open Cert.KernelIdeal Cert.KernelIdeal.Gen Cert.Grid2

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds' ghost state beside the pipeline's: a barrier round has three duties, one per neighbour. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` holds share `q` of the elements `I` of its buffer `b`, with contents `f`. -/
abbrev At (c : Dev nD) (b : Ref sig .tc) (I : Finset b.ty.Idx) (q : PosShare TreeShare) (f : b.ty.Contents (Elt F)) : sProp 𝕄 :=
  ((c : Thread nD τ).loc b) ↦[I]{q} f

/-! ## The body's buffers -/

abbrev qR : Ref sig .tc := cc0_stg0_0
abbrev kR : Ref sig .tc := cc0_stg1_0
abbrev vR : Ref sig .tc := cc0_stg2_0
abbrev oR : Ref sig .tc := cc0_stg3_0
abbrev sR : Ref sig .tc := cc0_scratch0
abbrev rR : Ref sig .tc := cc0_scratch1
abbrev bR : Ref sig .tc := cc0_scratch2
abbrev aR : Ref sig .tc := cc0_scratch3
abbrev lR : Ref sig .tc := cc0_scratch4

/-- Contents of a 512 × 512 array of f32, of bf16; of a 1024 × 512 array of bf16; of a 512 × 8 array of f32. -/
abbrev CF (F : FTy → Type) [FloatOps F] : Type := S512x512.Idx → Elt F .f32
abbrev CB (F : FTy → Type) [FloatOps F] : Type := S512x512.Idx → Elt F .bf16
abbrev CK (F : FTy → Type) [FloatOps F] : Type := S1024x512.Idx → Elt F .bf16
abbrev CL (F : FTy → Type) [FloatOps F] : Type := S512x8.Idx → Elt F .f32

/-- What the body holds of its buffers: the staged Q, K, V and output, the two exchange buffers in part, and the
    three accumulators. -/
def H (c : Dev nD) (fq fk fv fo : CF F) (Is : Finset S1024x512.Idx) (qs : PosShare TreeShare) (fs : CK F)
    (Ir : Finset S1024x512.Idx) (qr : PosShare TreeShare) (fr : CK F) (fb : CB F) (fa : CF F) (fl : CL F) : sProp 𝕄 :=
  iprop(At c qR Finset.univ fullShare fq ∗ At c kR Finset.univ fullShare fk ∗ At c vR Finset.univ fullShare fv
    ∗ At c oR Finset.univ fullShare fo ∗ At c sR Is qs fs ∗ At c rR Ir qr fr
    ∗ At c bR Finset.univ fullShare fb ∗ At c aR Finset.univ fullShare fa ∗ At c lR Finset.univ fullShare fl)

section Steps

variable {c : Dev nD} {fq fk fv fo : CF F} {Is : Finset S1024x512.Idx} {qs : PosShare TreeShare} {fs : CK F}
variable {Ir : Finset S1024x512.Idx} {qr : PosShare TreeShare} {fr : CK F} {fb : CB F} {fa : CF F} {fl : CL F}
variable {R : sProp (MT nD τ sig Unit (Elt F) ℕ UU ℕ)} {α : Type} {Q : α → sProp (MT nD τ sig Unit (Elt F) ℕ UU ℕ)}

/-- A block of `qR` read at `![a, b]`. -/
theorem ld_q {h w a b : ℕ} {off : Fin 2 → ℕ} (ho : off = ![a, b])
    {inb : ∀ d, off d + (![h, w] : Fin 2 → ℕ) d ≤ S512x512.size d} {hl}
    {k : ((⟨2, ![h, w]⟩ : Shape).Idx → Elt F .f32) → Prog (TpuEff nD τ sig (Elt F) Λ₀ .tc) α}
    (hk : iprop(H c fq fk fv fo Is qs fs Ir qr fr fb fa fl ∗ R) ⊢ WP c (k (blk h w a b fq)) Q) :
    iprop(H c fq fk fv fo Is qs fs Ir qr fr fb fa fl ∗ R)
      ⊢ WP c (.op (.load (Memref.whole qR) (Rect.unit (s := S512x512) off ![h, w] inb).toLoadRect hl) k) Q := by
  have e : (Memref.whole qR).view.readAt (Elt F) (Rect.unit (s := S512x512) off ![h, w] inb).toLoadRect fq = blk h w a b fq :=
    funext fun x => congrArg fq (unit_emb ho inb x)
  rw [← e] at hk
  unfold H at hk ⊢
  iintro ⟨⟨Hq, Hk, Hv, Ho, Hs, Hr, Hb, Ha, Hl⟩, HR⟩
  iapply (load_at 𝒱₀ c Set.univ 0 rfl (r := Rect.unit (s := S512x512) off ![h, w] inb) (f := fq) (Finset.subset_univ _)) $$ Hq
  iintro Hq
  iapply hk
  isplitr [HR]
  · iframe
  · iexact HR

/-- A block of `kR` read at `![a, b]`. -/
theorem ld_k {h w a b : ℕ} {off : Fin 2 → ℕ} (ho : off = ![a, b])
    {inb : ∀ d, off d + (![h, w] : Fin 2 → ℕ) d ≤ S512x512.size d} {hl}
    {k : ((⟨2, ![h, w]⟩ : Shape).Idx → Elt F .f32) → Prog (TpuEff nD τ sig (Elt F) Λ₀ .tc) α}
    (hk : iprop(H c fq fk fv fo Is qs fs Ir qr fr fb fa fl ∗ R) ⊢ WP c (k (blk h w a b fk)) Q) :
    iprop(H c fq fk fv fo Is qs fs Ir qr fr fb fa fl ∗ R)
      ⊢ WP c (.op (.load (Memref.whole kR) (Rect.unit (s := S512x512) off ![h, w] inb).toLoadRect hl) k) Q := by
  have e : (Memref.whole kR).view.readAt (Elt F) (Rect.unit (s := S512x512) off ![h, w] inb).toLoadRect fk = blk h w a b fk :=
    funext fun x => congrArg fk (unit_emb ho inb x)
  rw [← e] at hk
  unfold H at hk ⊢
  iintro ⟨⟨Hq, Hk, Hv, Ho, Hs, Hr, Hb, Ha, Hl⟩, HR⟩
  iapply (load_at 𝒱₀ c Set.univ 1 rfl (r := Rect.unit (s := S512x512) off ![h, w] inb) (f := fk) (Finset.subset_univ _)) $$ Hk
  iintro Hk
  iapply hk
  isplitr [HR]
  · iframe
  · iexact HR

/-- A block of `vR` read at `![a, b]`. -/
theorem ld_v {h w a b : ℕ} {off : Fin 2 → ℕ} (ho : off = ![a, b])
    {inb : ∀ d, off d + (![h, w] : Fin 2 → ℕ) d ≤ S512x512.size d} {hl}
    {k : ((⟨2, ![h, w]⟩ : Shape).Idx → Elt F .f32) → Prog (TpuEff nD τ sig (Elt F) Λ₀ .tc) α}
    (hk : iprop(H c fq fk fv fo Is qs fs Ir qr fr fb fa fl ∗ R) ⊢ WP c (k (blk h w a b fv)) Q) :
    iprop(H c fq fk fv fo Is qs fs Ir qr fr fb fa fl ∗ R)
      ⊢ WP c (.op (.load (Memref.whole vR) (Rect.unit (s := S512x512) off ![h, w] inb).toLoadRect hl) k) Q := by
  have e : (Memref.whole vR).view.readAt (Elt F) (Rect.unit (s := S512x512) off ![h, w] inb).toLoadRect fv = blk h w a b fv :=
    funext fun x => congrArg fv (unit_emb ho inb x)
  rw [← e] at hk
  unfold H at hk ⊢
  iintro ⟨⟨Hq, Hk, Hv, Ho, Hs, Hr, Hb, Ha, Hl⟩, HR⟩
  iapply (load_at 𝒱₀ c Set.univ 2 rfl (r := Rect.unit (s := S512x512) off ![h, w] inb) (f := fv) (Finset.subset_univ _)) $$ Hv
  iintro Hv
  iapply hk
  isplitr [HR]
  · iframe
  · iexact HR

/-- A block of `oR` read at `![a, b]`. -/
theorem ld_o {h w a b : ℕ} {off : Fin 2 → ℕ} (ho : off = ![a, b])
    {inb : ∀ d, off d + (![h, w] : Fin 2 → ℕ) d ≤ S512x512.size d} {hl}
    {k : ((⟨2, ![h, w]⟩ : Shape).Idx → Elt F .f32) → Prog (TpuEff nD τ sig (Elt F) Λ₀ .tc) α}
    (hk : iprop(H c fq fk fv fo Is qs fs Ir qr fr fb fa fl ∗ R) ⊢ WP c (k (blk h w a b fo)) Q) :
    iprop(H c fq fk fv fo Is qs fs Ir qr fr fb fa fl ∗ R)
      ⊢ WP c (.op (.load (Memref.whole oR) (Rect.unit (s := S512x512) off ![h, w] inb).toLoadRect hl) k) Q := by
  have e : (Memref.whole oR).view.readAt (Elt F) (Rect.unit (s := S512x512) off ![h, w] inb).toLoadRect fo = blk h w a b fo :=
    funext fun x => congrArg fo (unit_emb ho inb x)
  rw [← e] at hk
  unfold H at hk ⊢
  iintro ⟨⟨Hq, Hk, Hv, Ho, Hs, Hr, Hb, Ha, Hl⟩, HR⟩
  iapply (load_at 𝒱₀ c Set.univ 3 rfl (r := Rect.unit (s := S512x512) off ![h, w] inb) (f := fo) (Finset.subset_univ _)) $$ Ho
  iintro Ho
  iapply hk
  isplitr [HR]
  · iframe
  · iexact HR

/-- A block of `sR` read at `![a, b]`. -/
theorem ld_s {h w a b : ℕ} {off : Fin 2 → ℕ} (ho : off = ![a, b]) (hS : ∀ x : S1024x512.Idx, a ≤ (x 0).val → (x 0).val < a + h → x ∈ Is)
    {inb : ∀ d, off d + (![h, w] : Fin 2 → ℕ) d ≤ S1024x512.size d} {hl}
    {k : ((⟨2, ![h, w]⟩ : Shape).Idx → Elt F .bf16) → Prog (TpuEff nD τ sig (Elt F) Λ₀ .tc) α}
    (hk : iprop(H c fq fk fv fo Is qs fs Ir qr fr fb fa fl ∗ R) ⊢ WP c (k (blk h w a b fs)) Q) :
    iprop(H c fq fk fv fo Is qs fs Ir qr fr fb fa fl ∗ R)
      ⊢ WP c (.op (.load (Memref.whole sR) (Rect.unit (s := S1024x512) off ![h, w] inb).toLoadRect hl) k) Q := by
  have e : (Memref.whole sR).view.readAt (Elt F) (Rect.unit (s := S1024x512) off ![h, w] inb).toLoadRect fs = blk h w a b fs :=
    funext fun x => congrArg fs (unit_emb ho inb x)
  rw [← e] at hk
  unfold H at hk ⊢
  iintro ⟨⟨Hq, Hk, Hv, Ho, Hs, Hr, Hb, Ha, Hl⟩, HR⟩
  iapply (load_at 𝒱₀ c Set.univ 4 rfl (r := Rect.unit (s := S1024x512) off ![h, w] inb) (f := fs) (fun x hx => hS x ((unit_mem ho inb x).mp hx).1.1 ((unit_mem ho inb x).mp hx).1.2)) $$ Hs
  iintro Hs
  iapply hk
  isplitr [HR]
  · iframe
  · iexact HR

/-- A block of `rR` read at `![a, b]`. -/
theorem ld_r {h w a b : ℕ} {off : Fin 2 → ℕ} (ho : off = ![a, b]) (hS : ∀ x : S1024x512.Idx, a ≤ (x 0).val → (x 0).val < a + h → x ∈ Ir)
    {inb : ∀ d, off d + (![h, w] : Fin 2 → ℕ) d ≤ S1024x512.size d} {hl}
    {k : ((⟨2, ![h, w]⟩ : Shape).Idx → Elt F .bf16) → Prog (TpuEff nD τ sig (Elt F) Λ₀ .tc) α}
    (hk : iprop(H c fq fk fv fo Is qs fs Ir qr fr fb fa fl ∗ R) ⊢ WP c (k (blk h w a b fr)) Q) :
    iprop(H c fq fk fv fo Is qs fs Ir qr fr fb fa fl ∗ R)
      ⊢ WP c (.op (.load (Memref.whole rR) (Rect.unit (s := S1024x512) off ![h, w] inb).toLoadRect hl) k) Q := by
  have e : (Memref.whole rR).view.readAt (Elt F) (Rect.unit (s := S1024x512) off ![h, w] inb).toLoadRect fr = blk h w a b fr :=
    funext fun x => congrArg fr (unit_emb ho inb x)
  rw [← e] at hk
  unfold H at hk ⊢
  iintro ⟨⟨Hq, Hk, Hv, Ho, Hs, Hr, Hb, Ha, Hl⟩, HR⟩
  iapply (load_at 𝒱₀ c Set.univ 5 rfl (r := Rect.unit (s := S1024x512) off ![h, w] inb) (f := fr) (fun x hx => hS x ((unit_mem ho inb x).mp hx).1.1 ((unit_mem ho inb x).mp hx).1.2)) $$ Hr
  iintro Hr
  iapply hk
  isplitr [HR]
  · iframe
  · iexact HR

/-- A block of `bR` read at `![a, b]`. -/
theorem ld_b {h w a b : ℕ} {off : Fin 2 → ℕ} (ho : off = ![a, b])
    {inb : ∀ d, off d + (![h, w] : Fin 2 → ℕ) d ≤ S512x512.size d} {hl}
    {k : ((⟨2, ![h, w]⟩ : Shape).Idx → Elt F .bf16) → Prog (TpuEff nD τ sig (Elt F) Λ₀ .tc) α}
    (hk : iprop(H c fq fk fv fo Is qs fs Ir qr fr fb fa fl ∗ R) ⊢ WP c (k (blk h w a b fb)) Q) :
    iprop(H c fq fk fv fo Is qs fs Ir qr fr fb fa fl ∗ R)
      ⊢ WP c (.op (.load (Memref.whole bR) (Rect.unit (s := S512x512) off ![h, w] inb).toLoadRect hl) k) Q := by
  have e : (Memref.whole bR).view.readAt (Elt F) (Rect.unit (s := S512x512) off ![h, w] inb).toLoadRect fb = blk h w a b fb :=
    funext fun x => congrArg fb (unit_emb ho inb x)
  rw [← e] at hk
  unfold H at hk ⊢
  iintro ⟨⟨Hq, Hk, Hv, Ho, Hs, Hr, Hb, Ha, Hl⟩, HR⟩
  iapply (load_at 𝒱₀ c Set.univ 6 rfl (r := Rect.unit (s := S512x512) off ![h, w] inb) (f := fb) (Finset.subset_univ _)) $$ Hb
  iintro Hb
  iapply hk
  isplitr [HR]
  · iframe
  · iexact HR

/-- A block of `aR` read at `![a, b]`. -/
theorem ld_a {h w a b : ℕ} {off : Fin 2 → ℕ} (ho : off = ![a, b])
    {inb : ∀ d, off d + (![h, w] : Fin 2 → ℕ) d ≤ S512x512.size d} {hl}
    {k : ((⟨2, ![h, w]⟩ : Shape).Idx → Elt F .f32) → Prog (TpuEff nD τ sig (Elt F) Λ₀ .tc) α}
    (hk : iprop(H c fq fk fv fo Is qs fs Ir qr fr fb fa fl ∗ R) ⊢ WP c (k (blk h w a b fa)) Q) :
    iprop(H c fq fk fv fo Is qs fs Ir qr fr fb fa fl ∗ R)
      ⊢ WP c (.op (.load (Memref.whole aR) (Rect.unit (s := S512x512) off ![h, w] inb).toLoadRect hl) k) Q := by
  have e : (Memref.whole aR).view.readAt (Elt F) (Rect.unit (s := S512x512) off ![h, w] inb).toLoadRect fa = blk h w a b fa :=
    funext fun x => congrArg fa (unit_emb ho inb x)
  rw [← e] at hk
  unfold H at hk ⊢
  iintro ⟨⟨Hq, Hk, Hv, Ho, Hs, Hr, Hb, Ha, Hl⟩, HR⟩
  iapply (load_at 𝒱₀ c Set.univ 7 rfl (r := Rect.unit (s := S512x512) off ![h, w] inb) (f := fa) (Finset.subset_univ _)) $$ Ha
  iintro Ha
  iapply hk
  isplitr [HR]
  · iframe
  · iexact HR

/-- A block of `lR` read at `![a, b]`. -/
theorem ld_l {h w a b : ℕ} {off : Fin 2 → ℕ} (ho : off = ![a, b])
    {inb : ∀ d, off d + (![h, w] : Fin 2 → ℕ) d ≤ S512x8.size d} {hl}
    {k : ((⟨2, ![h, w]⟩ : Shape).Idx → Elt F .f32) → Prog (TpuEff nD τ sig (Elt F) Λ₀ .tc) α}
    (hk : iprop(H c fq fk fv fo Is qs fs Ir qr fr fb fa fl ∗ R) ⊢ WP c (k (blk h w a b fl)) Q) :
    iprop(H c fq fk fv fo Is qs fs Ir qr fr fb fa fl ∗ R)
      ⊢ WP c (.op (.load (Memref.whole lR) (Rect.unit (s := S512x8) off ![h, w] inb).toLoadRect hl) k) Q := by
  have e : (Memref.whole lR).view.readAt (Elt F) (Rect.unit (s := S512x8) off ![h, w] inb).toLoadRect fl = blk h w a b fl :=
    funext fun x => congrArg fl (unit_emb ho inb x)
  rw [← e] at hk
  unfold H at hk ⊢
  iintro ⟨⟨Hq, Hk, Hv, Ho, Hs, Hr, Hb, Ha, Hl⟩, HR⟩
  iapply (load_at 𝒱₀ c Set.univ 8 rfl (r := Rect.unit (s := S512x8) off ![h, w] inb) (f := fl) (Finset.subset_univ _)) $$ Hl
  iintro Hl
  iapply hk
  isplitr [HR]
  · iframe
  · iexact HR

/-- A block of `oR` written at `![a, b]`. -/
theorem st_o {h w a b : ℕ} [NeZero h] [NeZero w] {off : Fin 2 → ℕ} (ho : off = ![a, b])
    {inb : ∀ d, off d + (![h, w] : Fin 2 → ℕ) d ≤ S512x512.size d} {W : (⟨2, ![h, w]⟩ : Shape).Idx → Elt F .f32} {hx hm}
    {k : PUnit → Prog (TpuEff nD τ sig (Elt F) Λ₀ .tc) α}
    (hk : ∀ f', Upd a b W fo f' → iprop(H c fq fk fv f' Is qs fs Ir qr fr fb fa fl ∗ R) ⊢ WP c (k ⟨⟩) Q) :
    iprop(H c fq fk fv fo Is qs fs Ir qr fr fb fa fl ∗ R)
      ⊢ WP c (.op (.store (Memref.whole oR) (Rect.unit (s := S512x512) off ![h, w] inb) W Finset.univ hx hm) k) Q := by
  have hk := hk (((Memref.whole oR).access (Rect.unit (s := oR.ty.shape) off ![h, w] inb)).write (Elt F) fo W Finset.univ)
    (upd_of ho inb (fun x => write_in oR (Rect.unit (s := oR.ty.shape) off ![h, w] inb) fo W x)
      (fun x hx => write_out oR (Rect.unit (s := oR.ty.shape) off ![h, w] inb) fo W hx))
  unfold H at hk ⊢
  iintro ⟨⟨Hq, Hk, Hv, Ho, Hs, Hr, Hb, Ha, Hl⟩, HR⟩
  iapply (store_at 𝒱₀ c Set.univ 3 rfl (r := Rect.unit (s := S512x512) off ![h, w] inb) (f := fo) (Finset.subset_univ _)) $$ Ho
  iintro Ho
  iapply hk
  isplitr [HR]
  · iframe
  · iexact HR

/-- A block of `sR` written at `![a, b]`. -/
theorem st_s {h w a b : ℕ} [NeZero h] [NeZero w] {off : Fin 2 → ℕ} (ho : off = ![a, b]) (hS : ∀ x : S1024x512.Idx, a ≤ (x 0).val → (x 0).val < a + h → x ∈ Is)
    {inb : ∀ d, off d + (![h, w] : Fin 2 → ℕ) d ≤ S1024x512.size d} {W : (⟨2, ![h, w]⟩ : Shape).Idx → Elt F .bf16} {hx hm}
    {k : PUnit → Prog (TpuEff nD τ sig (Elt F) Λ₀ .tc) α}
    (hk : ∀ f', Upd a b W fs f' → iprop(H c fq fk fv fo Is fullShare f' Ir qr fr fb fa fl ∗ R) ⊢ WP c (k ⟨⟩) Q) :
    iprop(H c fq fk fv fo Is fullShare fs Ir qr fr fb fa fl ∗ R)
      ⊢ WP c (.op (.store (Memref.whole sR) (Rect.unit (s := S1024x512) off ![h, w] inb) W Finset.univ hx hm) k) Q := by
  have hk := hk (((Memref.whole sR).access (Rect.unit (s := sR.ty.shape) off ![h, w] inb)).write (Elt F) fs W Finset.univ)
    (upd_of ho inb (fun x => write_in sR (Rect.unit (s := sR.ty.shape) off ![h, w] inb) fs W x)
      (fun x hx => write_out sR (Rect.unit (s := sR.ty.shape) off ![h, w] inb) fs W hx))
  unfold H at hk ⊢
  iintro ⟨⟨Hq, Hk, Hv, Ho, Hs, Hr, Hb, Ha, Hl⟩, HR⟩
  iapply (store_at 𝒱₀ c Set.univ 4 rfl (r := Rect.unit (s := S1024x512) off ![h, w] inb) (f := fs) (fun x hx => hS x ((unit_mem ho inb x).mp hx).1.1 ((unit_mem ho inb x).mp hx).1.2)) $$ Hs
  iintro Hs
  iapply hk
  isplitr [HR]
  · iframe
  · iexact HR

/-- A block of `bR` written at `![a, b]`. -/
theorem st_b {h w a b : ℕ} [NeZero h] [NeZero w] {off : Fin 2 → ℕ} (ho : off = ![a, b])
    {inb : ∀ d, off d + (![h, w] : Fin 2 → ℕ) d ≤ S512x512.size d} {W : (⟨2, ![h, w]⟩ : Shape).Idx → Elt F .bf16} {hx hm}
    {k : PUnit → Prog (TpuEff nD τ sig (Elt F) Λ₀ .tc) α}
    (hk : ∀ f', Upd a b W fb f' → iprop(H c fq fk fv fo Is qs fs Ir qr fr f' fa fl ∗ R) ⊢ WP c (k ⟨⟩) Q) :
    iprop(H c fq fk fv fo Is qs fs Ir qr fr fb fa fl ∗ R)
      ⊢ WP c (.op (.store (Memref.whole bR) (Rect.unit (s := S512x512) off ![h, w] inb) W Finset.univ hx hm) k) Q := by
  have hk := hk (((Memref.whole bR).access (Rect.unit (s := bR.ty.shape) off ![h, w] inb)).write (Elt F) fb W Finset.univ)
    (upd_of ho inb (fun x => write_in bR (Rect.unit (s := bR.ty.shape) off ![h, w] inb) fb W x)
      (fun x hx => write_out bR (Rect.unit (s := bR.ty.shape) off ![h, w] inb) fb W hx))
  unfold H at hk ⊢
  iintro ⟨⟨Hq, Hk, Hv, Ho, Hs, Hr, Hb, Ha, Hl⟩, HR⟩
  iapply (store_at 𝒱₀ c Set.univ 6 rfl (r := Rect.unit (s := S512x512) off ![h, w] inb) (f := fb) (Finset.subset_univ _)) $$ Hb
  iintro Hb
  iapply hk
  isplitr [HR]
  · iframe
  · iexact HR

/-- A block of `aR` written at `![a, b]`. -/
theorem st_a {h w a b : ℕ} [NeZero h] [NeZero w] {off : Fin 2 → ℕ} (ho : off = ![a, b])
    {inb : ∀ d, off d + (![h, w] : Fin 2 → ℕ) d ≤ S512x512.size d} {W : (⟨2, ![h, w]⟩ : Shape).Idx → Elt F .f32} {hx hm}
    {k : PUnit → Prog (TpuEff nD τ sig (Elt F) Λ₀ .tc) α}
    (hk : ∀ f', Upd a b W fa f' → iprop(H c fq fk fv fo Is qs fs Ir qr fr fb f' fl ∗ R) ⊢ WP c (k ⟨⟩) Q) :
    iprop(H c fq fk fv fo Is qs fs Ir qr fr fb fa fl ∗ R)
      ⊢ WP c (.op (.store (Memref.whole aR) (Rect.unit (s := S512x512) off ![h, w] inb) W Finset.univ hx hm) k) Q := by
  have hk := hk (((Memref.whole aR).access (Rect.unit (s := aR.ty.shape) off ![h, w] inb)).write (Elt F) fa W Finset.univ)
    (upd_of ho inb (fun x => write_in aR (Rect.unit (s := aR.ty.shape) off ![h, w] inb) fa W x)
      (fun x hx => write_out aR (Rect.unit (s := aR.ty.shape) off ![h, w] inb) fa W hx))
  unfold H at hk ⊢
  iintro ⟨⟨Hq, Hk, Hv, Ho, Hs, Hr, Hb, Ha, Hl⟩, HR⟩
  iapply (store_at 𝒱₀ c Set.univ 7 rfl (r := Rect.unit (s := S512x512) off ![h, w] inb) (f := fa) (Finset.subset_univ _)) $$ Ha
  iintro Ha
  iapply hk
  isplitr [HR]
  · iframe
  · iexact HR

/-- A block of `lR` written at `![a, b]`. -/
theorem st_l {h w a b : ℕ} [NeZero h] [NeZero w] {off : Fin 2 → ℕ} (ho : off = ![a, b])
    {inb : ∀ d, off d + (![h, w] : Fin 2 → ℕ) d ≤ S512x8.size d} {W : (⟨2, ![h, w]⟩ : Shape).Idx → Elt F .f32} {hx hm}
    {k : PUnit → Prog (TpuEff nD τ sig (Elt F) Λ₀ .tc) α}
    (hk : ∀ f', Upd a b W fl f' → iprop(H c fq fk fv fo Is qs fs Ir qr fr fb fa f' ∗ R) ⊢ WP c (k ⟨⟩) Q) :
    iprop(H c fq fk fv fo Is qs fs Ir qr fr fb fa fl ∗ R)
      ⊢ WP c (.op (.store (Memref.whole lR) (Rect.unit (s := S512x8) off ![h, w] inb) W Finset.univ hx hm) k) Q := by
  have hk := hk (((Memref.whole lR).access (Rect.unit (s := lR.ty.shape) off ![h, w] inb)).write (Elt F) fl W Finset.univ)
    (upd_of ho inb (fun x => write_in lR (Rect.unit (s := lR.ty.shape) off ![h, w] inb) fl W x)
      (fun x hx => write_out lR (Rect.unit (s := lR.ty.shape) off ![h, w] inb) fl W hx))
  unfold H at hk ⊢
  iintro ⟨⟨Hq, Hk, Hv, Ho, Hs, Hr, Hb, Ha, Hl⟩, HR⟩
  iapply (store_at 𝒱₀ c Set.univ 8 rfl (r := Rect.unit (s := S512x8) off ![h, w] inb) (f := fl) (Finset.subset_univ _)) $$ Hl
  iintro Hl
  iapply hk
  isplitr [HR]
  · iframe
  · iexact HR

end Steps

end Cert.KernelIdeal.Run

end
-- ==== Proof.KernelIdealRun.Phases.lean ====
/-
The body's four computing phases — the cast of K and V to bf16, the attention of every head to the device's own
keys, the contribution of a quarter of the neighbour's keys, and the final division — as what each leaves in its
buffers and the rules that step the body through it.
-/
module

public import proofs.«01_k».proof.Proof.KernelIdealRun.Mem

@[expose] public section

noncomputable section

namespace Cert.KernelIdeal.Run

open Cert.KernelIdeal Cert.KernelIdeal.Gen Cert.Grid2

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The quarters of the rows, by the device's place -/

/-- The quarter a device sends first and forwards: `(y mod 2) + 2 (z mod 2)`. -/
def om (c : Dev nD) : ℕ := c.val / 4 % 4 % 2 + 2 * (c.val % 4 % 2)
/-- The quarter it sends second. -/
def od (c : Dev nD) : ℕ := 3 - om c
/-- The quarter that reaches it from its neighbour along `y`, and along `z`. -/
def oy (c : Dev nD) : ℕ := 1 - c.val / 4 % 4 % 2 + 2 * (c.val % 4 % 2)
def oz (c : Dev nD) : ℕ := c.val / 4 % 4 % 2 + 2 * (1 - c.val % 4 % 2)

/-- The quarters in the order they are cast. -/
def qt (c : Dev nD) (i : ℕ) : ℕ := if i = 0 then om c else if i = 1 then od c else if i = 2 then oy c else oz c

/-- The first row of the exchange buffer the `u`-th cast writes: K's chunks lie in rows 0–511, V's in rows 512–1023. -/
def rowA (c : Dev nD) (u : ℕ) : ℕ := 128 * qt c (u / 4) + 64 * (u / 2 % 2) + 512 * (u % 2)

theorem qt_lt (c : Dev nD) (i : ℕ) : qt c i < 4 := by
  have h : ∀ c : Dev nD, om c < 4 ∧ od c < 4 ∧ oy c < 4 ∧ oz c < 4 := by decide
  obtain ⟨h0, h1, h2, h3⟩ := h c
  unfold qt; split_ifs <;> assumption

theorem rowA_of (c : Dev nD) (i t s : ℕ) (ht : t < 2) (hs : s < 2) : rowA c (4 * i + 2 * t + s) = 128 * qt c i + 64 * t + 512 * s := by
  unfold rowA
  rw [show (4 * i + 2 * t + s) / 4 = i by omega, show (4 * i + 2 * t + s) / 2 % 2 = t by omega,
    show (4 * i + 2 * t + s) % 2 = s by omega]

theorem qt_surj (c : Dev nD) (q : ℕ) (hq : q < 4) : ∃ i, i < 4 ∧ qt c i = q := by
  have h : ∀ c : Dev nD, ∀ q : Fin 4, ∃ i : Fin 4, qt c i.val = q.val := by decide
  obtain ⟨i, hi⟩ := h c ⟨q, hq⟩
  exact ⟨i.val, i.isLt, hi⟩

/-- The rows of quarter `q`: K's and V's. -/
def qset (q : ℕ) : Finset S1024x512.Idx := Finset.univ.filter fun x => (x 0).val % 512 / 128 = q

theorem mem_qset {q : ℕ} {x : S1024x512.Idx} : x ∈ qset q ↔ (x 0).val % 512 / 128 = q := by simp [qset]

/-! ## The cast -/

/-- The device's own K and V, cast to bf16. -/
def kvSend (fk fv : CF F) : CK F := fun x =>
  k0_pay1 (blk 64 512 ((x 0).val % 512 / 64 * 64) 0 (if (x 0).val < 512 then fk else fv)) (at2 64 512 ((x 0).val % 64) (x 1).val)

/-- After `u` casts the rows they wrote hold K's and V's. -/
def PC (c : Dev nD) (fk fv : CF F) (u : ℕ) (f : CK F) : Prop :=
  ∀ u' < u, ∀ x, rowA c u' ≤ (x 0).val → (x 0).val < rowA c u' + 64 → f x = kvSend fk fv x

theorem PC_zero (c : Dev nD) (fk fv : CF F) (f : CK F) : PC c fk fv 0 f := fun u' hu => absurd hu (Nat.not_lt_zero _)

theorem PC_step {c : Dev nD} {fk fv : CF F} {u : ℕ} {f f' : CK F} (h : PC c fk fv u f)
    (hu : Upd (h := 64) (w := 512) (rowA c u) 0 (k0_pay1 (blk 64 512 (rowA c u % 512) 0 (if u % 2 = 0 then fk else fv))) f f') :
    PC c fk fv (u + 1) f' := by
  intro u' hu' x h0 h1
  rw [hu x]
  have hx1 : (x 1).val < 512 := lt1 x
  have hx0 : (x 0).val < 1024 := lt0 x
  have hq := qt_lt c (u / 4)
  have hr : rowA c u = 128 * qt c (u / 4) + 64 * (u / 2 % 2) + 512 * (u % 2) := rfl
  generalize qt c (u / 4) = q at hr hq
  by_cases hi : (rowA c u ≤ (x 0).val ∧ (x 0).val < rowA c u + 64) ∧ 0 ≤ (x 1).val ∧ (x 1).val < 0 + 512
  · rw [if_pos hi]
    have e1 : (x 0).val % 512 / 64 * 64 = rowA c u % 512 := by omega
    have e2 : (x 0).val % 64 = (x 0).val - rowA c u := by omega
    have e3 : (if (x 0).val < 512 then fk else fv) = (if u % 2 = 0 then fk else fv) := by
      congr 1; exact propext (by omega)
    unfold kvSend
    rw [e1, e2, e3]; rfl
  · rw [if_neg hi]
    have hne : u' ≠ u := by rintro rfl; exact hi ⟨⟨h0, h1⟩, Nat.zero_le _, by omega⟩
    exact h u' (by omega) x h0 h1

/-- After all sixteen the buffer is the cast of K and V. -/
theorem PC_all {c : Dev nD} {fk fv : CF F} {f : CK F} (h : PC c fk fv 16 f) : f = kvSend fk fv := by
  funext x
  have hx0 : (x 0).val < 1024 := lt0 x
  obtain ⟨i, hi, hq⟩ := qt_surj c ((x 0).val % 512 / 128) (by omega)
  refine h (4 * i + 2 * ((x 0).val % 128 / 64) + (x 0).val / 512) (by omega) x ?_ ?_ <;>
  · rw [rowA_of c i _ _ (by omega) (by omega), hq]
    omega

/-- After eight, on the two quarters it sends. -/
theorem PC_half {c : Dev nD} {fk fv : CF F} {f : CK F} (h : PC c fk fv 8 f) {x : S1024x512.Idx}
    (hx : x ∈ qset (om c) ∨ x ∈ qset (od c)) : f x = kvSend fk fv x := by
  have hx0 : (x 0).val < 1024 := lt0 x
  rw [mem_qset, mem_qset] at hx
  obtain ⟨i, hi, hq⟩ : ∃ i, i < 2 ∧ qt c i = (x 0).val % 512 / 128 := by
    rcases hx with hx | hx
    · exact ⟨0, by omega, hx.symm⟩
    · exact ⟨1, by omega, hx.symm⟩
  refine h (4 * i + 2 * ((x 0).val % 128 / 64) + (x 0).val / 512) (by omega) x ?_ ?_ <;>
  · rw [rowA_of c i _ _ (by omega) (by omega), hq]
    omega

/-! ## Every head on the device's own keys -/

/-- Row sums of the exponentials of the scores: batch `x 0 / 256`, head `x 1`. -/
def lLoc (fb : CB F) (fs : CK F) : CL F := fun x =>
  k0_pay27 (blk 256 64 (256 * ((x 0).val / 256)) (64 * (x 1).val) fb) (blk 256 64 (256 * ((x 0).val / 256)) (64 * (x 1).val) fs)
    (at2 256 1 ((x 0).val % 256) 0)

/-- The exponentials times V: batch `x 0 / 256`, head `x 1 / 64`. -/
def oLoc (fb : CB F) (fs : CK F) : CF F := fun x =>
  k0_pay28 (blk 256 64 (256 * ((x 0).val / 256)) (64 * ((x 1).val / 64)) fb)
    (blk 256 64 (256 * ((x 0).val / 256)) (64 * ((x 1).val / 64)) fs)
    (blk 256 64 (512 + 256 * ((x 0).val / 256)) (64 * ((x 1).val / 64)) fs)
    (at2 256 64 ((x 0).val % 256) ((x 1).val % 64))

/-- The first `n` of the sixteen (batch, head) pairs are done. -/
def PL (fb : CB F) (fs : CK F) (n : ℕ) (l : CL F) : Prop :=
  ∀ x, 8 * ((x 0).val / 256) + (x 1).val < n → l x = lLoc fb fs x
def PO (fb : CB F) (fs : CK F) (n : ℕ) (o : CF F) : Prop :=
  ∀ x, 8 * ((x 0).val / 256) + (x 1).val / 64 < n → o x = oLoc fb fs x

theorem PL_zero (fb : CB F) (fs : CK F) (l : CL F) : PL fb fs 0 l := fun x h => absurd h (Nat.not_lt_zero _)
theorem PO_zero (fb : CB F) (fs : CK F) (o : CF F) : PO fb fs 0 o := fun x h => absurd h (Nat.not_lt_zero _)

theorem PL_step {fb : CB F} {fs : CK F} {n : ℕ} {l l' : CL F} (h : PL fb fs n l)
    (hu : Upd (h := 256) (w := 1) (256 * (n / 8)) (n % 8)
      (k0_pay27 (blk 256 64 (256 * (n / 8)) (64 * (n % 8)) fb) (blk 256 64 (256 * (n / 8)) (64 * (n % 8)) fs)) l l') :
    PL fb fs (n + 1) l' := by
  intro x hx
  rw [hu x]
  have hx0 : (x 0).val < 512 := lt0 x
  have hx1 : (x 1).val < 8 := lt1 x
  split_ifs with hi
  · have e1 : (x 0).val / 256 = n / 8 := by omega
    have e2 : (x 1).val = n % 8 := by omega
    have e3 : (x 0).val % 256 = (x 0).val - 256 * (n / 8) := by omega
    unfold lLoc
    rw [e1, e2, e3, Nat.sub_self]
  · exact h x (by omega)

theorem PO_step {fb : CB F} {fs : CK F} {n : ℕ} {o o' : CF F} (h : PO fb fs n o)
    (hu : Upd (h := 256) (w := 64) (256 * (n / 8)) (64 * (n % 8))
      (k0_pay28 (blk 256 64 (256 * (n / 8)) (64 * (n % 8)) fb) (blk 256 64 (256 * (n / 8)) (64 * (n % 8)) fs)
        (blk 256 64 (512 + 256 * (n / 8)) (64 * (n % 8)) fs)) o o') :
    PO fb fs (n + 1) o' := by
  intro x hx
  rw [hu x]
  have hx0 : (x 0).val < 512 := lt0 x
  have hx1 : (x 1).val < 512 := lt1 x
  split_ifs with hi
  · have e1 : (x 0).val / 256 = n / 8 := by omega
    have e2 : (x 1).val / 64 = n % 8 := by omega
    have e3 : (x 0).val % 256 = (x 0).val - 256 * (n / 8) := by omega
    have e4 : (x 1).val % 64 = (x 1).val - 64 * (n % 8) := by omega
    unfold oLoc
    rw [e1, e2, e3, e4]
  · exact h x (by omega)

theorem PL_all {fb : CB F} {fs : CK F} {l : CL F} (h : PL fb fs 16 l) : l = lLoc fb fs :=
  funext fun x => h x (by have h0 : (x 0).val < 512 := lt0 x; have h1 : (x 1).val < 8 := lt1 x; omega)
theorem PO_all {fb : CB F} {fs : CK F} {o : CF F} (h : PO fb fs 16 o) : o = oLoc fb fs :=
  funext fun x => h x (by have h0 : (x 0).val < 512 := lt0 x; have h1 : (x 1).val < 512 := lt1 x; omega)

/-! ## A quarter of the neighbour's keys -/

/-- The row sums with quarter `q`'s 128 keys added, in the batch the quarter belongs to. -/
def lQ (q : ℕ) (fb : CB F) (fr : CK F) (l : CL F) : CL F := fun x =>
  if (x 0).val / 256 = q / 2 then
    k0_pay83 (blk 256 64 (256 * (q / 2)) (64 * (x 1).val) fb) (blk 128 64 (128 * q) (64 * (x 1).val) fr)
      (blk 256 1 (256 * (q / 2)) (x 1).val l) (at2 256 1 ((x 0).val % 256) 0)
  else l x

/-- The weighted values with quarter `q`'s added. -/
def oQ (q : ℕ) (fb : CB F) (fr : CK F) (o : CF F) : CF F := fun x =>
  if (x 0).val / 256 = q / 2 then
    k0_pay84 (blk 256 64 (256 * (q / 2)) (64 * ((x 1).val / 64)) fb) (blk 128 64 (128 * q) (64 * ((x 1).val / 64)) fr)
      (blk 128 64 (512 + 128 * q) (64 * ((x 1).val / 64)) fr) (blk 256 64 (256 * (q / 2)) (64 * ((x 1).val / 64)) o)
      (at2 256 64 ((x 0).val % 256) ((x 1).val % 64))
  else o x

/-- The first `n` heads of quarter `q` are done. -/
def QL (q : ℕ) (fb : CB F) (fr : CK F) (l₀ : CL F) (n : ℕ) (l : CL F) : Prop :=
  ∀ x, l x = if (x 1).val < n then lQ q fb fr l₀ x else l₀ x
def QO (q : ℕ) (fb : CB F) (fr : CK F) (o₀ : CF F) (n : ℕ) (o : CF F) : Prop :=
  q < 4 ∧ ∀ x, o x = if (x 1).val / 64 < n then oQ q fb fr o₀ x else o₀ x

theorem QL_zero (q : ℕ) (fb : CB F) (fr : CK F) (l : CL F) : QL q fb fr l 0 l := fun x => by rw [if_neg (Nat.not_lt_zero _)]
theorem QO_zero (q : ℕ) (hq : q < 4) (fb : CB F) (fr : CK F) (o : CF F) : QO q fb fr o 0 o :=
  ⟨hq, fun x => by rw [if_neg (Nat.not_lt_zero _)]⟩

theorem QL_step {q : ℕ} {fb : CB F} {fr : CK F} {l₀ : CL F} {n : ℕ} {l l' : CL F} (h : QL q fb fr l₀ n l) (hn : n < 8)
    (hu : Upd (h := 256) (w := 1) (256 * (q / 2)) n
      (k0_pay83 (blk 256 64 (256 * (q / 2)) (64 * n) fb) (blk 128 64 (128 * q) (64 * n) fr) (blk 256 1 (256 * (q / 2)) n l)) l l') :
    QL q fb fr l₀ (n + 1) l' := by
  intro x
  rw [hu x]
  have hx0 : (x 0).val < 512 := lt0 x
  have hx1 : (x 1).val < 8 := lt1 x
  split_ifs with hi hn' hn'
  · have e1 : (x 0).val / 256 = q / 2 := by omega
    have e2 : (x 1).val = n := by omega
    have e3 : (x 0).val % 256 = (x 0).val - 256 * (q / 2) := by omega
    have e4 : blk 256 1 (256 * (q / 2)) n l = blk 256 1 (256 * (q / 2)) n l₀ := blk_congr fun i j hi hj => by
      rw [h, if_neg (by rw [at2_1, Nat.mod_eq_of_lt (by omega)]; omega)]
    unfold lQ
    rw [if_pos e1, e2, e3, e4, Nat.sub_self]
  · omega
  · rw [h x]
    by_cases hlt : (x 1).val < n
    · rw [if_pos hlt]
    · have hne : ¬ (x 0).val / 256 = q / 2 := by omega
      rw [if_neg hlt]; unfold lQ; rw [if_neg hne]
  · rw [h x, if_neg (by omega)]

theorem QO_step {q : ℕ} {fb : CB F} {fr : CK F} {o₀ : CF F} {n : ℕ} {o o' : CF F} (h : QO q fb fr o₀ n o) (hn : n < 8)
    (hu : Upd (h := 256) (w := 64) (256 * (q / 2)) (64 * n)
      (k0_pay84 (blk 256 64 (256 * (q / 2)) (64 * n) fb) (blk 128 64 (128 * q) (64 * n) fr) (blk 128 64 (512 + 128 * q) (64 * n) fr)
        (blk 256 64 (256 * (q / 2)) (64 * n) o)) o o') :
    QO q fb fr o₀ (n + 1) o' := by
  refine ⟨h.1, fun x => ?_⟩
  rw [hu x]
  have hx0 : (x 0).val < 512 := lt0 x
  have hx1 : (x 1).val < 512 := lt1 x
  split_ifs with hi hn' hn'
  · have e1 : (x 0).val / 256 = q / 2 := by omega
    have e2 : (x 1).val / 64 = n := by omega
    have e3 : (x 0).val % 256 = (x 0).val - 256 * (q / 2) := by omega
    have e5 : (x 1).val % 64 = (x 1).val - 64 * n := by omega
    have e4 : blk 256 64 (256 * (q / 2)) (64 * n) o = blk 256 64 (256 * (q / 2)) (64 * n) o₀ := blk_congr fun i j hi hj => by
      rw [h.2, if_neg (by rw [at2_1, Nat.mod_eq_of_lt (by omega)]; omega)]
    unfold oQ
    rw [if_pos e1, e2, e3, e4, e5]
  · omega
  · rw [h.2 x]
    by_cases hlt : (x 1).val / 64 < n
    · rw [if_pos hlt]
    · have hne : ¬ (x 0).val / 256 = q / 2 := by omega
      rw [if_neg hlt]; unfold oQ; rw [if_neg hne]
  · rw [h.2 x, if_neg (by omega)]

theorem QL_all {q : ℕ} {fb : CB F} {fr : CK F} {l₀ l : CL F} (h : QL q fb fr l₀ 8 l) : l = lQ q fb fr l₀ :=
  funext fun x => by rw [h x, if_pos (lt1 x)]
theorem QO_all {q : ℕ} {fb : CB F} {fr : CK F} {o₀ o : CF F} (h : QO q fb fr o₀ 8 o) : o = oQ q fb fr o₀ :=
  funext fun x => by rw [h.2 x, if_pos (by have h1 : (x 1).val < 512 := lt1 x; omega)]

/-! ## The division -/

/-- The weighted values over the row sums. -/
def dv (o : CF F) (l : CL F) : CF F := fun x =>
  k0_pay189 (blk 256 64 (256 * ((x 0).val / 256)) (64 * ((x 1).val / 64)) o) (blk 256 1 (256 * ((x 0).val / 256)) ((x 1).val / 64) l)
    (at2 256 64 ((x 0).val % 256) ((x 1).val % 64))

def PD (o : CF F) (l : CL F) (n : ℕ) (f : CF F) : Prop :=
  ∀ x, 8 * ((x 0).val / 256) + (x 1).val / 64 < n → f x = dv o l x

theorem PD_zero (o : CF F) (l : CL F) (f : CF F) : PD o l 0 f := fun x h => absurd h (Nat.not_lt_zero _)

theorem PD_step {o : CF F} {l : CL F} {n : ℕ} {f f' : CF F} (h : PD o l n f)
    (hu : Upd (h := 256) (w := 64) (256 * (n / 8)) (64 * (n % 8))
      (k0_pay189 (blk 256 64 (256 * (n / 8)) (64 * (n % 8)) o) (blk 256 1 (256 * (n / 8)) (n % 8) l)) f f') :
    PD o l (n + 1) f' := by
  intro x hx
  rw [hu x]
  have hx0 : (x 0).val < 512 := lt0 x
  have hx1 : (x 1).val < 512 := lt1 x
  split_ifs with hi
  · have e1 : (x 0).val / 256 = n / 8 := by omega
    have e2 : (x 1).val / 64 = n % 8 := by omega
    have e3 : (x 0).val % 256 = (x 0).val - 256 * (n / 8) := by omega
    have e4 : (x 1).val % 64 = (x 1).val - 64 * (n % 8) := by omega
    unfold dv
    rw [e1, e2, e3, e4]
  · exact h x (by omega)

theorem PD_all {o : CF F} {l : CL F} {f : CF F} (h : PD o l 16 f) : f = dv o l :=
  funext fun x => h x (by have h0 : (x 0).val < 512 := lt0 x; have h1 : (x 1).val < 512 := lt1 x; omega)

end Cert.KernelIdeal.Run

end
-- ==== Proof.KernelIdealRun.Proto.lean ====
/-
The exchange between the devices: who the neighbours are, which rows travel, the semaphore cells, what every signal
and every landing hands over, what each device owes, and the levels the waits are ordered by.
-/
module

public import proofs.«01_k».proof.Proof.KernelIdealRun.Phases

@[expose] public section

noncomputable section

namespace Cert.KernelIdeal.Run

open Cert.KernelIdeal Cert.KernelIdeal.Gen Cert.Grid2

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Neighbours -/

/-- The neighbour across axis `x`, and the two on either side along `y` and `z`. -/
def xn (c : Dev nD) : Dev nD := ⟨(c.val + 16) % 32, Nat.mod_lt _ (by decide)⟩
def yp (c : Dev nD) : Dev nD := ⟨(16 * (c.val / 16) + 4 * ((c.val / 4 + 1) % 4) + c.val % 4) % 32, Nat.mod_lt _ (by decide)⟩
def ym (c : Dev nD) : Dev nD := ⟨(16 * (c.val / 16) + 4 * ((c.val / 4 + 3) % 4) + c.val % 4) % 32, Nat.mod_lt _ (by decide)⟩
def zp (c : Dev nD) : Dev nD := ⟨(4 * (c.val / 4) + (c.val + 1) % 4) % 32, Nat.mod_lt _ (by decide)⟩
def zm (c : Dev nD) : Dev nD := ⟨(4 * (c.val / 4) + (c.val + 3) % 4) % 32, Nat.mod_lt _ (by decide)⟩

/-- Which of the three neighbours transfer `s` goes to. -/
def grp (s : Fin 16) : Fin 3 := if s.val < 8 then 0 else if s.val < 12 then 1 else 2

/-- The neighbour in direction `g` that device `c` sends to, and the one it receives from. -/
def dst (c : Dev nD) (g : Fin 3) : Dev nD := if g = 0 then xn c else if g = 1 then yp c else zp c
def from' (c : Dev nD) (g : Fin 3) : Dev nD := if g = 0 then xn c else if g = 1 then ym c else zm c

theorem from_dst (c : Dev nD) (g : Fin 3) : from' (dst c g) g = c := by revert c g; decide +kernel
theorem dst_from (c : Dev nD) (g : Fin 3) : dst (from' c g) g = c := by revert c g; decide +kernel
theorem xn_xn (c : Dev nD) : xn (xn c) = c := by revert c; decide +kernel

/-- The device transfer `s` of device `c` goes to. -/
def peer (c : Dev nD) (s : Fin 16) : Dev nD := dst c (grp s)

/-! ## The rows that travel -/

/-- The quarter transfer `s` takes its rows from, and the quarter landing `r` fills. -/
def sq (c : Dev nD) (s : Fin 16) : ℕ := if s.val / 4 = 1 then od c else om c
def rq (c : Dev nD) (r : Fin 16) : ℕ := qt c (r.val / 4)

theorem sq_eq (c : Dev nD) (s : Fin 16) : sq c s = rq (peer c s) s := by revert c s; decide +kernel
theorem rq_lt (c : Dev nD) (r : Fin 16) : rq c r < 4 := qt_lt c _

/-- The first of the 64 rows of transfer `s`: the same in the source and the destination buffer. -/
def rowR (c : Dev nD) (r : Fin 16) : ℕ := 128 * rq c r + 64 * (r.val % 2) + 512 * (r.val % 4 / 2)
def rowS (c : Dev nD) (s : Fin 16) : ℕ := 128 * sq c s + 64 * (s.val % 2) + 512 * (s.val % 4 / 2)

theorem rowS_eq (c : Dev nD) (s : Fin 16) : rowS c s = rowR (peer c s) s := by unfold rowS rowR; rw [sq_eq]

/-- 64 rows from row `a`. -/
def band (a : ℕ) : Finset S1024x512.Idx := Finset.univ.filter fun x => a ≤ (x 0).val ∧ (x 0).val < a + 64

theorem mem_band {a : ℕ} {x : S1024x512.Idx} : x ∈ band a ↔ a ≤ (x 0).val ∧ (x 0).val < a + 64 := by simp [band]

theorem band_rect {a : ℕ} {off : Fin 2 → ℕ} (ho : off = ![a, 0]) (inb : ∀ d, off d + S64x512.size d ≤ S1024x512.size d) :
    (Rect.unit (s := S1024x512) off S64x512.size inb).set = band a := by
  ext x
  rw [mem_band]
  refine (unit_mem (h := 64) (w := 512) ho inb x).trans ?_
  have h1 := lt1 x
  constructor
  · exact fun h => h.1
  · exact fun h => ⟨h, Nat.zero_le _, by omega⟩

/-- The band of transfer `s` lies in its quarter. -/
theorem band_quarter {c : Dev nD} {r : Fin 16} {x : S1024x512.Idx} (hx : x ∈ band (rowR c r)) : (x 0).val % 512 / 128 = rq c r := by
  rw [mem_band] at hx; unfold rowR at hx
  have hq := rq_lt c r
  have hx0 : (x 0).val < 1024 := lt0 x
  rcases Nat.lt_or_ge (r.val % 4) 2 with h | h
  · have e : r.val % 4 / 2 = 0 := by omega
    rw [e] at hx; omega
  · have e : r.val % 4 / 2 = 1 := by omega
    rw [e] at hx; omega

theorem band_disj (c : Dev nD) {r r' : Fin 16} (h : r ≠ r') : Disjoint (band (rowR c r)) (band (rowR c r')) := by
  rw [Finset.disjoint_left]
  intro x hx hx'
  refine h ?_
  have hq := (band_quarter hx).symm.trans (band_quarter hx')
  rw [mem_band] at hx hx'; unfold rowR at hx hx'
  rw [hq] at hx
  have h4 : r.val / 4 = r'.val / 4 := by
    have key : ∀ c : Dev nD, ∀ i j : Fin 4, qt c i.val = qt c j.val → i = j := by decide +kernel
    have := key c ⟨r.val / 4, by omega⟩ ⟨r'.val / 4, by omega⟩ hq
    exact congrArg Fin.val this
  apply Fin.ext; omega

theorem mem_bands (c : Dev nD) (x : S1024x512.Idx) : ∃ r : Fin 16, x ∈ band (rowR c r) := by
  have hx0 : (x 0).val < 1024 := lt0 x
  obtain ⟨i, hi, he⟩ := qt_surj c ((x 0).val % 512 / 128) (by omega)
  refine ⟨⟨4 * i + 2 * ((x 0).val / 512) + (x 0).val % 128 / 64, by omega⟩, ?_⟩
  rw [mem_band]; unfold rowR rq
  have e : (4 * i + 2 * ((x 0).val / 512) + (x 0).val % 128 / 64) / 4 = i := by omega
  dsimp only
  rw [e, he]; omega

/-- The four bands of landings `4i … 4i+3` make up quarter `qt c i`. -/
theorem quarter_bands (c : Dev nD) (i : ℕ) (hi : i < 4) :
    (Finset.univ.filter fun r : Fin 16 => r.val / 4 = i).biUnion (fun r => band (rowR c r)) = qset (qt c i) := by
  ext x
  rw [Finset.mem_biUnion, mem_qset]
  constructor
  · rintro ⟨r, hr, hx⟩
    rw [Finset.mem_filter] at hr
    rw [band_quarter hx, rq, hr.2]
  · intro h
    obtain ⟨r, hr⟩ := mem_bands c x
    refine ⟨r, ?_, hr⟩
    rw [Finset.mem_filter]
    refine ⟨Finset.mem_univ _, ?_⟩
    have hq : qt c (r.val / 4) = qt c i := (band_quarter hr).symm.trans h
    have key : ∀ c : Dev nD, ∀ i j : Fin 4, qt c i.val = qt c j.val → i = j := by decide +kernel
    have := key c ⟨r.val / 4, by omega⟩ ⟨i, hi⟩ hq
    exact congrArg Fin.val this

/-- The device whose keys and values end up in quarter `q` of device `c`'s landing buffer. -/
def srcDev (c : Dev nD) (q : ℕ) : Dev nD := if q = oy c then xn (ym c) else if q = oz c then xn (zm c) else xn c

/-- The landing buffer once every landing is in, from every device's own keys and values `vk`. -/
def kvRem (vk : Dev nD → CK F) (c : Dev nD) : CK F := fun x => vk (srcDev c ((x 0).val % 512 / 128)) x

/-! ## Cells -/

abbrev barCell (c : Dev nD) : GSem nD τ sig := ((c : Thread nD τ), .reg barrier0)
/-- The kernel's own DMA semaphores: 16 that a transfer's source is freed on, then 16 that a landing is counted on. -/
abbrev osem : Fin 32 → SemLoc sig := fun i => .dma (⟨4 + i.val, by have := i.isLt; show 4 + i.val < 36; omega⟩ : DmaSem sig)
abbrev sSem (s : Fin 16) : DmaSem sig := ⟨4 + s.val, by have := s.isLt; show 4 + s.val < 36; omega⟩
abbrev rSem (r : Fin 16) : DmaSem sig := ⟨20 + r.val, by have := r.isLt; show 20 + r.val < 36; omega⟩
abbrev sendCell (c : Dev nD) (s : Fin 16) : GSem nD τ sig := ((c : Thread nD τ), .dma (sSem s))
abbrev recvCell (c : Dev nD) (r : Fin 16) : GSem nD τ sig := ((c : Thread nD τ), .dma (rSem r))

/-- The credit of one transfer. -/
abbrev chunk0 : Memref sig .tc .vmem S64x512 .bf16 :=
  (Memref.whole cc0_scratch1).slice (Rect.unit (s := S1024x512) ![0, 0] S64x512.size (by decide)) (fun _ => rfl)
abbrev N : ℕ := chunk0.view.dmaCredit
theorem N_pos : 0 < N := View.dmaCredit_pos _ (by decide)

/-! ## What is handed over -/

variable (vk : Dev nD → CK F)

/-- What a landing buffer's owner hands out for transfer `s` of device `c`: the rows to land in, and that the cell
    the landing is counted on is open. -/
def land (c : Dev nD) (s : Fin 16) : sProp 𝕄 :=
  iprop((∃ f, At (F := F) (peer c s) rR (band (rowS c s)) fullShare f) ∗ reached ER (recvCell (peer c s) s) 0)

/-- Paid onto device `c`'s barrier by the neighbour in direction `g`. -/
def barPay (c : Dev nD) (g : Fin 3) : sProp 𝕄 := bigSep (Finset.univ.filter fun s => grp s = g) (fun s => land (F := F) c s)

/-- The source rows of transfer `s`, at the share lent to it. -/
def srcPts (c : Dev nD) (s : Fin 16) : sProp 𝕄 :=
  if s.val < 8 then At c sR (band (rowS c s)) fullShare.left (vk c)
  else if s.val < 12 then At c rR (band (rowS c s)) fullShare.left.left (kvRem vk c)
  else At c rR (band (rowS c s)) fullShare.left.right (kvRem vk c)

/-- The landed rows. -/
def recvPay (c : Dev nD) (r : Fin 16) : sProp 𝕄 := At c rR (band (rowR c r)) fullShare (kvRem vk c)

/-- One round on every cell: three duties on a barrier, one on each of the others. -/
def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with
    | .reg _ => barPay g.1.1 d
    | .dma q => if h : 4 ≤ q.val ∧ q.val < 20 then srcPts vk g.1.1 ⟨q.val - 4, by omega⟩
        else if h : 20 ≤ q.val ∧ q.val < 36 then recvPay vk g.1.1 ⟨q.val - 20, by omega⟩ else iprop(emp)
  amount_pos g _ _ _ := by
    rcases g with ⟨t, s | s⟩
    · exact Nat.one_pos
    · exact N_pos

instance Rd_payload_storable (g : GSem nD τ sig) (r : ℕ) (d : Fin 3) : BI.Storable (upEmb : UEmb _ 𝕄) ((Rd vk).payload g r d) := by
  rcases g with ⟨t, s | q⟩
  · show BI.Storable upEmb (barPay t.1 d)
    unfold barPay land; infer_instance
  · show BI.Storable upEmb (if h : 4 ≤ q.val ∧ q.val < 20 then srcPts vk t.1 ⟨q.val - 4, by omega⟩
        else if h : 20 ≤ q.val ∧ q.val < 36 then recvPay vk t.1 ⟨q.val - 20, by omega⟩ else iprop(emp))
    unfold srcPts recvPay
    (repeat' split) <;> infer_instance

theorem duties_bar (c : Dev nD) : (Rd vk).duties (barCell c) 0 = Finset.univ := by dsimp only [Rd]; exact if_pos ⟨rfl, rfl⟩
theorem duties_send (c : Dev nD) (s : Fin 16) : (Rd vk).duties (sendCell c s) 0 = {0} := by dsimp only [Rd]; exact if_pos ⟨rfl, rfl⟩
theorem duties_recv (c : Dev nD) (r : Fin 16) : (Rd vk).duties (recvCell c r) 0 = {0} := by dsimp only [Rd]; exact if_pos ⟨rfl, rfl⟩
theorem duties_later (g : GSem nD τ sig) : ∀ r, 1 ≤ r → (Rd vk).duties g r = ∅ := fun r hr => by dsimp only [Rd]; exact if_neg (fun h => by omega)

theorem amount_bar (c : Dev nD) (d : Fin 3) : (Rd vk).amount (barCell c) 0 d = 1 := rfl
theorem amount_send (c : Dev nD) (s : Fin 16) (d : Fin 3) : (Rd vk).amount (sendCell c s) 0 d = N := rfl
theorem amount_recv (c : Dev nD) (r : Fin 16) (d : Fin 3) : (Rd vk).amount (recvCell c r) 0 d = N := rfl

theorem payload_bar (c : Dev nD) (d : Fin 3) : (Rd vk).payload (barCell c) 0 d = barPay c d := rfl
theorem payload_send (c : Dev nD) (s : Fin 16) (d : Fin 3) : (Rd vk).payload (sendCell c s) 0 d = srcPts vk c s := by
  have hs := s.isLt
  refine (dif_pos (show 4 ≤ 4 + s.val ∧ 4 + s.val < 20 by omega)).trans ?_
  congr 1; apply Fin.ext; show 4 + s.val - 4 = s.val; omega
theorem payload_recv (c : Dev nD) (r : Fin 16) (d : Fin 3) : (Rd vk).payload (recvCell c r) 0 d = recvPay vk c r := by
  have hr := r.isLt
  refine ((dif_neg (show ¬(4 ≤ 20 + r.val ∧ 20 + r.val < 20) by omega)).trans
    (dif_pos (show 20 ≤ 20 + r.val ∧ 20 + r.val < 36 by omega))).trans ?_
  congr 1; apply Fin.ext; show 20 + r.val - 20 = r.val; omega

theorem expect_bar (c : Dev nD) : (Rd vk).expect (barCell c) 0 = 3 := by
  unfold Schedule.expect Schedule.amountOf
  rw [duties_bar, Finset.sum_congr rfl fun d _ => amount_bar vk c d]; rfl
theorem expect_send (c : Dev nD) (s : Fin 16) : (Rd vk).expect (sendCell c s) 0 = N := by
  unfold Schedule.expect Schedule.amountOf; rw [duties_send, Finset.sum_singleton, amount_send]
theorem expect_recv (c : Dev nD) (r : Fin 16) : (Rd vk).expect (recvCell c r) 0 = N := by
  unfold Schedule.expect Schedule.amountOf; rw [duties_recv, Finset.sum_singleton, amount_recv]

theorem rest_bar (c : Dev nD) : bigSep ((Rd vk).duties (barCell c) 0 \ ∅) (fun d => (Rd vk).payload (barCell c) 0 d)
    = bigSep Finset.univ (fun g => barPay (F := F) c g) := by
  rw [Finset.sdiff_empty, duties_bar]; rfl
theorem rest_send (c : Dev nD) (s : Fin 16) : bigSep ((Rd vk).duties (sendCell c s) 0 \ ∅) (fun d => (Rd vk).payload (sendCell c s) 0 d)
    = srcPts vk c s := by
  rw [Finset.sdiff_empty, duties_send, bigSep_singleton, payload_send]
theorem rest_recv (c : Dev nD) (r : Fin 16) : bigSep ((Rd vk).duties (recvCell c r) 0 \ ∅) (fun d => (Rd vk).payload (recvCell c r) 0 d)
    = recvPay vk c r := by
  rw [Finset.sdiff_empty, duties_recv, bigSep_singleton, payload_recv]

/-! ## What a device owes, and the levels -/

/-- What device `c` owes for the transfers of the list `l`: the peer's landing credit for each. -/
def owed (c : Dev nD) (l : List (Fin 16)) : CellTallies nD τ sig Unit :=
  l.foldr (fun s O => O + tallyAt (recvCell (peer c s) s) () N) 0

theorem owed_nil (c : Dev nD) : owed c [] = 0 := rfl
theorem owed_cons (c : Dev nD) (s : Fin 16) (l : List (Fin 16)) : owed c (s :: l) = owed c l + tallyAt (recvCell (peer c s) s) () N := rfl

/-- The order the transfers are started in. -/
def order : List (Fin 16) := [0, 1, 2, 3, 4, 5, 6, 7, 8, 12, 9, 13, 10, 14, 11, 15]

/-- At launch: the three barrier units, then the transfers. -/
def O₀ (c : Dev nD) : CellTallies nD τ sig Unit :=
  owed c order + tallyAt (barCell (from' c 2)) () 1 + tallyAt (barCell (from' c 1)) () 1 + tallyAt (barCell (from' c 0)) () 1

def L (g : GSem nD τ sig) : Finset Unit := if g.1.2 = .tc then {()} else ∅
/-- Sends and staging at 0, barriers at 1, the landings from across `x` at 2, those forwarded along `y` and `z` at 3. -/
def lv (g : GSem nD τ sig) (_ : Unit) : ℕ := match g.2 with
  | .reg _ => 1
  | .dma q => if q.val < 20 then 0 else if q.val < 28 then 2 else 3

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {l : List (Fin 16)} {g : GSem nD τ sig} {u : Unit} (h : 0 < owed c l g u) :
    ∃ s ∈ l, g = recvCell (peer c s) s := by
  induction l with
  | nil => exact absurd h (Nat.lt_irrefl 0)
  | cons s l ih =>
    rw [owed_cons] at h
    have h' : 0 < owed c l g u + tallyAt (recvCell (peer c s) s) () N g u := h
    by_cases hg : g = recvCell (peer c s) s
    · exact ⟨s, List.mem_cons_self, hg⟩
    · rw [tallyAt_apply, if_neg (fun h => hg h.1), Nat.add_zero] at h'
      obtain ⟨s', hs', he⟩ := ih h'
      exact ⟨s', List.mem_cons_of_mem _ hs', he⟩

/-- A wait below every landing still owed may be made. -/
theorem mayWait_owed (c : Dev nD) (sm : SemLoc sig) (l : List (Fin 16)) (b : ℕ) (hb : lv ((c : Thread nD τ), sm) () ≤ b)
    (hl : ∀ s ∈ l, b < (if s.val < 8 then 2 else 3)) :
    (levAts L lv : sProp 𝕄) ⊢ MayWait (c : Thread nD τ) sm () (owed c l) :=
  MayOwe.of_cut (L := L) (lev := lv) b (fun p hp => by rw [Finset.mem_singleton.mp hp, L_tc]; exact Finset.mem_singleton_self _)
    (fun g u hg => by obtain ⟨s, _, rfl⟩ := owed_pos hg; rw [L_tc]; exact Finset.mem_singleton_self _)
    (fun p hp => by rw [Finset.mem_singleton.mp hp]; exact hb)
    (fun g u hg => by
      obtain ⟨s, hs, rfl⟩ := owed_pos hg
      have h := hl s hs
      show b < (if 20 + s.val < 20 then 0 else if 20 + s.val < 28 then 2 else 3)
      rw [if_neg (by omega)]
      by_cases h8 : s.val < 8
      · rw [if_pos h8] at h; rw [if_pos (by omega)]; exact h
      · rw [if_neg h8] at h; rw [if_neg (by omega)]; exact h)

end Cert.KernelIdeal.Run
-- ==== Proof.KernelIdealRun.Comm.lean ====
/-
One device's part in the exchange as a state — how far each of its sixteen transfers and sixteen landings is — and
what each step of the protocol does to that state.
-/
module

public import proofs.«01_k».proof.Proof.KernelIdealRun.Proto

@[expose] public section

noncomputable section

namespace Cert.KernelIdeal.Run

open Cert.KernelIdeal Cert.KernelIdeal.Gen Cert.Grid2

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The state -/

/-- What transfer `s` is paid with: its two duties, and its place on the cell its source is freed on. -/
def toks (c : Dev nD) (s : Fin 16) : sProp 𝕄 :=
  iprop(dutyTok ER (sendCell c s) 0 0 ∗ dutyTok ER (recvCell (peer c s) s) 0 0 ∗ reached ER (sendCell c s) 0 ∗ atPos ER (sendCell c s) 0 ∅ 0)

/-- Transfer `s`: 0 at the start; 1 with a place to land; 2 with its source too; 3 in flight; 4 its source back;
    5 its source given on. -/
def SD (vk : Dev nD → CK F) (c : Dev nD) (s : Fin 16) (n : ℕ) : sProp 𝕄 := match n with
  | 0 => toks c s
  | 1 => iprop(toks c s ∗ land c s)
  | 2 => iprop(toks c s ∗ land c s ∗ srcPts vk c s)
  | 3 => iprop(cred (tallyAt (sendCell c s) () N) ∗ atPos ER (sendCell c s) 0 ∅ 0)
  | 4 => iprop(atPos ER (sendCell c s) 1 ∅ 0 ∗ srcPts vk c s)
  | _ => atPos ER (sendCell c s) 1 ∅ 0

/-- The rows of landing `r` at share `q`. -/
abbrev RowsAt (vk : Dev nD → CK F) (c : Dev nD) (r : Fin 16) (q : PosShare TreeShare) : sProp 𝕄 := At c rR (band (rowR c r)) q (kvRem vk c)

/-- Landing `r`: 0 awaited; 1 in; 2, 3 a first and a second part of it lent to be forwarded; 4 given on. -/
def RV (vk : Dev nD → CK F) (c : Dev nD) (r : Fin 16) (n : ℕ) : sProp 𝕄 := match n with
  | 0 => iprop(atPos ER (recvCell c r) 0 ∅ 0 ∗ cred (tallyAt (recvCell c r) () N))
  | 1 => iprop(atPos ER (recvCell c r) 1 ∅ 0 ∗ RowsAt vk c r fullShare)
  | 2 => iprop(atPos ER (recvCell c r) 1 ∅ 0 ∗ RowsAt vk c r fullShare.right ∗ RowsAt vk c r fullShare.left.right)
  | 3 => iprop(atPos ER (recvCell c r) 1 ∅ 0 ∗ RowsAt vk c r fullShare.right)
  | _ => atPos ER (recvCell c r) 1 ∅ 0

/-- Every cell's invariant, at the names `K`; every barrier's round is open. -/
def invs (vk : Dev nD → CK F) (K : GSem nD τ sig → ℕ) : sProp 𝕄 :=
  iprop(bigSep Finset.univ (fun c : Dev nD => cellInv ER (Rd vk) (K (barCell c)) (barCell c))
    ∗ bigSep Finset.univ (fun c : Dev nD => reached ER (barCell c) 0)
    ∗ bigSep Finset.univ (fun p : Dev nD × Fin 16 => cellInv ER (Rd vk) (K (sendCell p.1 p.2)) (sendCell p.1 p.2))
    ∗ bigSep Finset.univ (fun p : Dev nD × Fin 16 => cellInv ER (Rd vk) (K (recvCell p.1 p.2)) (recvCell p.1 p.2)))

section Parts

variable (vk : Dev nD → CK F) (K : GSem nD τ sig → ℕ) (c : Dev nD)

instance invs_persistent : BI.Persistent (invs vk K) := by unfold invs; infer_instance

theorem inv_bar : invs vk K ⊢ cellInv ER (Rd vk) (K (barCell c)) (barCell c) := by
  have h : (bigSep Finset.univ (fun c : Dev nD => cellInv ER (Rd vk) (K (barCell c)) (barCell c)) : sProp 𝕄)
    ⊢ cellInv ER (Rd vk) (K (barCell c)) (barCell c) := BI.bigSep_elim (Finset.mem_univ c)
  unfold invs; iintro ⟨H, -, -, -⟩; iapply h; iexact H
theorem inv_reached : invs vk K ⊢ (reached ER (barCell c) 0 : sProp 𝕄) := by
  have h : (bigSep Finset.univ (fun c : Dev nD => reached ER (barCell c) 0) : sProp 𝕄) ⊢ reached ER (barCell c) 0 :=
    BI.bigSep_elim (Finset.mem_univ c)
  unfold invs; iintro ⟨-, H, -, -⟩; iapply h; iexact H
theorem inv_send (s : Fin 16) : invs vk K ⊢ cellInv ER (Rd vk) (K (sendCell c s)) (sendCell c s) := by
  have h : (bigSep Finset.univ (fun p : Dev nD × Fin 16 => cellInv ER (Rd vk) (K (sendCell p.1 p.2)) (sendCell p.1 p.2)) : sProp 𝕄)
    ⊢ cellInv ER (Rd vk) (K (sendCell c s)) (sendCell c s) := BI.bigSep_elim (Finset.mem_univ (c, s))
  unfold invs; iintro ⟨-, -, H, -⟩; iapply h; iexact H
theorem inv_recv (r : Fin 16) : invs vk K ⊢ cellInv ER (Rd vk) (K (recvCell c r)) (recvCell c r) := by
  have h : (bigSep Finset.univ (fun p : Dev nD × Fin 16 => cellInv ER (Rd vk) (K (recvCell p.1 p.2)) (recvCell p.1 p.2)) : sProp 𝕄)
    ⊢ cellInv ER (Rd vk) (K (recvCell c r)) (recvCell c r) := BI.bigSep_elim (Finset.mem_univ (c, r))
  unfold invs; iintro ⟨-, -, -, H⟩; iapply h; iexact H

end Parts

/-- The state of the exchange on device `c` past the barrier: it still owes the transfers of `l`, and its transfers and
    landings are as `sd` and `rv` say. -/
def Tk (vk : Dev nD → CK F) (K : GSem nD τ sig → ℕ) (c : Dev nD) (l : List (Fin 16)) (sd rv : Fin 16 → ℕ) : sProp 𝕄 :=
  iprop(levAts L lv ∗ invs vk K ∗ (∃ W, owes (c : Thread nD τ) (owed c l) W)
    ∗ bigSep Finset.univ (fun s => SD vk c s (sd s)) ∗ bigSep Finset.univ (fun r => RV vk c r (rv r)) ∗ atPos ER (barCell c) 1 ∅ 0)

/-- Before the barrier's wait. -/
def TkB (vk : Dev nD → CK F) (K : GSem nD τ sig → ℕ) (c : Dev nD) : sProp 𝕄 :=
  iprop(levAts L lv ∗ invs vk K ∗ (∃ W, owes (c : Thread nD τ) (owed c order) W)
    ∗ bigSep Finset.univ (fun s => SD vk c s 0) ∗ bigSep Finset.univ (fun r => RV vk c r 0)
    ∗ atPos ER (barCell c) 0 ∅ 0 ∗ cred (tallyAt (barCell c) () 3))

/-- At the start. -/
def Tk0 (vk : Dev nD → CK F) (K : GSem nD τ sig → ℕ) (c : Dev nD) : sProp 𝕄 :=
  iprop(levAts L lv ∗ invs vk K ∗ (∃ W, owes (c : Thread nD τ) (O₀ c) W)
    ∗ bigSep Finset.univ (fun s => SD vk c s 0) ∗ bigSep Finset.univ (fun r => RV vk c r 0)
    ∗ bigSep Finset.univ (fun g : Fin 3 => dutyTok ER (barCell (from' c g)) 0 g)
    ∗ bigSep Finset.univ (fun r : Fin 16 => reached ER (recvCell c r) 0)
    ∗ atPos ER (barCell c) 0 ∅ 0 ∗ cred (tallyAt (barCell c) () 3))

/-! ## One member of a family changed -/

theorem fam_take (G : Fin 16 → ℕ → sProp 𝕄) (f : Fin 16 → ℕ) (a : Fin 16) {n : ℕ} (hn : f a = n) :
    bigSep Finset.univ (fun s => G s (f s)) = iprop(G a n ∗ bigSep (Finset.univ.erase a) (fun s => G s (f s))) := by
  rw [BI.bigSep_erase (Finset.mem_univ a), hn]; rfl

theorem fam_put (G : Fin 16 → ℕ → sProp 𝕄) (f : Fin 16 → ℕ) (a : Fin 16) (n : ℕ) :
    iprop(G a n ∗ bigSep (Finset.univ.erase a) (fun s => G s (f s))) = bigSep Finset.univ (fun s => G s (Function.update f a n s)) := by
  rw [fam_take G (Function.update f a n) a (Function.update_self ..)]
  congr 1
  refine BI.bigSep_congr fun s hs => ?_
  rw [Function.update_of_ne (Finset.ne_of_mem_erase hs)]

section Steps

variable {vk : Dev nD → CK F} {K : GSem nD τ sig → ℕ} {c : Dev nD} {l : List (Fin 16)} {sd rv : Fin 16 → ℕ}
variable {A R : sProp (MT nD τ sig Unit (Elt F) ℕ UU ℕ)} {α : Type} {Q : α → sProp (MT nD τ sig Unit (Elt F) ℕ UU ℕ)}

/-! ## The barrier -/

/-- What device `c` pays its neighbour's barrier with: its own rows that neighbour will fill. -/
theorem barPay_from (g : Fin 3) :
    (barPay (F := F) (from' c g) g) = bigSep (Finset.univ.filter fun r => grp r = g)
      (fun r => iprop((∃ f, At (F := F) c rR (band (rowR c r)) fullShare f) ∗ reached ER (recvCell c r) 0)) := by
  unfold barPay land
  refine BI.bigSep_congr fun s hs => ?_
  have hp : peer (from' c g) s = c := by rw [Finset.mem_filter] at hs; unfold peer; rw [hs.2, dst_from]
  rw [rowS_eq, hp]

/-- One of the three barrier signals. -/
theorem signal {d : Dev nD} {g : Fin 3} (hd : d = from' c g) {n : ℕ} (hn : n = 1) {O : CellTallies nD τ sig Unit} {W : Waits sig Unit}
    {sem : Sem sig} (hsem : sem = barrier0)
    {k : PUnit → Prog (TpuEff nD τ sig (Elt F) Λ₀ .tc) α} :
    iprop(invs vk K ∗ owes (c : Thread nD τ) (O + tallyAt (barCell (from' c g)) () 1) W
        ∗ dutyTok ER (barCell (from' c g)) 0 g ∗ barPay (F := F) (from' c g) g)
      ⊢ iprop((owes (c : Thread nD τ) O W -∗ WP c (k ⟨⟩) Q) -∗ WP c (.op (.semSignal (Dev.tc d) sem n) k) Q) := by
  subst hd; subst hn; subst hsem
  iintro ⟨#HI, HO, Ht, Hp⟩
  iapply (Rounds.wp_signal 𝒱₀ ER (Rd vk) (c : Thread nD τ) none (dst := (from' c g : Thread nD τ)) (sem := barrier0) (r := 0) (d := g)
    (κ := K (barCell (from' c g))) (by rw [duties_bar]; exact Finset.mem_univ _) (amount_bar vk (from' c g) g) () O rfl)
  isplitr; · iapply (inv_bar vk K); iexact HI
  isplitl [HO]; · iexact HO
  isplitl [Ht]; · iexact Ht
  isplitl [Hp]; · rw [payload_bar]; iexact Hp
  iapply (inv_reached vk K); iexact HI

/-- The landing rows that come with the barrier go to the transfers they are for. -/
theorem give_land (vk : Dev nD → CK F) (c : Dev nD) :
    iprop(bigSep Finset.univ (fun s => SD vk c s 0) ∗ bigSep Finset.univ (fun g => barPay (F := F) c g))
      ⊢ bigSep Finset.univ (fun s => SD vk c s 1) := by
  have e : (bigSep Finset.univ (fun g => barPay (F := F) c g) : sProp 𝕄) ⊢ bigSep Finset.univ (fun s => land (F := F) c s) := by
    unfold barPay
    have h := BI.bigSep_biUnion (M := 𝕄) (Finset.univ : Finset (Fin 3)) (fun g => Finset.univ.filter fun s => grp s = g) (Φ := fun s => land (F := F) c s)
    have hu : (Finset.univ : Finset (Fin 3)).biUnion (fun g => Finset.univ.filter fun s => grp s = g) = Finset.univ := by ext s; simp
    rw [hu] at h
    exact h
  have h2 : iprop(bigSep Finset.univ (fun s => SD vk c s 0) ∗ bigSep Finset.univ (fun s => land (F := F) c s))
      ⊢ bigSep Finset.univ (fun s => SD vk c s 1) := Entails.of_eq (BI.bigSep_sep _ _ _).symm
  exact (sep_mono_right e).trans h2

/-- The barrier's wait: every neighbour's landing rows come with it. -/
theorem bar_wait {sem : Sem sig} (hsem : sem = barrier0) {n : ℕ} (hn : n = 3)
    {k : PUnit → Prog (TpuEff nD τ sig (Elt F) Λ₀ .tc) α}
    (hk : iprop(A ∗ (Tk vk K c order (fun _ => 1) (fun _ => 0) ∗ R)) ⊢ WP c (k ⟨⟩) Q) :
    iprop(A ∗ (TkB vk K c ∗ R)) ⊢ WP c (.op (.semWait sem n) k) Q := by
  subst hsem; subst hn
  unfold TkB Tk at *
  iintro ⟨HA, ⟨#Hlev, #HI, ⟨%W, HO⟩, HS, HV, Hat, Hcr⟩, HR⟩
  iapply (Rounds.wp_wait_rest_token 𝒱₀ ER (Rd vk) (c : Thread nD τ) none (κ := K (barCell c))
      (wpE_semWait_eq 𝒱₀ (c : Thread nD τ) none Set.univ) (Set.mem_univ _) () (O := owed c order) (W := W) (R := 0) (m := 0) (T := ∅)
      ((Nat.zero_add 3).trans (expect_bar vk c).symm)) $$ [Hcr HO Hat]
  · isplitr; · iapply (inv_bar vk K); iexact HI
    isplitl [Hcr]; · iexact Hcr
    isplitl [HO]; · iexact HO
    isplitr; · iapply (mayWait_owed c (.reg barrier0) order 1 (le_refl 1) (by decide)); iexact Hlev
    iexact Hat
  iintro ⟨HO, Hat, -, Hpay⟩
  ihave Hpay := (Entails.of_eq (rest_bar vk c)) $$ Hpay
  iapply hk
  isplitl [HA]; · iexact HA
  isplitr [HR]
  · isplitr; · iexact Hlev
    isplitr; · iexact HI
    isplitl [HO]; · iexists _; iexact HO
    isplitl [HS Hpay]
    · iapply (give_land vk c)
      isplitl [HS]; · iexact HS
      iexact Hpay
    isplitl [HV]; · iexact HV
    iexact Hat
  · iexact HR

/-- A transfer is started: it pays its source's duty and the peer's landing duty, and what is owed shrinks by it. -/
theorem enq_core {d : Dev nD} (s : Fin 16) (hd : d = peer c s) {src : Memref sig .tc .vmem S64x512 .bf16}
    {off : Fin 2 → ℕ} {inb : ∀ d, off d + S64x512.size d ≤ S1024x512.size d} (ho : off = ![rowS c s, 0])
    {hsc : ((Memref.whole cc0_scratch1).slice (Rect.unit (s := S1024x512) off S64x512.size inb) (fun _ => rfl)).view.ref.isScScratch = false}
    {sS sV : DmaSem sig} (hS : sS = sSem s) (hV : sV = rSem s)
    {hsrc hdst hty} {q : PosShare TreeShare} {fs : Buf (Elt F) (src.view.loc (c : Thread nD τ))}
    (hsp : (srcPts vk c s : sProp 𝕄) = (src.view.loc (c : Thread nD τ) ↦[src.view.set]{q} fs))
    (hval : ∀ x : S64x512.Idx, src.view.read (Elt F) fs x = kvRem vk (peer c s) ((Rect.unit (s := S1024x512) off S64x512.size inb).emb x))
    (hsd : sd s = 2)
    {k : PUnit → Prog (TpuEff nD τ sig (Elt F) Λ₀ .tc) α}
    (hk : iprop(A ∗ (Tk vk K c l (Function.update sd s 3) rv ∗ R)) ⊢ WP c (k ⟨⟩) Q) :
    iprop(A ∗ (Tk vk K c (s :: l) sd rv ∗ R))
      ⊢ WP c (.op (.enqueueDma src (.remote (Dev.tc d) ((Memref.whole cc0_scratch1).slice (Rect.unit (s := S1024x512) off S64x512.size inb) (fun _ => rfl))
          (.dma sS) hsc) (.dma sV) hsrc hdst hty) k) Q := by
  subst hd; subst hS; subst hV
  unfold Tk at *
  rw [fam_take (SD vk c) sd s hsd, show SD vk c s 2 = iprop(toks c s ∗ land c s ∗ srcPts vk c s) from rfl]
  unfold toks land
  iintro ⟨HA, ⟨#Hlev, #HI, ⟨%W, HO⟩, ⟨⟨⟨Ht1, Ht2, #Hr1, Hat⟩, ⟨⟨%fd, Hland⟩, #Hr2⟩, Hsrc⟩, HS⟩, HV, HB⟩, HR⟩
  ihave Hsrc := (Entails.of_eq hsp) $$ Hsrc
  have hset : ((Memref.whole cc0_scratch1).slice (Rect.unit (s := S1024x512) off S64x512.size inb) (fun _ => rfl)).view.set = band (rowS c s) :=
    (View.set_slice_whole _ _).trans (band_rect ho inb)
  iapply (Rounds.wp_send_pointsTo 𝒱₀ ER (Rd vk) (c : Thread nD τ) none (c' := (peer c s : Thread nD τ)) (src := src)
      (dst := (Memref.whole cc0_scratch1).slice (Rect.unit (s := S1024x512) off S64x512.size inb) (fun _ => rfl))
      (sS := .dma (sSem s)) (sem := .dma (rSem s)) (q := q) (fs := fs) (κ₁ := K (sendCell c s)) (κ₂ := K (recvCell (peer c s) s))
      (r₁ := 0) (r₂ := 0) (d₁ := 0) (d₂ := 0) (fd := fd)
      (by rw [duties_send]; exact Finset.mem_singleton_self _) (by rw [duties_recv]; exact Finset.mem_singleton_self _)
      () () N rfl (amount_send vk c s 0) (amount_recv vk (peer c s) s 0) (owed c l) (owed_cons c s l) (W := W)
      (by rw [payload_send, hsp])
      (by
        rw [payload_recv, hset]; unfold recvPay; rw [← rowS_eq]
        refine Entails.of_eq (pointsTo_congr fun i hi => ?_)
        rw [← band_rect ho inb] at hi
        rw [← View.set_slice_whole cc0_scratch1] at hi
        obtain ⟨x, -, rfl⟩ := Finset.mem_map.mp hi
        refine Eq.trans ?_ (hval x)
        exact write_in cc0_scratch1 (Rect.unit (s := S1024x512) off S64x512.size inb) fd (src.view.read (Elt F) fs) x)) $$ [Ht1 Ht2 Hland Hsrc HO]
  · isplitr; · iapply (inv_send vk K); iexact HI
    isplitr; · iapply (inv_recv vk K); iexact HI
    isplitl [Hsrc]; · iexact Hsrc
    isplitl [Hland]; · rw [hset]; iexact Hland
    isplitl [HO]; · iexact HO
    isplitl [Ht1]; · iexact Ht1
    isplitr; · iexact Hr1
    isplitl [Ht2]; · iexact Ht2
    iexact Hr2
  iintro ⟨Hcr, HO⟩
  iapply hk
  isplitl [HA]; · iexact HA
  isplitr [HR]
  · isplitr; · iexact Hlev
    isplitr; · iexact HI
    isplitl [HO]; · iexists _; iexact HO
    isplitl [HS Hcr Hat]
    · rw [← fam_put (SD vk c) sd s 3, show SD vk c s 3 = iprop(cred (tallyAt (sendCell c s) () N) ∗ atPos ER (sendCell c s) 0 ∅ 0) from rfl]
      isplitr [HS]
      · isplitl [Hcr] <;> iassumption
      · iexact HS
    isplitl [HV]; · iexact HV
    iexact HB
  · iexact HR

/-- The wait for a transfer's source: its rows come back. -/
theorem wait_send (s : Fin 16) {sS : DmaSem sig} (hS : sS = sSem s) {sp sp' : Space} {sh : Shape} {e : EltTy} {src : Memref sig .tc sp sh e} {dst : Memref sig .tc sp' sh e} {h1 h2}
    (hN : dst.view.dmaCredit = N) (hl : l.all (fun _ => true)) (hsd : sd s = 3)
    {k : PUnit → Prog (TpuEff nD τ sig (Elt F) Λ₀ .tc) α}
    (hk : iprop(A ∗ (Tk vk K c l (Function.update sd s 4) rv ∗ R)) ⊢ WP c (k ⟨⟩) Q) :
    iprop(A ∗ (Tk vk K c l sd rv ∗ R)) ⊢ WP c (.op (.waitDma2 sS src dst h1 h2) k) Q := by
  subst hS
  unfold Tk at *
  rw [fam_take (SD vk c) sd s hsd, show SD vk c s 3 = iprop(cred (tallyAt (sendCell c s) () N) ∗ atPos ER (sendCell c s) 0 ∅ 0) from rfl]
  iintro ⟨HA, ⟨#Hlev, #HI, ⟨%W, HO⟩, ⟨⟨Hcr, Hat⟩, HS⟩, HV, HB⟩, HR⟩
  iapply (Rounds.wp_wait_rest_token 𝒱₀ ER (Rd vk) (c : Thread nD τ) none (κ := K (sendCell c s))
      (wpE_waitDma2_eq 𝒱₀ (c : Thread nD τ) none Set.univ) (Set.mem_univ _) () (O := owed c l) (W := W) (R := 0) (m := 0) (T := ∅)
      ((Nat.zero_add _).trans (hN.trans (expect_send vk c s).symm))) $$ [Hcr HO Hat]
  · isplitr; · iapply (inv_send vk K); iexact HI
    isplitl [Hcr]; · rw [hN]; iexact Hcr
    isplitl [HO]; · iexact HO
    isplitr
    · iapply (mayWait_owed c (.dma (sSem s)) l 0 (by have := s.isLt; show (if 4 + s.val < 20 then 0 else if 4 + s.val < 28 then 2 else 3) ≤ 0; rw [if_pos (by omega)])
        (fun s' _ => by split <;> decide))
      iexact Hlev
    iexact Hat
  iintro ⟨HO, Hat, -, Hpay⟩
  ihave Hpay := (Entails.of_eq (rest_send vk c s)) $$ Hpay
  iapply hk
  isplitl [HA]; · iexact HA
  isplitr [HR]
  · isplitr; · iexact Hlev
    isplitr; · iexact HI
    isplitl [HO]; · iexists _; iexact HO
    isplitl [HS Hpay Hat]
    · rw [← fam_put (SD vk c) sd s 4, show SD vk c s 4 = iprop(atPos ER (sendCell c s) 1 ∅ 0 ∗ srcPts vk c s) from rfl]
      isplitr [HS]
      · isplitl [Hat] <;> iassumption
      · iexact HS
    isplitl [HV]; · iexact HV
    iexact HB
  · iexact HR

/-- The wait for a landing: its rows come in. -/
theorem wait_recv (r : Fin 16) {sV : DmaSem sig} (hV : sV = rSem r) {sp sp' : Space} {sh : Shape} {e : EltTy} {src : Memref sig .tc sp sh e} {dst : Memref sig .tc sp' sh e} {h1 h2}
    (hN : dst.view.dmaCredit = N) (hl : ∀ s ∈ l, (if r.val < 8 then 2 else 3) < (if s.val < 8 then 2 else 3)) (hrv : rv r = 0)
    {k : PUnit → Prog (TpuEff nD τ sig (Elt F) Λ₀ .tc) α}
    (hk : iprop(A ∗ (Tk vk K c l sd (Function.update rv r 1) ∗ R)) ⊢ WP c (k ⟨⟩) Q) :
    iprop(A ∗ (Tk vk K c l sd rv ∗ R)) ⊢ WP c (.op (.waitDma2 sV src dst h1 h2) k) Q := by
  subst hV
  unfold Tk at *
  rw [fam_take (RV vk c) rv r hrv, show RV vk c r 0 = iprop(atPos ER (recvCell c r) 0 ∅ 0 ∗ cred (tallyAt (recvCell c r) () N)) from rfl]
  iintro ⟨HA, ⟨#Hlev, #HI, ⟨%W, HO⟩, HS, ⟨⟨Hat, Hcr⟩, HV⟩, HB⟩, HR⟩
  iapply (Rounds.wp_wait_rest_token 𝒱₀ ER (Rd vk) (c : Thread nD τ) none (κ := K (recvCell c r))
      (wpE_waitDma2_eq 𝒱₀ (c : Thread nD τ) none Set.univ) (Set.mem_univ _) () (O := owed c l) (W := W) (R := 0) (m := 0) (T := ∅)
      ((Nat.zero_add _).trans (hN.trans (expect_recv vk c r).symm))) $$ [Hcr HO Hat]
  · isplitr; · iapply (inv_recv vk K); iexact HI
    isplitl [Hcr]; · rw [hN]; iexact Hcr
    isplitl [HO]; · iexact HO
    isplitr
    · iapply (mayWait_owed c (.dma (rSem r)) l _ (by
        show (if 20 + r.val < 20 then 0 else if 20 + r.val < 28 then 2 else 3) ≤ (if r.val < 8 then 2 else 3)
        rw [if_neg (by omega)]; (repeat' split) <;> omega) hl)
      iexact Hlev
    iexact Hat
  iintro ⟨HO, Hat, -, Hpay⟩
  ihave Hpay := (Entails.of_eq (rest_recv vk c r)) $$ Hpay
  iapply hk
  isplitl [HA]; · iexact HA
  isplitr [HR]
  · isplitr; · iexact Hlev
    isplitr; · iexact HI
    isplitl [HO]; · iexists _; iexact HO
    isplitl [HS]; · iexact HS
    isplitl [HV Hpay Hat]
    · rw [← fam_put (RV vk c) rv r 1, show RV vk c r 1 = iprop(atPos ER (recvCell c r) 1 ∅ 0 ∗ RowsAt vk c r fullShare) from rfl]
      isplitr [HV]
      · isplitl [Hat]; · iexact Hat
        unfold recvPay; iexact Hpay
      · iexact HV
    iexact HB
  · iexact HR

end Steps

end Cert.KernelIdeal.Run
-- ==== Proof.KernelIdealRun.Rules.lean ====
/-
The step rules of the computing phases: each load or store of a phase, at the place the phase's progress fixes.
-/
module

public import proofs.«01_k».proof.Proof.KernelIdealRun.Phases

@[expose] public section

noncomputable section

namespace Cert.KernelIdeal.Run

open Cert.KernelIdeal Cert.KernelIdeal.Gen Cert.Grid2

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {fq fk fv fo : CF F} {Is : Finset S1024x512.Idx} {qs : PosShare TreeShare} {fs : CK F}
variable {Ir : Finset S1024x512.Idx} {qr : PosShare TreeShare} {fr : CK F} {fb : CB F} {fa : CF F} {fl : CL F}
variable {R : sProp (MT nD τ sig Unit (Elt F) ℕ UU ℕ)} {α : Type} {Q : α → sProp (MT nD τ sig Unit (Elt F) ℕ UU ℕ)}
variable {off : Fin 2 → ℕ} {u n q : ℕ}

/-- A device's rectangle starts where its place says: decided over the devices. -/
theorem at_dev {P : Dev nD → Prop} (h : ∀ c, P c) (c : Dev nD) : P c := h c

/-! ## The cast -/

section
variable {inb : ∀ d, off d + (![64, 512] : Fin 2 → ℕ) d ≤ S512x512.size d}
  {inb' : ∀ d, off d + (![64, 512] : Fin 2 → ℕ) d ≤ S1024x512.size d}

/-- The rows the `u`-th cast writes are held. -/
def Held (Is : Finset S1024x512.Idx) (a h : ℕ) : Prop := ∀ x : S1024x512.Idx, a ≤ (x 0).val → (x 0).val < a + h → x ∈ Is

theorem held_univ (a h : ℕ) : Held Finset.univ a h := fun _ _ _ => Finset.mem_univ _

theorem cast_k (hP : PC c fk fv u fs) (ho : off = ![rowA c u % 512, 0]) {hl}
    {k : ((⟨2, ![64, 512]⟩ : Shape).Idx → Elt F .f32) → Prog (TpuEff nD τ sig (Elt F) Λ₀ .tc) α}
    (hk : iprop(H c fq fk fv fo Is qs fs Ir qr fr fb fa fl ∗ R) ⊢ WP c (k (blk 64 512 (rowA c u % 512) 0 fk)) Q) :
    iprop(H c fq fk fv fo Is qs fs Ir qr fr fb fa fl ∗ R)
      ⊢ WP c (.op (.load (Memref.whole kR) (Rect.unit (s := S512x512) off ![64, 512] inb).toLoadRect hl) k) Q := ld_k ho hk

theorem cast_v (hP : PC c fk fv u fs) (ho : off = ![rowA c u % 512, 0]) {hl}
    {k : ((⟨2, ![64, 512]⟩ : Shape).Idx → Elt F .f32) → Prog (TpuEff nD τ sig (Elt F) Λ₀ .tc) α}
    (hk : iprop(H c fq fk fv fo Is qs fs Ir qr fr fb fa fl ∗ R) ⊢ WP c (k (blk 64 512 (rowA c u % 512) 0 fv)) Q) :
    iprop(H c fq fk fv fo Is qs fs Ir qr fr fb fa fl ∗ R)
      ⊢ WP c (.op (.load (Memref.whole vR) (Rect.unit (s := S512x512) off ![64, 512] inb).toLoadRect hl) k) Q := ld_v ho hk

theorem cast_old (hP : PC c fk fv u fs) (hS : Held Is (rowA c u) 64) (ho : off = ![rowA c u, 0]) {hl}
    {k : ((⟨2, ![64, 512]⟩ : Shape).Idx → Elt F .bf16) → Prog (TpuEff nD τ sig (Elt F) Λ₀ .tc) α}
    (hk : iprop(H c fq fk fv fo Is qs fs Ir qr fr fb fa fl ∗ R) ⊢ WP c (k (blk 64 512 (rowA c u) 0 fs)) Q) :
    iprop(H c fq fk fv fo Is qs fs Ir qr fr fb fa fl ∗ R)
      ⊢ WP c (.op (.load (Memref.whole sR) (Rect.unit (s := S1024x512) off ![64, 512] inb').toLoadRect hl) k) Q := ld_s ho hS hk

theorem cast_st (hP : PC c fk fv u fs) (hS : Held Is (rowA c u) 64) (ho : off = ![rowA c u, 0])
    {W : (⟨2, ![64, 512]⟩ : Shape).Idx → Elt F .bf16}
    (hW : W = k0_pay1 (blk 64 512 (rowA c u % 512) 0 (if u % 2 = 0 then fk else fv))) {hx hm}
    {k : PUnit → Prog (TpuEff nD τ sig (Elt F) Λ₀ .tc) α}
    (hk : ∀ f', PC c fk fv (u + 1) f' → iprop(H c fq fk fv fo Is fullShare f' Ir qr fr fb fa fl ∗ R) ⊢ WP c (k ⟨⟩) Q) :
    iprop(H c fq fk fv fo Is fullShare fs Ir qr fr fb fa fl ∗ R)
      ⊢ WP c (.op (.store (Memref.whole sR) (Rect.unit (s := S1024x512) off ![64, 512] inb') W Finset.univ hx hm) k) Q :=
  st_s ho hS fun f' hu => hk f' (PC_step hP (by rw [← hW]; exact hu))

end

/-! ## The scaled queries, whole -/

section
variable {inb : ∀ d, (![0, 0] : Fin 2 → ℕ) d + S512x512.size d ≤ S512x512.size d}

theorem blk_whole {V : Type} (f : S512x512.Idx → V) : blk 512 512 0 0 f = f :=
  funext fun x => congrArg f (by rw [Nat.zero_add, Nat.zero_add]; exact at2_eta x)

theorem whole_q {hl}
    {k : ((⟨2, ![512, 512]⟩ : Shape).Idx → Elt F .f32) → Prog (TpuEff nD τ sig (Elt F) Λ₀ .tc) α}
    (hk : iprop(H c fq fk fv fo Is qs fs Ir qr fr fb fa fl ∗ R) ⊢ WP c (k fq) Q) :
    iprop(H c fq fk fv fo Is qs fs Ir qr fr fb fa fl ∗ R)
      ⊢ WP c (.op (.load (Memref.whole qR) (Rect.unit (s := S512x512) ![0, 0] ![512, 512] inb).toLoadRect hl) k) Q :=
  ld_q rfl (by rw [blk_whole]; exact hk)

theorem whole_b {hl}
    {k : ((⟨2, ![512, 512]⟩ : Shape).Idx → Elt F .bf16) → Prog (TpuEff nD τ sig (Elt F) Λ₀ .tc) α}
    (hk : iprop(H c fq fk fv fo Is qs fs Ir qr fr fb fa fl ∗ R) ⊢ WP c (k fb) Q) :
    iprop(H c fq fk fv fo Is qs fs Ir qr fr fb fa fl ∗ R)
      ⊢ WP c (.op (.load (Memref.whole bR) (Rect.unit (s := S512x512) ![0, 0] ![512, 512] inb).toLoadRect hl) k) Q :=
  ld_b rfl (by rw [blk_whole]; exact hk)

theorem whole_bst {W : S512x512.Idx → Elt F .bf16} {hx hm}
    {k : PUnit → Prog (TpuEff nD τ sig (Elt F) Λ₀ .tc) α}
    (hk : iprop(H c fq fk fv fo Is qs fs Ir qr fr W fa fl ∗ R) ⊢ WP c (k ⟨⟩) Q) :
    iprop(H c fq fk fv fo Is qs fs Ir qr fr fb fa fl ∗ R)
      ⊢ WP c (.op (.store (Memref.whole bR) (Rect.unit (s := S512x512) ![0, 0] ![512, 512] inb) W Finset.univ hx hm) k) Q := by
  haveI : NeZero (512 : ℕ) := ⟨by decide⟩
  refine st_b (a := 0) (b := 0) (h := 512) (w := 512) rfl fun f' hu => ?_
  have e : f' = W := funext fun x => by
    have h0 : (x 0).val < 512 := lt0 x
    have h1 : (x 1).val < 512 := lt1 x
    rw [hu x, if_pos ⟨⟨Nat.zero_le _, by omega⟩, Nat.zero_le _, by omega⟩]
    exact congrArg W (at2_eta x)
  rw [e]; exact hk

end

/-! ## The device's own keys -/

section
variable {inb : ∀ d, off d + (![256, 64] : Fin 2 → ℕ) d ≤ S512x512.size d}
  {inb' : ∀ d, off d + (![256, 64] : Fin 2 → ℕ) d ≤ S1024x512.size d}
  {inb1 : ∀ d, off d + (![256, 1] : Fin 2 → ℕ) d ≤ S512x8.size d}

theorem loc_b (hP : PO fb fs n fa) (ho : off = ![256 * (n / 8), 64 * (n % 8)]) {hl}
    {k : ((⟨2, ![256, 64]⟩ : Shape).Idx → Elt F .bf16) → Prog (TpuEff nD τ sig (Elt F) Λ₀ .tc) α}
    (hk : iprop(H c fq fk fv fo Finset.univ qs fs Ir qr fr fb fa fl ∗ R) ⊢ WP c (k (blk 256 64 (256 * (n / 8)) (64 * (n % 8)) fb)) Q) :
    iprop(H c fq fk fv fo Finset.univ qs fs Ir qr fr fb fa fl ∗ R)
      ⊢ WP c (.op (.load (Memref.whole bR) (Rect.unit (s := S512x512) off ![256, 64] inb).toLoadRect hl) k) Q := ld_b ho hk

theorem loc_k (hP : PO fb fs n fa) (ho : off = ![256 * (n / 8), 64 * (n % 8)]) {hl}
    {k : ((⟨2, ![256, 64]⟩ : Shape).Idx → Elt F .bf16) → Prog (TpuEff nD τ sig (Elt F) Λ₀ .tc) α}
    (hk : iprop(H c fq fk fv fo Finset.univ qs fs Ir qr fr fb fa fl ∗ R) ⊢ WP c (k (blk 256 64 (256 * (n / 8)) (64 * (n % 8)) fs)) Q) :
    iprop(H c fq fk fv fo Finset.univ qs fs Ir qr fr fb fa fl ∗ R)
      ⊢ WP c (.op (.load (Memref.whole sR) (Rect.unit (s := S1024x512) off ![256, 64] inb').toLoadRect hl) k) Q :=
  ld_s ho (held_univ _ _) hk

theorem loc_v (hP : PO fb fs n fa) (ho : off = ![512 + 256 * (n / 8), 64 * (n % 8)]) {hl}
    {k : ((⟨2, ![256, 64]⟩ : Shape).Idx → Elt F .bf16) → Prog (TpuEff nD τ sig (Elt F) Λ₀ .tc) α}
    (hk : iprop(H c fq fk fv fo Finset.univ qs fs Ir qr fr fb fa fl ∗ R)
      ⊢ WP c (k (blk 256 64 (512 + 256 * (n / 8)) (64 * (n % 8)) fs)) Q) :
    iprop(H c fq fk fv fo Finset.univ qs fs Ir qr fr fb fa fl ∗ R)
      ⊢ WP c (.op (.load (Memref.whole sR) (Rect.unit (s := S1024x512) off ![256, 64] inb').toLoadRect hl) k) Q :=
  ld_s ho (held_univ _ _) hk

theorem loc_l (hP : PL fb fs n fl) (ho : off = ![256 * (n / 8), n % 8]) {hl}
    {k : ((⟨2, ![256, 1]⟩ : Shape).Idx → Elt F .f32) → Prog (TpuEff nD τ sig (Elt F) Λ₀ .tc) α}
    (hk : iprop(H c fq fk fv fo Is qs fs Ir qr fr fb fa fl ∗ R) ⊢ WP c (k (blk 256 1 (256 * (n / 8)) (n % 8) fl)) Q) :
    iprop(H c fq fk fv fo Is qs fs Ir qr fr fb fa fl ∗ R)
      ⊢ WP c (.op (.load (Memref.whole lR) (Rect.unit (s := S512x8) off ![256, 1] inb1).toLoadRect hl) k) Q := ld_l ho hk

theorem loc_lst (hP : PL fb fs n fl) (ho : off = ![256 * (n / 8), n % 8]) {W : (⟨2, ![256, 1]⟩ : Shape).Idx → Elt F .f32}
    (hW : W = k0_pay27 (blk 256 64 (256 * (n / 8)) (64 * (n % 8)) fb) (blk 256 64 (256 * (n / 8)) (64 * (n % 8)) fs)) {hx hm}
    {k : PUnit → Prog (TpuEff nD τ sig (Elt F) Λ₀ .tc) α}
    (hk : ∀ l', PL fb fs (n + 1) l' → iprop(H c fq fk fv fo Is qs fs Ir qr fr fb fa l' ∗ R) ⊢ WP c (k ⟨⟩) Q) :
    iprop(H c fq fk fv fo Is qs fs Ir qr fr fb fa fl ∗ R)
      ⊢ WP c (.op (.store (Memref.whole lR) (Rect.unit (s := S512x8) off ![256, 1] inb1) W Finset.univ hx hm) k) Q :=
  st_l ho fun f' hu => hk f' (PL_step hP (by rw [← hW]; exact hu))

theorem loc_o (hP : PO fb fs n fa) (ho : off = ![256 * (n / 8), 64 * (n % 8)]) {hl}
    {k : ((⟨2, ![256, 64]⟩ : Shape).Idx → Elt F .f32) → Prog (TpuEff nD τ sig (Elt F) Λ₀ .tc) α}
    (hk : iprop(H c fq fk fv fo Is qs fs Ir qr fr fb fa fl ∗ R) ⊢ WP c (k (blk 256 64 (256 * (n / 8)) (64 * (n % 8)) fa)) Q) :
    iprop(H c fq fk fv fo Is qs fs Ir qr fr fb fa fl ∗ R)
      ⊢ WP c (.op (.load (Memref.whole aR) (Rect.unit (s := S512x512) off ![256, 64] inb).toLoadRect hl) k) Q := ld_a ho hk

theorem loc_ost (hP : PO fb fs n fa) (ho : off = ![256 * (n / 8), 64 * (n % 8)]) {W : (⟨2, ![256, 64]⟩ : Shape).Idx → Elt F .f32}
    (hW : W = k0_pay28 (blk 256 64 (256 * (n / 8)) (64 * (n % 8)) fb) (blk 256 64 (256 * (n / 8)) (64 * (n % 8)) fs)
      (blk 256 64 (512 + 256 * (n / 8)) (64 * (n % 8)) fs)) {hx hm}
    {k : PUnit → Prog (TpuEff nD τ sig (Elt F) Λ₀ .tc) α}
    (hk : ∀ o', PO fb fs (n + 1) o' → iprop(H c fq fk fv fo Is qs fs Ir qr fr fb o' fl ∗ R) ⊢ WP c (k ⟨⟩) Q) :
    iprop(H c fq fk fv fo Is qs fs Ir qr fr fb fa fl ∗ R)
      ⊢ WP c (.op (.store (Memref.whole aR) (Rect.unit (s := S512x512) off ![256, 64] inb) W Finset.univ hx hm) k) Q :=
  st_a ho fun f' hu => hk f' (PO_step hP (by rw [← hW]; exact hu))

/-! ## A quarter of the neighbour's keys -/

variable {inb2 : ∀ d, off d + (![128, 64] : Fin 2 → ℕ) d ≤ S1024x512.size d} {l₀ : CL F} {o₀ : CF F}

theorem q_b (hP : QO q fb fr o₀ n fa) (ho : off = ![256 * (q / 2), 64 * n]) {hl}
    {k : ((⟨2, ![256, 64]⟩ : Shape).Idx → Elt F .bf16) → Prog (TpuEff nD τ sig (Elt F) Λ₀ .tc) α}
    (hk : iprop(H c fq fk fv fo Is qs fs Ir qr fr fb fa fl ∗ R) ⊢ WP c (k (blk 256 64 (256 * (q / 2)) (64 * n) fb)) Q) :
    iprop(H c fq fk fv fo Is qs fs Ir qr fr fb fa fl ∗ R)
      ⊢ WP c (.op (.load (Memref.whole bR) (Rect.unit (s := S512x512) off ![256, 64] inb).toLoadRect hl) k) Q := ld_b ho hk

theorem q_k (hP : QO q fb fr o₀ n fa) (ho : off = ![128 * q, 64 * n]) {hl}
    {k : ((⟨2, ![128, 64]⟩ : Shape).Idx → Elt F .bf16) → Prog (TpuEff nD τ sig (Elt F) Λ₀ .tc) α}
    (hk : iprop(H c fq fk fv fo Is qs fs (qset q) qr fr fb fa fl ∗ R) ⊢ WP c (k (blk 128 64 (128 * q) (64 * n) fr)) Q) :
    iprop(H c fq fk fv fo Is qs fs (qset q) qr fr fb fa fl ∗ R)
      ⊢ WP c (.op (.load (Memref.whole rR) (Rect.unit (s := S1024x512) off ![128, 64] inb2).toLoadRect hl) k) Q :=
  ld_r ho (fun x h0 h1 => mem_qset.mpr (by have := hP.1; omega)) hk

theorem q_v (hP : QO q fb fr o₀ n fa) (ho : off = ![512 + 128 * q, 64 * n]) {hl}
    {k : ((⟨2, ![128, 64]⟩ : Shape).Idx → Elt F .bf16) → Prog (TpuEff nD τ sig (Elt F) Λ₀ .tc) α}
    (hk : iprop(H c fq fk fv fo Is qs fs (qset q) qr fr fb fa fl ∗ R) ⊢ WP c (k (blk 128 64 (512 + 128 * q) (64 * n) fr)) Q) :
    iprop(H c fq fk fv fo Is qs fs (qset q) qr fr fb fa fl ∗ R)
      ⊢ WP c (.op (.load (Memref.whole rR) (Rect.unit (s := S1024x512) off ![128, 64] inb2).toLoadRect hl) k) Q :=
  ld_r ho (fun x h0 h1 => mem_qset.mpr (by have := hP.1; omega)) hk

theorem q_l (hP : QL q fb fr l₀ n fl) (ho : off = ![256 * (q / 2), n]) {hl}
    {k : ((⟨2, ![256, 1]⟩ : Shape).Idx → Elt F .f32) → Prog (TpuEff nD τ sig (Elt F) Λ₀ .tc) α}
    (hk : iprop(H c fq fk fv fo Is qs fs Ir qr fr fb fa fl ∗ R) ⊢ WP c (k (blk 256 1 (256 * (q / 2)) n fl)) Q) :
    iprop(H c fq fk fv fo Is qs fs Ir qr fr fb fa fl ∗ R)
      ⊢ WP c (.op (.load (Memref.whole lR) (Rect.unit (s := S512x8) off ![256, 1] inb1).toLoadRect hl) k) Q := ld_l ho hk

theorem q_lst (hP : QL q fb fr l₀ n fl) (ho : off = ![256 * (q / 2), n]) (hn : n < 8) {W : (⟨2, ![256, 1]⟩ : Shape).Idx → Elt F .f32}
    (hW : W = k0_pay83 (blk 256 64 (256 * (q / 2)) (64 * n) fb) (blk 128 64 (128 * q) (64 * n) fr) (blk 256 1 (256 * (q / 2)) n fl)) {hx hm}
    {k : PUnit → Prog (TpuEff nD τ sig (Elt F) Λ₀ .tc) α}
    (hk : ∀ l', QL q fb fr l₀ (n + 1) l' → iprop(H c fq fk fv fo Is qs fs Ir qr fr fb fa l' ∗ R) ⊢ WP c (k ⟨⟩) Q) :
    iprop(H c fq fk fv fo Is qs fs Ir qr fr fb fa fl ∗ R)
      ⊢ WP c (.op (.store (Memref.whole lR) (Rect.unit (s := S512x8) off ![256, 1] inb1) W Finset.univ hx hm) k) Q :=
  st_l ho fun f' hu => hk f' (QL_step hP hn (by rw [← hW]; exact hu))

theorem q_o (hP : QO q fb fr o₀ n fa) (ho : off = ![256 * (q / 2), 64 * n]) {hl}
    {k : ((⟨2, ![256, 64]⟩ : Shape).Idx → Elt F .f32) → Prog (TpuEff nD τ sig (Elt F) Λ₀ .tc) α}
    (hk : iprop(H c fq fk fv fo Is qs fs Ir qr fr fb fa fl ∗ R) ⊢ WP c (k (blk 256 64 (256 * (q / 2)) (64 * n) fa)) Q) :
    iprop(H c fq fk fv fo Is qs fs Ir qr fr fb fa fl ∗ R)
      ⊢ WP c (.op (.load (Memref.whole aR) (Rect.unit (s := S512x512) off ![256, 64] inb).toLoadRect hl) k) Q := ld_a ho hk

theorem q_ost (hP : QO q fb fr o₀ n fa) (ho : off = ![256 * (q / 2), 64 * n]) (hn : n < 8)
    {W : (⟨2, ![256, 64]⟩ : Shape).Idx → Elt F .f32}
    (hW : W = k0_pay84 (blk 256 64 (256 * (q / 2)) (64 * n) fb) (blk 128 64 (128 * q) (64 * n) fr) (blk 128 64 (512 + 128 * q) (64 * n) fr)
      (blk 256 64 (256 * (q / 2)) (64 * n) fa)) {hx hm}
    {k : PUnit → Prog (TpuEff nD τ sig (Elt F) Λ₀ .tc) α}
    (hk : ∀ o', QO q fb fr o₀ (n + 1) o' → iprop(H c fq fk fv fo Is qs fs Ir qr fr fb o' fl ∗ R) ⊢ WP c (k ⟨⟩) Q) :
    iprop(H c fq fk fv fo Is qs fs Ir qr fr fb fa fl ∗ R)
      ⊢ WP c (.op (.store (Memref.whole aR) (Rect.unit (s := S512x512) off ![256, 64] inb) W Finset.univ hx hm) k) Q :=
  st_a ho fun f' hu => hk f' (QO_step hP hn (by rw [← hW]; exact hu))

/-! ## The division -/

theorem d_a (hP : PD fa fl n fo) (ho : off = ![256 * (n / 8), 64 * (n % 8)]) {hl}
    {k : ((⟨2, ![256, 64]⟩ : Shape).Idx → Elt F .f32) → Prog (TpuEff nD τ sig (Elt F) Λ₀ .tc) α}
    (hk : iprop(H c fq fk fv fo Is qs fs Ir qr fr fb fa fl ∗ R) ⊢ WP c (k (blk 256 64 (256 * (n / 8)) (64 * (n % 8)) fa)) Q) :
    iprop(H c fq fk fv fo Is qs fs Ir qr fr fb fa fl ∗ R)
      ⊢ WP c (.op (.load (Memref.whole aR) (Rect.unit (s := S512x512) off ![256, 64] inb).toLoadRect hl) k) Q := ld_a ho hk

theorem d_l (hP : PD fa fl n fo) (ho : off = ![256 * (n / 8), n % 8]) {hl}
    {k : ((⟨2, ![256, 1]⟩ : Shape).Idx → Elt F .f32) → Prog (TpuEff nD τ sig (Elt F) Λ₀ .tc) α}
    (hk : iprop(H c fq fk fv fo Is qs fs Ir qr fr fb fa fl ∗ R) ⊢ WP c (k (blk 256 1 (256 * (n / 8)) (n % 8) fl)) Q) :
    iprop(H c fq fk fv fo Is qs fs Ir qr fr fb fa fl ∗ R)
      ⊢ WP c (.op (.load (Memref.whole lR) (Rect.unit (s := S512x8) off ![256, 1] inb1).toLoadRect hl) k) Q := ld_l ho hk

theorem d_o (hP : PD fa fl n fo) (ho : off = ![256 * (n / 8), 64 * (n % 8)]) {hl}
    {k : ((⟨2, ![256, 64]⟩ : Shape).Idx → Elt F .f32) → Prog (TpuEff nD τ sig (Elt F) Λ₀ .tc) α}
    (hk : iprop(H c fq fk fv fo Is qs fs Ir qr fr fb fa fl ∗ R) ⊢ WP c (k (blk 256 64 (256 * (n / 8)) (64 * (n % 8)) fo)) Q) :
    iprop(H c fq fk fv fo Is qs fs Ir qr fr fb fa fl ∗ R)
      ⊢ WP c (.op (.load (Memref.whole oR) (Rect.unit (s := S512x512) off ![256, 64] inb).toLoadRect hl) k) Q := ld_o ho hk

theorem d_st (hP : PD fa fl n fo) (ho : off = ![256 * (n / 8), 64 * (n % 8)]) {W : (⟨2, ![256, 64]⟩ : Shape).Idx → Elt F .f32}
    (hW : W = k0_pay189 (blk 256 64 (256 * (n / 8)) (64 * (n % 8)) fa) (blk 256 1 (256 * (n / 8)) (n % 8) fl)) {hx hm}
    {k : PUnit → Prog (TpuEff nD τ sig (Elt F) Λ₀ .tc) α}
    (hk : ∀ f', PD fa fl (n + 1) f' → iprop(H c fq fk fv f' Is qs fs Ir qr fr fb fa fl ∗ R) ⊢ WP c (k ⟨⟩) Q) :
    iprop(H c fq fk fv fo Is qs fs Ir qr fr fb fa fl ∗ R)
      ⊢ WP c (.op (.store (Memref.whole oR) (Rect.unit (s := S512x512) off ![256, 64] inb) W Finset.univ hx hm) k) Q :=
  st_o ho fun f' hu => hk f' (PD_step hP (by rw [← hW]; exact hu))

end

end Cert.KernelIdeal.Run

end
-- ==== Proof.KernelIdealRun.Moves.lean ====
/-
What the exchange's state and the two exchange buffers pass to each other between steps: the rows to be sent are cut
out of the send buffer and come back to it, landed rows are lent to be forwarded, and a quarter that has landed is
taken to be read.
-/
module

public import proofs.«01_k».proof.Proof.KernelIdealRun.Comm
public import proofs.«01_k».proof.Proof.KernelIdealRun.Rules

@[expose] public section

noncomputable section

namespace Cert.KernelIdeal.Run

open Cert.KernelIdeal Cert.KernelIdeal.Gen Cert.Grid2

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable {vk : Dev nD → CK F} {K : GSem nD τ sig → ℕ} {c : Dev nD} {l : List (Fin 16)} {sd rv : Fin 16 → ℕ}
variable {A T T' R X : sProp (MT nD τ sig Unit (Elt F) ℕ UU ℕ)}
variable {fq fk fv fo : CF F} {Is : Finset S1024x512.Idx} {qs : PosShare TreeShare} {fs : CK F}
variable {Ir : Finset S1024x512.Idx} {qr : PosShare TreeShare} {fr : CK F} {fb : CB F} {fa : CF F} {fl : CL F}

/-- A share is its two halves. -/
theorem halves (b : Ref sig .tc) (I : Finset b.ty.Idx) (q : PosShare TreeShare) (f : b.ty.Contents (Elt F)) :
    (At c b I q f : sProp 𝕄) ⊣⊢ iprop(At c b I q.left f ∗ At c b I q.right f) :=
  pointsTo_share (PosShare.mem_left_op_right q)

theorem fam_split (G : Fin 16 → sProp 𝕄) (p : Fin 16 → Prop) [DecidablePred p] :
    bigSep Finset.univ G = iprop(bigSep (Finset.univ.filter p) G ∗ bigSep (Finset.univ.filter fun s => ¬p s) G) :=
  BI.bigSep_filter_split _ _
theorem fam_mono {S : Finset (Fin 16)} {G G' : Fin 16 → sProp 𝕄} (h : ∀ s ∈ S, (G s ⊢ G' s)) : bigSep S G ⊢ bigSep S G' := BI.bigSep_mono h
theorem fam_sep (S : Finset (Fin 16)) (G G' : Fin 16 → sProp 𝕄) :
    bigSep S (fun s => iprop(G s ∗ G' s)) = iprop(bigSep S G ∗ bigSep S G') := BI.bigSep_sep _ _ _

/-- The middle of three parts changed. -/
theorem change (h : T ⊢ T') (hk : iprop(A ∗ (T' ∗ R)) ⊢ X) : iprop(A ∗ (T ∗ R)) ⊢ X :=
  (sep_mono_right (sep_mono_left h)).trans hk

/-! ## Landed rows lent to be forwarded -/

theorem row_fwd (c : Dev nD) {s r : Fin 16} (hr : r.val < 4) (hs : s.val = 8 + r.val ∨ s.val = 12 + r.val) : rowS c s = rowR c r := by
  unfold rowS rowR sq rq
  rw [if_neg (by omega), show r.val / 4 = 0 by omega, show qt c 0 = om c from rfl]
  have h1 : s.val % 2 = r.val % 2 := by omega
  have h2 : s.val % 4 = r.val % 4 := by omega
  rw [h1, h2]

theorem src_y (c : Dev nD) {s r : Fin 16} (hr : r.val < 4) (hs : s.val = 8 + r.val) :
    (srcPts vk c s : sProp 𝕄) = RowsAt vk c r fullShare.left.left := by
  unfold srcPts
  rw [if_neg (by omega), if_pos (by omega), row_fwd c hr (Or.inl hs)]
theorem src_z (c : Dev nD) {s r : Fin 16} (hr : r.val < 4) (hs : s.val = 12 + r.val) :
    (srcPts vk c s : sProp 𝕄) = RowsAt vk c r fullShare.left.right := by
  unfold srcPts
  rw [if_neg (by omega), if_neg (by omega), row_fwd c hr (Or.inr hs)]

/-- To the neighbour along `y`. -/
theorem lend_y (s r : Fin 16) (hr : r.val < 4) (hs : s.val = 8 + r.val) (h1 : sd s = 1) (h2 : rv r = 1) :
    Tk vk K c l sd rv ⊢ Tk vk K c l (Function.update sd s 2) (Function.update rv r 2) := by
  unfold Tk
  rw [fam_take (SD vk c) sd s h1, fam_take (RV vk c) rv r h2, ← fam_put (SD vk c) sd s 2, ← fam_put (RV vk c) rv r 2,
    show SD vk c s 1 = iprop(toks c s ∗ land c s) from rfl,
    show SD vk c s 2 = iprop(toks c s ∗ land c s ∗ srcPts vk c s) from rfl,
    show RV vk c r 1 = iprop(atPos ER (recvCell c r) 1 ∅ 0 ∗ RowsAt vk c r fullShare) from rfl,
    show RV vk c r 2 = iprop(atPos ER (recvCell c r) 1 ∅ 0 ∗ RowsAt vk c r fullShare.right ∗ RowsAt vk c r fullShare.left.right) from rfl,
    src_y c hr hs]
  iintro ⟨H1, H2, H3, ⟨⟨H4, H5⟩, H6⟩, ⟨⟨H7, H8⟩, H9⟩, H10⟩
  ihave H8 := (halves rR (band (rowR c r)) fullShare (kvRem vk c)).1 $$ H8
  icases H8 with ⟨H8, H8r⟩
  ihave H8 := (halves rR (band (rowR c r)) fullShare.left (kvRem vk c)).1 $$ H8
  icases H8 with ⟨H8, H8m⟩
  iframe

/-- And along `z`. -/
theorem lend_z (s r : Fin 16) (hr : r.val < 4) (hs : s.val = 12 + r.val) (h1 : sd s = 1) (h2 : rv r = 2) :
    Tk vk K c l sd rv ⊢ Tk vk K c l (Function.update sd s 2) (Function.update rv r 3) := by
  unfold Tk
  rw [fam_take (SD vk c) sd s h1, fam_take (RV vk c) rv r h2, ← fam_put (SD vk c) sd s 2, ← fam_put (RV vk c) rv r 3,
    show SD vk c s 1 = iprop(toks c s ∗ land c s) from rfl,
    show SD vk c s 2 = iprop(toks c s ∗ land c s ∗ srcPts vk c s) from rfl,
    show RV vk c r 3 = iprop(atPos ER (recvCell c r) 1 ∅ 0 ∗ RowsAt vk c r fullShare.right) from rfl,
    show RV vk c r 2 = iprop(atPos ER (recvCell c r) 1 ∅ 0 ∗ RowsAt vk c r fullShare.right ∗ RowsAt vk c r fullShare.left.right) from rfl,
    src_z c hr hs]
  iintro ⟨H1, H2, H3, ⟨⟨H4, H5⟩, H6⟩, ⟨⟨H7, H8, H8r⟩, H9⟩, H10⟩
  iframe

/-! ## The send buffer cut and joined -/

/-- The rows of the first eight transfers. -/
def sent (c : Dev nD) : Finset S1024x512.Idx := (Finset.univ.filter fun s : Fin 16 => s.val < 8).biUnion fun s => band (rowR c s)

theorem row_own (c : Dev nD) {s : Fin 16} (hs : s.val < 8) : rowS c s = rowR c s := by
  unfold rowS rowR
  have : sq c s = rq c s := by
    unfold sq rq qt
    rcases Nat.lt_or_ge s.val 4 with h | h
    · rw [if_neg (by omega), if_pos (by omega)]
    · rw [if_pos (by omega), if_neg (by omega), if_pos (by omega)]
  rw [this]

theorem sent_quarter {c : Dev nD} {x : S1024x512.Idx} (hx : x ∈ sent c) :
    (x 0).val % 512 / 128 = om c ∨ (x 0).val % 512 / 128 = od c := by
  unfold sent at hx
  obtain ⟨s, hs, hx⟩ := Finset.mem_biUnion.mp hx
  rw [Finset.mem_filter] at hs
  have h := band_quarter hx
  unfold rq qt at h
  rcases Nat.lt_or_ge s.val 4 with h4 | h4
  · rw [if_pos (by omega)] at h; exact .inl h
  · rw [if_neg (by omega), if_pos (by omega)] at h; exact .inr h

/-- The rows cast after the first eight chunks are none of those sent. -/
theorem held_rest (c : Dev nD) {u : ℕ} (h8 : 8 ≤ u) (hu : u < 16) : Held (Finset.univ \ sent c) (rowA c u) 64 := by
  intro x hx hx'
  rw [Finset.mem_sdiff]
  refine ⟨Finset.mem_univ _, fun h => ?_⟩
  have hx0 : (x 0).val < 1024 := lt0 x
  have hq : (x 0).val % 512 / 128 = qt c (u / 4) := by
    have := qt_lt c (u / 4)
    unfold rowA at hx hx'
    have e : u % 2 < 2 := Nat.mod_lt _ (by decide)
    have e' : u / 2 % 2 < 2 := Nat.mod_lt _ (by decide)
    generalize u % 2 = a at *
    generalize u / 2 % 2 = b at *
    have ha : a = 0 ∨ a = 1 := by omega
    have hb : b = 0 ∨ b = 1 := by omega
    rcases ha with rfl | rfl <;> rcases hb with rfl | rfl <;> omega
  have key : ∀ c : Dev nD, (qt c 2 ≠ om c ∧ qt c 2 ≠ od c) ∧ (qt c 3 ≠ om c ∧ qt c 3 ≠ od c) := by decide +kernel
  have h2 : u / 4 = 2 ∨ u / 4 = 3 := by omega
  rcases sent_quarter h with h | h <;> rcases h2 with e | e <;> rw [hq, e] at h
  · exact (key c).1.1 h
  · exact (key c).2.1 h
  · exact (key c).1.2 h
  · exact (key c).2.2 h

/-- The share of the rows being sent that stays behind; the share of the others put by while the buffer is read. -/
def sendR (vk : Dev nD → CK F) (c : Dev nD) : sProp 𝕄 := At c sR (sent c) fullShare.right (vk c)
def sendL (vk : Dev nD → CK F) (c : Dev nD) : sProp 𝕄 := At c sR (Finset.univ \ sent c) fullShare.left (vk c)

/-- The state of the transfers once the first eight have their source. -/
def sd1 : Fin 16 → ℕ := fun s => if s.val < 8 then 2 else 1

theorem give_src : iprop(bigSep Finset.univ (fun s => SD vk c s 1) ∗ At c sR (sent c) fullShare.left (vk c))
    ⊢ bigSep Finset.univ (fun s => SD vk c s (sd1 s)) := by
  have e1 : (At c sR (sent c) fullShare.left (vk c) : sProp 𝕄)
      = bigSep (Finset.univ.filter fun s : Fin 16 => s.val < 8) fun s => At c sR (band (rowR c s)) fullShare.left (vk c) :=
    pointsTo_biUnion _ _ fun t _ t' _ h => band_disj c h
  rw [e1, fam_split (fun s => SD vk c s 1) (fun s => s.val < 8),
    fam_split (fun s => SD vk c s (sd1 s)) (fun s => s.val < 8)]
  have h1 : iprop(bigSep (Finset.univ.filter fun s : Fin 16 => s.val < 8) (fun s => SD vk c s 1)
        ∗ bigSep (Finset.univ.filter fun s : Fin 16 => s.val < 8) fun s => At c sR (band (rowR c s)) fullShare.left (vk c))
      ⊢ bigSep (Finset.univ.filter fun s : Fin 16 => s.val < 8) (fun s => SD vk c s (sd1 s)) := by
    refine (Entails.of_eq (fam_sep _ _ _).symm).trans (fam_mono fun s hs => ?_)
    rw [Finset.mem_filter] at hs
    rw [show sd1 s = 2 from if_pos hs.2, show SD vk c s 1 = iprop(toks c s ∗ land c s) from rfl,
      show SD vk c s 2 = iprop(toks c s ∗ land c s ∗ srcPts vk c s) from rfl, srcPts, if_pos hs.2, row_own c hs.2]
    iintro ⟨⟨H1, H2⟩, H3⟩
    iframe
  have h2 : (bigSep (Finset.univ.filter fun s : Fin 16 => ¬s.val < 8) (fun s => SD vk c s 1) : sProp 𝕄)
      ⊢ bigSep (Finset.univ.filter fun s : Fin 16 => ¬s.val < 8) (fun s => SD vk c s (sd1 s)) :=
    fam_mono fun s hs => by
      rw [Finset.mem_filter] at hs
      rw [show sd1 s = 1 from if_neg hs.2]
  iintro ⟨⟨H1, H2⟩, H3⟩
  isplitl [H1 H3]
  · iapply h1
    isplitl [H1]; · iexact H1
    iexact H3
  · iapply h2; iexact H2

/-- The eight chunks cast first are cut out of the send buffer, half their share going to the transfers. -/
theorem split_send (hvk : vk c = kvSend fk fv) (hP : PC c fk fv 8 fs)
    (hk : iprop(H c fq fk fv fo (Finset.univ \ sent c) fullShare fs Ir qr fr fb fa fl ∗ (Tk vk K c l sd1 rv ∗ (sendR vk c ∗ R))) ⊢ X) :
    iprop(H c fq fk fv fo Finset.univ fullShare fs Ir qr fr fb fa fl ∗ (Tk vk K c l (fun _ => 1) rv ∗ R)) ⊢ X := by
  refine BIBase.Entails.trans ?_ hk
  have hc : (At c sR (sent c) fullShare fs : sProp 𝕄) = At c sR (sent c) fullShare (vk c) :=
    pointsTo_congr fun x hx => by
      rw [hvk]
      exact PC_half hP (by
        rcases sent_quarter hx with h | h
        · exact .inl (mem_qset.mpr h)
        · exact .inr (mem_qset.mpr h))
  unfold H Tk sendR
  iintro ⟨⟨H1, H2, H3, H4, H5, H6⟩, ⟨T1, T2, T3, T4, T5⟩, HR⟩
  ihave H5 := (pointsTo_split_subset (Finset.subset_univ (sent c))).1 $$ H5
  icases H5 with ⟨H5s, H5r⟩
  ihave H5s := (Entails.of_eq hc) $$ H5s
  ihave H5s := (halves sR (sent c) fullShare (vk c)).1 $$ H5s
  icases H5s with ⟨H5s, H5t⟩
  ihave T4 := (give_src (vk := vk) (c := c)) $$ [T4 H5s]
  · isplitl [T4] <;> iassumption
  iframe

/-- All cast: the shares at hand make up the whole buffer, to be read. -/
theorem join_send
    (hk : iprop(H c fq fk fv fo Finset.univ fullShare.right (vk c) Ir qr fr fb fa fl ∗ (T ∗ (sendL vk c ∗ R))) ⊢ X) :
    iprop(H c fq fk fv fo (Finset.univ \ sent c) fullShare (vk c) Ir qr fr fb fa fl ∗ (T ∗ (sendR vk c ∗ R))) ⊢ X := by
  refine BIBase.Entails.trans ?_ hk
  unfold H sendR sendL
  iintro ⟨⟨H1, H2, H3, H4, H5, H6⟩, HT, H7, HR⟩
  ihave H5 := (halves sR (Finset.univ \ sent c) fullShare (vk c)).1 $$ H5
  icases H5 with ⟨H5l, H5r⟩
  ihave H5 := (pointsTo_split_subset (ℓ := ((c : Thread nD τ).loc sR)) (q := fullShare.right) (f := vk c) (Finset.subset_univ (sent c))).2 $$ [H5r H7]
  · isplitl [H7]; · iexact H7
    iexact H5r
  iframe

/-! ## The transfers started -/

theorem srcDev_own (c : Dev nD) (s : Fin 16) (hs : s.val < 8) : srcDev (peer c s) (sq c s) = c := by
  revert c s; decide +kernel
theorem srcDev_fwd (c : Dev nD) (s : Fin 16) (hs : ¬s.val < 8) : srcDev (peer c s) (sq c s) = srcDev c (sq c s) := by
  revert c s; decide +kernel

/-- An element of the rows of transfer `s` is in its quarter. -/
theorem emb_quarter {s : Fin 16} {off : Fin 2 → ℕ} {inb : ∀ d, off d + S64x512.size d ≤ S1024x512.size d} (ho : off = ![rowS c s, 0])
    (x : S64x512.Idx) : (((Rect.unit (s := S1024x512) off S64x512.size inb).emb x) 0).val % 512 / 128 = sq c s := by
  have hm : (Rect.unit (s := S1024x512) off S64x512.size inb).emb x ∈ band (rowR (peer c s) s) := by
    rw [← rowS_eq, ← band_rect ho inb]
    rw [← View.set_slice_whole cc0_scratch1]
    exact Finset.mem_map_of_mem _ (Finset.mem_univ _)
  rw [band_quarter hm, sq_eq]

section
variable {α : Type} {Q : α → sProp (MT nD τ sig Unit (Elt F) ℕ UU ℕ)} {k : PUnit → Prog (TpuEff nD τ sig (Elt F) Λ₀ .tc) α}

/-- One of a device's own eight chunks, across `x`. -/
theorem enq_x {d : Dev nD} (s : Fin 16) (hs : s.val < 8) (hd : d = peer c s)
    {off : Fin 2 → ℕ} {inb : ∀ d, off d + S64x512.size d ≤ S1024x512.size d} (ho : off = ![rowS c s, 0])
    {hsc} {sS sV : DmaSem sig} (hS : sS = sSem s) (hV : sV = rSem s) {hsrc hdst hty} (hsd : sd s = 2)
    (hk : iprop(A ∗ (Tk vk K c l (Function.update sd s 3) rv ∗ R)) ⊢ WP c (k ⟨⟩) Q) :
    iprop(A ∗ (Tk vk K c (s :: l) sd rv ∗ R))
      ⊢ WP c (.op (.enqueueDma ((Memref.whole cc0_scratch0).slice (Rect.unit (s := S1024x512) off S64x512.size inb) (fun _ => rfl))
          (.remote (Dev.tc d) ((Memref.whole cc0_scratch1).slice (Rect.unit (s := S1024x512) off S64x512.size inb) (fun _ => rfl))
          (.dma sS) hsc) (.dma sV) hsrc hdst hty) k) Q :=
  enq_core s hd ho hS hV (q := fullShare.left) (fs := vk c)
    (by
      have hset : ((Memref.whole cc0_scratch0).slice (Rect.unit (s := S1024x512) off S64x512.size inb) (fun _ => rfl)).view.set = band (rowS c s) :=
        (View.set_slice_whole _ _).trans (band_rect ho inb)
      rw [srcPts, if_pos hs, hset])
    (fun x => by
      unfold kvRem
      rw [emb_quarter ho x, srcDev_own c s hs]
      rfl)
    hsd hk

/-- One of the four chunks landed first, forwarded. -/
theorem enq_f {d : Dev nD} (s : Fin 16) (hs : ¬s.val < 8) (hd : d = peer c s)
    {off : Fin 2 → ℕ} {inb : ∀ d, off d + S64x512.size d ≤ S1024x512.size d} (ho : off = ![rowS c s, 0])
    {hsc} {sS sV : DmaSem sig} (hS : sS = sSem s) (hV : sV = rSem s) {hsrc hdst hty} (hsd : sd s = 2)
    (hk : iprop(A ∗ (Tk vk K c l (Function.update sd s 3) rv ∗ R)) ⊢ WP c (k ⟨⟩) Q) :
    iprop(A ∗ (Tk vk K c (s :: l) sd rv ∗ R))
      ⊢ WP c (.op (.enqueueDma ((Memref.whole cc0_scratch1).slice (Rect.unit (s := S1024x512) off S64x512.size inb) (fun _ => rfl))
          (.remote (Dev.tc d) ((Memref.whole cc0_scratch1).slice (Rect.unit (s := S1024x512) off S64x512.size inb) (fun _ => rfl))
          (.dma sS) hsc) (.dma sV) hsrc hdst hty) k) Q :=
  enq_core s hd ho hS hV (q := if s.val < 12 then fullShare.left.left else fullShare.left.right) (fs := kvRem vk c)
    (by
      have hset : ((Memref.whole cc0_scratch1).slice (Rect.unit (s := S1024x512) off S64x512.size inb) (fun _ => rfl)).view.set = band (rowS c s) :=
        (View.set_slice_whole _ _).trans (band_rect ho inb)
      rw [srcPts, if_neg hs, hset]
      split <;> rfl)
    (fun x => by
      show kvRem vk c ((Rect.unit (s := S1024x512) off S64x512.size inb).emb x) = _
      unfold kvRem
      rw [emb_quarter ho x, srcDev_fwd c s hs])
    hsd hk

theorem fwd_y : ∀ s : Fin 16, ¬s.val < 8 → (s - 8).val < 4 → s.val = 8 + (s - 8).val := by decide
theorem fwd_z : ∀ s : Fin 16, ¬s.val < 8 → (s - 12).val < 4 → s.val = 12 + (s - 12).val := by decide

/-- A first forwarding of a landing, out of a first part of it. -/
theorem enq_y {d : Dev nD} (s : Fin 16) (hs : ¬s.val < 8) (hr : (s - 8).val < 4) (hd : d = peer c s)
    {off : Fin 2 → ℕ} {inb : ∀ d, off d + S64x512.size d ≤ S1024x512.size d} (ho : off = ![rowS c s, 0])
    {hsc} {sS sV : DmaSem sig} (hS : sS = sSem s) (hV : sV = rSem s) {hsrc hdst hty} (hsd : sd s = 1) (hrv : rv (s - 8) = 1)
    (hk : iprop(A ∗ (Tk vk K c l (Function.update (Function.update sd s 2) s 3) (Function.update rv (s - 8) 2) ∗ R)) ⊢ WP c (k ⟨⟩) Q) :
    iprop(A ∗ (Tk vk K c (s :: l) sd rv ∗ R))
      ⊢ WP c (.op (.enqueueDma ((Memref.whole cc0_scratch1).slice (Rect.unit (s := S1024x512) off S64x512.size inb) (fun _ => rfl))
          (.remote (Dev.tc d) ((Memref.whole cc0_scratch1).slice (Rect.unit (s := S1024x512) off S64x512.size inb) (fun _ => rfl))
          (.dma sS) hsc) (.dma sV) hsrc hdst hty) k) Q :=
  change (lend_y s (s - 8) hr (fwd_y s hs hr) hsd hrv)
    (enq_f s hs hd ho hS hV (Function.update_self ..) hk)

/-- A second forwarding of a landing, out of a second part of it. -/
theorem enq_z {d : Dev nD} (s : Fin 16) (hs : ¬s.val < 8) (hr : (s - 12).val < 4) (hd : d = peer c s)
    {off : Fin 2 → ℕ} {inb : ∀ d, off d + S64x512.size d ≤ S1024x512.size d} (ho : off = ![rowS c s, 0])
    {hsc} {sS sV : DmaSem sig} (hS : sS = sSem s) (hV : sV = rSem s) {hsrc hdst hty} (hsd : sd s = 1) (hrv : rv (s - 12) = 2)
    (hk : iprop(A ∗ (Tk vk K c l (Function.update (Function.update sd s 2) s 3) (Function.update rv (s - 12) 3) ∗ R)) ⊢ WP c (k ⟨⟩) Q) :
    iprop(A ∗ (Tk vk K c (s :: l) sd rv ∗ R))
      ⊢ WP c (.op (.enqueueDma ((Memref.whole cc0_scratch1).slice (Rect.unit (s := S1024x512) off S64x512.size inb) (fun _ => rfl))
          (.remote (Dev.tc d) ((Memref.whole cc0_scratch1).slice (Rect.unit (s := S1024x512) off S64x512.size inb) (fun _ => rfl))
          (.dma sS) hsc) (.dma sV) hsrc hdst hty) k) Q :=
  change (lend_z s (s - 12) hr (fwd_z s hs hr) hsd hrv)
    (enq_f s hs hd ho hS hV (Function.update_self ..) hk)

end

/-! ## A quarter taken to be read -/

/-- The share a quarter is read at. -/
def shr (i : ℕ) : PosShare TreeShare := if i = 0 then fullShare.right else fullShare

theorem take (i : ℕ) (hi : i < 4) (hrv : ∀ r : Fin 16, r.val / 4 = i → rv r = if i = 0 then 3 else 1)
    (hk : iprop(H c fq fk fv fo Is qs fs (qset (qt c i)) (shr i) (kvRem vk c) fb fa fl
      ∗ (Tk vk K c l sd (fun r => if r.val / 4 = i then 4 else rv r) ∗ R)) ⊢ X) :
    iprop(H c fq fk fv fo Is qs fs ∅ qr fr fb fa fl ∗ (Tk vk K c l sd rv ∗ R)) ⊢ X := by
  refine BIBase.Entails.trans ?_ hk
  have e1 : (At c rR (qset (qt c i)) (shr i) (kvRem vk c) : sProp 𝕄)
      = bigSep (Finset.univ.filter fun r : Fin 16 => r.val / 4 = i) fun r => At c rR (band (rowR c r)) (shr i) (kvRem vk c) := by
    rw [← quarter_bands c i hi]
    exact pointsTo_biUnion _ _ fun t _ t' _ h => band_disj c h
  have h1 : (bigSep (Finset.univ.filter fun r : Fin 16 => r.val / 4 = i) (fun r => RV vk c r (rv r)) : sProp 𝕄)
      ⊢ iprop(bigSep (Finset.univ.filter fun r : Fin 16 => r.val / 4 = i) (fun r => RV vk c r (if r.val / 4 = i then 4 else rv r))
        ∗ bigSep (Finset.univ.filter fun r : Fin 16 => r.val / 4 = i) fun r => At c rR (band (rowR c r)) (shr i) (kvRem vk c)) := by
    refine BIBase.Entails.trans (fam_mono fun r hr => ?_) (Entails.of_eq (fam_sep _ _ _))
    rw [Finset.mem_filter] at hr
    rw [hrv r hr.2, if_pos hr.2]
    unfold shr
    by_cases h0 : i = 0
    · rw [if_pos h0, if_pos h0]; exact .rfl
    · rw [if_neg h0, if_neg h0]; exact .rfl
  have h2 : (bigSep (Finset.univ.filter fun r : Fin 16 => ¬r.val / 4 = i) (fun r => RV vk c r (rv r)) : sProp 𝕄)
      ⊢ bigSep (Finset.univ.filter fun r : Fin 16 => ¬r.val / 4 = i) (fun r => RV vk c r (if r.val / 4 = i then 4 else rv r)) :=
    fam_mono fun r hr => by
      rw [Finset.mem_filter] at hr
      rw [if_neg hr.2]
  unfold H Tk
  rw [fam_split (fun r => RV vk c r (rv r)) (fun r => r.val / 4 = i),
    fam_split (fun r => RV vk c r (if r.val / 4 = i then 4 else rv r)) (fun r => r.val / 4 = i), e1]
  iintro ⟨⟨H1, H2, H3, H4, H5, -, H6⟩, ⟨T1, T2, T3, T4, ⟨T5, T6⟩, T7⟩, HR⟩
  ihave T5 := h1 $$ T5
  icases T5 with ⟨T5, T5r⟩
  ihave T6 := h2 $$ T6
  iframe

/-- And put by. -/
theorem drop (i : ℕ)
    (hk : iprop(H c fq fk fv fo Is qs fs ∅ (shr i) (kvRem vk c) fb fa fl
      ∗ (T ∗ (At c rR (qset (qt c i)) (shr i) (kvRem vk c) ∗ R))) ⊢ X) :
    iprop(H c fq fk fv fo Is qs fs (qset (qt c i)) (shr i) (kvRem vk c) fb fa fl ∗ (T ∗ R)) ⊢ X := by
  refine BIBase.Entails.trans ?_ hk
  unfold H
  rw [show (At c rR (∅ : Finset S1024x512.Idx) (shr i) (kvRem vk c) : sProp 𝕄) = iprop(emp) from pointsTo_empty]
  iintro ⟨⟨H1, H2, H3, H4, H5, H6, H7⟩, HT, HR⟩
  iframe

/-! ## The barrier's three signals -/

theorem give_barPay (c : Dev nD) (g : Fin 3) (f : CK F) :
    iprop(bigSep (Finset.univ.filter fun r => grp r = g) (fun r => At (F := F) c rR (band (rowR c r)) fullShare f)
        ∗ bigSep (Finset.univ.filter fun r => grp r = g) (fun r => reached ER (recvCell c r) 0))
      ⊢ barPay (F := F) (from' c g) g := by
  rw [barPay_from, ← fam_sep]
  refine fam_mono fun s _ => ?_
  iintro ⟨H1, H2⟩
  isplitl [H1]; · iexists f; iexact H1
  iexact H2

/-- Each neighbour is given the landing rows it will fill, and the landing buffer is then empty of what is held. -/
theorem signals {d0 d1 d2 : Dev nD} (h0 : d0 = from' c 0) (h1 : d1 = from' c 1) (h2 : d2 = from' c 2) {n : ℕ} (hn : n = 1)
    {sem : Sem sig} (hsem : sem = barrier0)
    {α : Type} {Q : α → sProp (MT nD τ sig Unit (Elt F) ℕ UU ℕ)} {k : PUnit → Prog (TpuEff nD τ sig (Elt F) Λ₀ .tc) α}
    (hk : iprop(H c fq fk fv fo Is qs fs ∅ qr fr fb fa fl ∗ (TkB vk K c ∗ R)) ⊢ WP c (k ⟨⟩) Q) :
    iprop(H c fq fk fv fo Is qs fs Finset.univ fullShare fr fb fa fl ∗ (Tk0 vk K c ∗ R))
      ⊢ WP c (.op (.semSignal (Dev.tc d0) sem n) fun _ => .op (.semSignal (Dev.tc d1) sem n) fun _ => .op (.semSignal (Dev.tc d2) sem n) k) Q := by
  have e1 : (At c rR Finset.univ fullShare fr : sProp 𝕄) = bigSep Finset.univ fun r => At c rR (band (rowR c r)) fullShare fr := by
    have hu : (Finset.univ : Finset (Fin 16)).biUnion (fun r => band (rowR c r)) = Finset.univ := by
      ext x; simp only [Finset.mem_biUnion, Finset.mem_univ, true_and, iff_true]; exact mem_bands c x
    rw [← hu]
    exact pointsTo_biUnion _ _ fun t _ t' _ h => band_disj c h
  have e2 (G : Fin 16 → sProp 𝕄) : bigSep Finset.univ G ⊢ iprop(bigSep (Finset.univ.filter fun r => grp r = 0) G
      ∗ bigSep (Finset.univ.filter fun r => grp r = 1) G ∗ bigSep (Finset.univ.filter fun r => grp r = 2) G) := by
    have hu : (Finset.univ : Finset (Fin 16)) = (Finset.univ.filter fun r => grp r = 0) ∪ ((Finset.univ.filter fun r => grp r = 1) ∪ (Finset.univ.filter fun r => grp r = 2)) := by
      decide
    rw [hu]
    refine Entails.of_eq ((BI.bigSep_union (by decide)).trans ?_)
    rw [BI.bigSep_union (by decide)]
    have a0 : (Finset.univ.filter fun r => grp r = 0) ∪ ((Finset.univ.filter fun r => grp r = 1) ∪ (Finset.univ.filter fun r => grp r = 2)) = (Finset.univ : Finset (Fin 16)) := hu.symm
    rw [a0]; rfl
  have e3 : (bigSep Finset.univ (fun g : Fin 3 => dutyTok ER (barCell (from' c g)) 0 g) : sProp 𝕄)
      ⊢ iprop(dutyTok ER (barCell (from' c 0)) 0 0 ∗ dutyTok ER (barCell (from' c 1)) 0 1 ∗ dutyTok ER (barCell (from' c 2)) 0 2) := by
    rw [show (Finset.univ : Finset (Fin 3)) = {0, 1, 2} from rfl]
    refine Entails.of_eq ((BI.bigSep_insert (by decide)).trans ?_)
    rw [BI.bigSep_insert (by decide), BI.bigSep_singleton]; rfl
  unfold H Tk0 TkB at *
  rw [show (At c rR (∅ : Finset S1024x512.Idx) qr fr : sProp 𝕄) = iprop(emp) from pointsTo_empty] at hk
  rw [e1]
  iintro ⟨⟨H1, H2, H3, H4, H5, H6, H7⟩, ⟨T1, #HI, ⟨%W, HO⟩, T4, T5, Htk, #Hre, T8⟩, HR⟩
  ihave H6 := e2 _ $$ H6
  icases H6 with ⟨H60, H61, H62⟩
  ihave Hre := e2 _ $$ Hre
  icases Hre with ⟨Hr0, Hr1, Hr2⟩
  ihave Htk := e3 $$ Htk
  icases Htk with ⟨Ht0, Ht1, Ht2⟩
  unfold O₀
  iapply (signal (vk := vk) (K := K) (c := c) h0 hn hsem) $$ [HO Ht0 H60 Hr0]
  · isplitr; · iexact HI
    isplitl [HO]; · iexact HO
    isplitl [Ht0]; · iexact Ht0
    iapply (give_barPay c 0 fr)
    isplitl [H60]; · iexact H60
    iexact Hr0
  iintro HO
  iapply (signal (vk := vk) (K := K) (c := c) h1 hn hsem) $$ [HO Ht1 H61 Hr1]
  · isplitr; · iexact HI
    isplitl [HO]; · iexact HO
    isplitl [Ht1]; · iexact Ht1
    iapply (give_barPay c 1 fr)
    isplitl [H61]; · iexact H61
    iexact Hr1
  iintro HO
  iapply (signal (vk := vk) (K := K) (c := c) h2 hn hsem) $$ [HO Ht2 H62 Hr2]
  · isplitr; · iexact HI
    isplitl [HO]; · iexact HO
    isplitl [Ht2]; · iexact Ht2
    iapply (give_barPay c 2 fr)
    isplitl [H62]; · iexact H62
    iexact Hr2
  iintro HO
  iapply hk
  iframe
  isplitr; · iexact HI
  iexists W; iexact HO

end

end Cert.KernelIdeal.Run
-- ==== Proof.KernelIdealRun.Finish.lean ====
/-
The end of the exchange: the shares lent to transfers come back together into whole buffers, and every cell of the
exchange is closed with its counter at zero.
-/
module

public import proofs.«01_k».proof.Proof.KernelIdealRun.Moves

@[expose] public section

noncomputable section

namespace Cert.KernelIdeal.Run

open Cert.KernelIdeal Cert.KernelIdeal.Gen Cert.Grid2

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {vk : Dev nD → CK F} {K : GSem nD τ sig → ℕ} {c : Dev nD} {sd rv : Fin 16 → ℕ}
variable {R : sProp (MT nD τ sig Unit (Elt F) ℕ UU ℕ)}
variable {fq fk fv fo : CF F} {qr : PosShare TreeShare} {fr : CK F} {fb : CB F} {fa : CF F} {fl : CL F}

/-- The exchange is over: nothing is owed, and every cell is past its round. -/
def Over (vk : Dev nD → CK F) (K : GSem nD τ sig → ℕ) (c : Dev nD) : sProp 𝕄 :=
  iprop(invs vk K ∗ (∃ W, owes (c : Thread nD τ) 0 W)
    ∗ bigSep Finset.univ (fun s => atPos ER (sendCell c s) 1 ∅ 0) ∗ bigSep Finset.univ (fun r => atPos ER (recvCell c r) 1 ∅ 0)
    ∗ atPos ER (barCell c) 1 ∅ 0)

/-- The four quarters of the landing buffer. -/
theorem quarters (c : Dev nD) (f : CK F) :
    iprop(At c rR (qset (qt c 0)) fullShare f ∗ At c rR (qset (qt c 1)) fullShare f ∗ At c rR (qset (qt c 2)) fullShare f
      ∗ At c rR (qset (qt c 3)) fullShare f) ⊢ (At c rR Finset.univ fullShare f : sProp 𝕄) := by
  have e (i : ℕ) (hi : i < 4) : (At c rR (qset (qt c i)) fullShare f : sProp 𝕄)
      = bigSep (Finset.univ.filter fun r : Fin 16 => r.val / 4 = i) fun r => At c rR (band (rowR c r)) fullShare f := by
    rw [← quarter_bands c i hi]
    exact pointsTo_biUnion _ _ fun t _ t' _ h => band_disj c h
  have eu : (At c rR Finset.univ fullShare f : sProp 𝕄) = bigSep Finset.univ fun r => At c rR (band (rowR c r)) fullShare f := by
    have hu : (Finset.univ : Finset (Fin 16)).biUnion (fun r => band (rowR c r)) = Finset.univ := by
      ext x; simp only [Finset.mem_biUnion, Finset.mem_univ, true_and, iff_true]; exact mem_bands c x
    rw [← hu]
    exact pointsTo_biUnion _ _ fun t _ t' _ h => band_disj c h
  have hF : (Finset.univ : Finset (Fin 16)) = (Finset.univ.filter fun r => r.val / 4 = 0) ∪ ((Finset.univ.filter fun r => r.val / 4 = 1)
      ∪ ((Finset.univ.filter fun r => r.val / 4 = 2) ∪ (Finset.univ.filter fun r => r.val / 4 = 3))) := by decide
  rw [eu, e 0 (by decide), e 1 (by decide), e 2 (by decide), e 3 (by decide)]
  generalize (fun r => (At c rR (band (rowR c r)) fullShare f : sProp 𝕄)) = G
  have h : (bigSep ((Finset.univ.filter fun r : Fin 16 => r.val / 4 = 0) ∪ ((Finset.univ.filter fun r => r.val / 4 = 1)
      ∪ ((Finset.univ.filter fun r => r.val / 4 = 2) ∪ (Finset.univ.filter fun r => r.val / 4 = 3)))) G : sProp 𝕄)
    = iprop(bigSep (Finset.univ.filter fun r => r.val / 4 = 0) G ∗ bigSep (Finset.univ.filter fun r => r.val / 4 = 1) G
      ∗ bigSep (Finset.univ.filter fun r => r.val / 4 = 2) G ∗ bigSep (Finset.univ.filter fun r => r.val / 4 = 3) G) := by
    refine (BI.bigSep_union (by decide)).trans ?_
    rw [BI.bigSep_union (by decide), BI.bigSep_union (by decide)]; rfl
  rw [← hF] at h
  exact Entails.of_eq h.symm

/-- The rows of the first quarter, as the sources of four forwarding transfers. -/
theorem fwd_union (c : Dev nD) (b : ℕ) (hb : b = 8 ∨ b = 12) (q : PosShare TreeShare) (f : CK F) :
    (bigSep (Finset.univ.filter fun s : Fin 16 => b ≤ s.val ∧ s.val < b + 4) fun s => At c rR (band (rowS c s)) q f : sProp 𝕄)
      = At c rR (qset (qt c 0)) q f := by
  have hrow (s : Fin 16) (h : b ≤ s.val ∧ s.val < b + 4) : rowS c s = rowR c ⟨s.val - b, by omega⟩ :=
    row_fwd c (r := ⟨s.val - b, by omega⟩) (by show s.val - b < 4; omega) (by rcases hb with rfl | rfl <;> simp only <;> omega)
  have hu : (Finset.univ.filter fun s : Fin 16 => b ≤ s.val ∧ s.val < b + 4).biUnion (fun s => band (rowS c s)) = qset (qt c 0) := by
    rw [← quarter_bands c 0 (by decide)]
    ext x
    simp only [Finset.mem_biUnion, Finset.mem_filter, Finset.mem_univ, true_and]
    constructor
    · rintro ⟨s, hs, hx⟩
      rw [hrow s hs] at hx
      exact ⟨_, by show (s.val - b) / 4 = 0; omega, hx⟩
    · rintro ⟨r, hr, hx⟩
      have hr4 : r.val < 4 := by omega
      have hl : b + r.val < 16 := by omega
      refine ⟨⟨b + r.val, hl⟩, ⟨by simp only; omega, by simp only; omega⟩, ?_⟩
      rw [hrow ⟨b + r.val, hl⟩ ⟨by simp only; omega, by simp only; omega⟩]
      have er : (⟨b + r.val - b, by omega⟩ : Fin 16) = r := Fin.ext (by simp only; omega)
      rw [er]; exact hx
  rw [← hu]
  refine (pointsTo_biUnion _ _ fun s hs s' hs' h => ?_).symm
  have h1 := (Finset.mem_filter.mp hs).2
  have h2 := (Finset.mem_filter.mp hs').2
  show Disjoint (band (rowS c s)) (band (rowS c s'))
  rw [hrow s h1, hrow s' h2]
  refine band_disj c fun he => h (Fin.ext ?_)
  have := congrArg Fin.val he
  simp only at this; omega

/-- Every source is back: the shares of the send buffer and of the first quarter of the landing buffer. -/
theorem sources (vk : Dev nD → CK F) (c : Dev nD) : bigSep Finset.univ (fun s => srcPts vk c s)
    ⊢ iprop(At c sR (sent c) fullShare.left (vk c) ∗ At c rR (qset (qt c 0)) fullShare.left.left (kvRem vk c)
      ∗ At c rR (qset (qt c 0)) fullShare.left.right (kvRem vk c)) := by
  have hF : (Finset.univ : Finset (Fin 16)) = (Finset.univ.filter fun s => s.val < 8)
      ∪ ((Finset.univ.filter fun s => 8 ≤ s.val ∧ s.val < 8 + 4) ∪ (Finset.univ.filter fun s => 12 ≤ s.val ∧ s.val < 12 + 4)) := by decide
  have h : (bigSep ((Finset.univ.filter fun s : Fin 16 => s.val < 8)
      ∪ ((Finset.univ.filter fun s => 8 ≤ s.val ∧ s.val < 8 + 4) ∪ (Finset.univ.filter fun s => 12 ≤ s.val ∧ s.val < 12 + 4))) (fun s => srcPts vk c s) : sProp 𝕄)
    = iprop(bigSep (Finset.univ.filter fun s => s.val < 8) (fun s => srcPts vk c s)
      ∗ bigSep (Finset.univ.filter fun s => 8 ≤ s.val ∧ s.val < 8 + 4) (fun s => srcPts vk c s)
      ∗ bigSep (Finset.univ.filter fun s => 12 ≤ s.val ∧ s.val < 12 + 4) (fun s => srcPts vk c s)) := by
    refine (BI.bigSep_union (by decide)).trans ?_
    rw [BI.bigSep_union (by decide)]; rfl
  rw [← hF] at h
  rw [h]
  have e0 : (bigSep (Finset.univ.filter fun s : Fin 16 => s.val < 8) (fun s => srcPts vk c s) : sProp 𝕄)
      = At c sR (sent c) fullShare.left (vk c) := by
    have e : (At c sR (sent c) fullShare.left (vk c) : sProp 𝕄)
        = bigSep (Finset.univ.filter fun s : Fin 16 => s.val < 8) fun s => At c sR (band (rowR c s)) fullShare.left (vk c) :=
      pointsTo_biUnion _ _ fun t _ t' _ h => band_disj c h
    rw [e]
    refine BI.bigSep_congr fun s hs => ?_
    have h8 := (Finset.mem_filter.mp hs).2
    unfold srcPts
    rw [if_pos h8, row_own c h8]
  have e1 : (bigSep (Finset.univ.filter fun s : Fin 16 => 8 ≤ s.val ∧ s.val < 8 + 4) (fun s => srcPts vk c s) : sProp 𝕄)
      = At c rR (qset (qt c 0)) fullShare.left.left (kvRem vk c) := by
    rw [← fwd_union c 8 (.inl rfl)]
    refine BI.bigSep_congr fun s hs => ?_
    have h8 := (Finset.mem_filter.mp hs).2
    unfold srcPts
    rw [if_neg (by omega), if_pos (by omega)]
  have e2 : (bigSep (Finset.univ.filter fun s : Fin 16 => 12 ≤ s.val ∧ s.val < 12 + 4) (fun s => srcPts vk c s) : sProp 𝕄)
      = At c rR (qset (qt c 0)) fullShare.left.right (kvRem vk c) := by
    rw [← fwd_union c 12 (.inr rfl)]
    refine BI.bigSep_congr fun s hs => ?_
    have h8 := (Finset.mem_filter.mp hs).2
    unfold srcPts
    rw [if_neg (by omega), if_neg (by omega)]
  rw [e0, e1, e2]

/-- The end of the run: the buffers whole again, the exchange over. -/
theorem gather (hsd : ∀ s, sd s = 4) (hrv : ∀ r, rv r = 4) :
    iprop(H c fq fk fv fo Finset.univ fullShare.right (vk c) ∅ qr fr fb fa fl ∗ (Tk vk K c [] sd rv
      ∗ (At c rR (qset (qt c 1)) (shr 1) (kvRem vk c) ∗ (At c rR (qset (qt c 3)) (shr 3) (kvRem vk c)
      ∗ (At c rR (qset (qt c 2)) (shr 2) (kvRem vk c) ∗ (At c rR (qset (qt c 0)) (shr 0) (kvRem vk c) ∗ (sendL vk c ∗ R)))))))
    ⊢ iprop(H c fq fk fv fo Finset.univ fullShare (vk c) Finset.univ fullShare (kvRem vk c) fb fa fl ∗ (Over vk K c ∗ R)) := by
  have e1 : (bigSep Finset.univ (fun s => SD vk c s (sd s)) : sProp 𝕄)
      = iprop(bigSep Finset.univ (fun s => atPos ER (sendCell c s) 1 ∅ 0) ∗ bigSep Finset.univ (fun s => srcPts vk c s)) := by
    rw [← fam_sep]; exact BI.bigSep_congr fun s _ => by rw [hsd s]; rfl
  have e2 : (bigSep Finset.univ (fun r => RV vk c r (rv r)) : sProp 𝕄) = bigSep Finset.univ (fun r => atPos ER (recvCell c r) 1 ∅ 0) :=
    BI.bigSep_congr fun s _ => by rw [hrv s]; rfl
  unfold Tk Over H sendL
  rw [e1, e2, owed_nil, show shr 1 = fullShare from rfl, show shr 2 = fullShare from rfl, show shr 3 = fullShare from rfl,
    show shr 0 = fullShare.right from rfl]
  iintro ⟨⟨H1, H2, H3, H4, H5, -, H7⟩, ⟨-, HI, HO, ⟨Hs, Hp⟩, Hr, Hb⟩, Q1, Q3, Q2, Q0, HL, HR⟩
  ihave Hp := (sources vk c) $$ Hp
  icases Hp with ⟨P1, P2, P3⟩
  ihave HL := (pointsTo_split_subset (ℓ := ((c : Thread nD τ).loc sR)) (q := fullShare.left) (f := vk c) (Finset.subset_univ (sent c))).2 $$ [P1 HL]
  · isplitl [P1]; · iexact P1
    iexact HL
  ihave H5 := (halves sR Finset.univ fullShare (vk c)).2 $$ [HL H5]
  · isplitl [HL]; · iexact HL
    iexact H5
  ihave P2 := (halves rR (qset (qt c 0)) fullShare.left (kvRem vk c)).2 $$ [P2 P3]
  · isplitl [P2]; · iexact P2
    iexact P3
  ihave Q0 := (halves rR (qset (qt c 0)) fullShare (kvRem vk c)).2 $$ [P2 Q0]
  · isplitl [P2]; · iexact P2
    iexact Q0
  ihave H6 := (quarters c (kvRem vk c)) $$ [Q0 Q1 Q2 Q3]
  · isplitl [Q0]; · iexact Q0
    isplitl [Q1]; · iexact Q1
    isplitl [Q2]; · iexact Q2
    iexact Q3
  iframe

/-- Every cell of a device is closed, its counter at zero. -/
theorem close_all (vk : Dev nD → CK F) (K : GSem nD τ sig → ℕ) (c : Dev nD) : Over vk K c
    ⊢ iprop(|={Set.univ}=> ((∃ W, owes (c : Thread nD τ) 0 W) ∗ bigSep Finset.univ (fun s => semVal (sendCell c s) 0)
      ∗ bigSep Finset.univ (fun r => semVal (recvCell c r) 0) ∗ semVal (barCell c) 0)) := by
  have cl (g : GSem nD τ sig) : iprop(cellInv ER (Rd vk) (K g) g ∗ atPos ER g 1 ∅ 0) ⊢ (|={Set.univ}=> semVal g 0 : sProp 𝕄) :=
    Rounds.cell_close ER (Rd vk) (Set.mem_univ _) id (duties_later vk g)
  have clS : iprop(invs vk K ∗ bigSep Finset.univ (fun s => atPos ER (sendCell c s) 1 ∅ 0))
      ⊢ (|={Set.univ}=> bigSep Finset.univ (fun s => semVal (sendCell c s) 0) : sProp 𝕄) := by
    refine BIBase.Entails.trans ?_ (bigSep_fupd _ _)
    refine bigSep_with_persistent fun s _ => ?_
    iintro ⟨HI, Ha⟩
    iapply (cl _)
    isplitl [HI]; · iapply (inv_send vk K c s); iexact HI
    iexact Ha
  have clR : iprop(invs vk K ∗ bigSep Finset.univ (fun s => atPos ER (recvCell c s) 1 ∅ 0))
      ⊢ (|={Set.univ}=> bigSep Finset.univ (fun s => semVal (recvCell c s) 0) : sProp 𝕄) := by
    refine BIBase.Entails.trans ?_ (bigSep_fupd _ _)
    refine bigSep_with_persistent fun s _ => ?_
    iintro ⟨HI, Ha⟩
    iapply (cl _)
    isplitl [HI]; · iapply (inv_recv vk K c s); iexact HI
    iexact Ha
  unfold Over
  iintro ⟨#HI, HO, Hs, Hr, Hb⟩
  imod (clS) $$ [Hs] with Hs
  · isplitr; · iexact HI
    iexact Hs
  imod clR $$ [Hr] with Hr
  · isplitr; · iexact HI
    iexact Hr
  imod (cl (barCell c)) $$ [Hb] with Hb
  · isplitr; · iapply (inv_bar vk K c); iexact HI
    iexact Hb
  imodintro
  iframe

end Cert.KernelIdeal.Run
-- ==== Proof.KernelIdealRun.Data.lean ====
/-
What the arrays hold around the kernel's call on each device, and the call's proof data: three staged inputs, one
result, five scratch buffers, the exchange's ghost state.
-/
module

public import proofs.«01_k».proof.Proof.KernelIdealRun.Finish
public import Idealize.ShloMosaic.Lib.Pipeline.RegionTalk
public import Idealize.ShloMosaic.Lib.Pipeline.ValueKit

@[expose] public section

noncomputable section

namespace Cert.KernelIdeal.Run

open Cert.KernelIdeal Cert.KernelIdeal.Gen Cert.Grid2

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- A device's own buffers, as launched. -/
abbrev V₀ (c : Dev nD) : Valuation τ sig (Elt F) := fun b => m ((c : Dev nD), b)
/-- After the three host reshapes. -/
abbrev V₁ (c : Dev nD) : Valuation τ sig (Elt F) := StableHlo.after hostOps0 (V₀ m c)

/-- The kernel's three operands on device `c`. -/
def inQ (c : Dev nD) : CF F := V₁ m c main_v1
def inK (c : Dev nD) : CF F := V₁ m c main_v2
def inV (c : Dev nD) : CF F := V₁ m c main_v3

/-- What device `c` sends: its keys above its values, both narrowed. -/
def vk (c : Dev nD) : CK F := kvSend (inK m c) (inV m c)

/-- Device `c`'s scaled and narrowed queries. -/
def inB (c : Dev nD) : CB F := k0_pay18 (inQ m c)

/-- The sums of weights and of weighted values, over the device's own keys and then quarter by quarter of the other's. -/
def accL (c : Dev nD) : CL F :=
  lQ (qt c 1) (inB m c) (kvRem (vk m) c) (lQ (qt c 3) (inB m c) (kvRem (vk m) c) (lQ (qt c 2) (inB m c) (kvRem (vk m) c)
    (lQ (qt c 0) (inB m c) (kvRem (vk m) c) (lLoc (inB m c) (vk m c)))))
def accO (c : Dev nD) : CF F :=
  oQ (qt c 1) (inB m c) (kvRem (vk m) c) (oQ (qt c 3) (inB m c) (kvRem (vk m) c) (oQ (qt c 2) (inB m c) (kvRem (vk m) c)
    (oQ (qt c 0) (inB m c) (kvRem (vk m) c) (oLoc (inB m c) (vk m c)))))

/-- The kernel's result on device `c`. -/
def out (c : Dev nD) : CF F := dv (accO m c) (accL m c)

/-- After the kernel, and after the last host reshape. -/
abbrev V₂ (c : Dev nD) : Valuation τ sig (Elt F) := Function.update (V₁ m c) (Proc.devRef .tc main_v4) (out m c)
abbrev V₃ (c : Dev nD) : Valuation τ sig (Elt F) := StableHlo.after hostOps1 (V₂ m c)

/-! ## Proof data -/

/-- The five scratch buffers at anything. -/
def scratch (c : Dev nD) : sProp 𝕄 :=
  iprop((∃ f, At (F := F) c sR Finset.univ fullShare f) ∗ (∃ f, At (F := F) c rR Finset.univ fullShare f) ∗ (∃ f, At (F := F) c bR Finset.univ fullShare f)
    ∗ (∃ f, At (F := F) c aR Finset.univ fullShare f) ∗ (∃ f, At (F := F) c lR Finset.univ fullShare f))

/-- The exchange's state when the body starts, but for what is owed. -/
def Xk (c : Dev nD) : sProp 𝕄 :=
  iprop(∃ K, levAts L lv ∗ invs (vk m) K
    ∗ bigSep Finset.univ (fun s => SD (vk m) c s 0) ∗ bigSep Finset.univ (fun r => RV (vk m) c r 0)
    ∗ bigSep Finset.univ (fun g : Fin 3 => dutyTok ER (barCell (from' c g)) 0 g)
    ∗ bigSep Finset.univ (fun r : Fin 16 => reached ER (recvCell c r) 0)
    ∗ atPos ER (barCell c) 0 ∅ 0 ∗ cred (tallyAt (barCell c) () 3))

/-- The 32 counters at zero. -/
def zeros (c : Dev nD) : sProp 𝕄 :=
  iprop(bigSep Finset.univ (fun s => semVal (sendCell c s) 0) ∗ bigSep Finset.univ (fun r => semVal (recvCell c r) 0))

def dat0 (c : Dev nD) : Dat τ (Elt F) Unit ℕ UU ℕ cfg0 c where
  A w := V₁ m c (Pipeline.arrRef spec0 w)
  after w _ := match w with
    | ⟨0, _⟩ => inQ m c
    | ⟨1, _⟩ => inK m c
    | ⟨2, _⟩ => inV m c
    | ⟨3, _⟩ => out m c
  Φ t := if t.val = 0 then iprop(Xk m c ∗ scratch c ∗ ∃ r, prngReg c r)
    else iprop(semVal (barCell c) 0 ∗ zeros c ∗ scratch c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owed_zero (c : Dev nD) : (pdats (F := F) m 0 c).owed 0 = O₀ c := by
  show (if ((0 : Fin (cfg0.N + 1)).val = 0) then O₀ c else 0) = O₀ c; exact if_pos rfl
theorem owed_first (c : Dev nD) : (dat0 (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-- Every operand is staged whole. -/
theorem block_q (c : Dev nD) (t : Fin cfg0.N) : (dat0 m c).blockOf 0 t = inQ m c := by
  unfold Dat.blockOf; funext j
  have e : ((cfg0.win 0).blk t).view.emb j = j := by
    funext a; apply Fin.ext
    exact Pipeline.Window.rect_emb_val_of_index_zero (cfg0.win 0) t a rfl j
  show V₁ m c (Pipeline.arrRef spec0 0) (((cfg0.win 0).blk t).view.emb j) = _
  rw [e]; rfl
theorem before_q (c : Dev nD) (d) : (dat0 m c).before 0 t0_0 d = inQ m c := by
  unfold Dat.before; rw [if_pos (fetch0_0 t0_0)]
  unfold Dat.fetched; rw [block_q]; rfl
theorem block_k (c : Dev nD) (t : Fin cfg0.N) : (dat0 m c).blockOf 1 t = inK m c := by
  unfold Dat.blockOf; funext j
  have e : ((cfg0.win 1).blk t).view.emb j = j := by
    funext a; apply Fin.ext
    exact Pipeline.Window.rect_emb_val_of_index_zero (cfg0.win 1) t a rfl j
  show V₁ m c (Pipeline.arrRef spec0 1) (((cfg0.win 1).blk t).view.emb j) = _
  rw [e]; rfl
theorem before_k (c : Dev nD) (d) : (dat0 m c).before 1 t0_0 d = inK m c := by
  unfold Dat.before; rw [if_pos (fetch0_1 t0_0)]
  unfold Dat.fetched; rw [block_k]; rfl
theorem block_v (c : Dev nD) (t : Fin cfg0.N) : (dat0 m c).blockOf 2 t = inV m c := by
  unfold Dat.blockOf; funext j
  have e : ((cfg0.win 2).blk t).view.emb j = j := by
    funext a; apply Fin.ext
    exact Pipeline.Window.rect_emb_val_of_index_zero (cfg0.win 2) t a rfl j
  show V₁ m c (Pipeline.arrRef spec0 2) (((cfg0.win 2).blk t).view.emb j) = _
  rw [e]; rfl
theorem before_v (c : Dev nD) (d) : (dat0 m c).before 2 t0_0 d = inV m c := by
  unfold Dat.before; rw [if_pos (fetch0_2 t0_0)]
  unfold Dat.fetched; rw [block_v]; rfl

/-- The result array after the call. -/
theorem arrAt_out (c : Dev nD) : (dat0 m c).arrAt 3 cfg0.N = out m c := by
  refine (dat0 m c).arrAt_eq_of_after_last 3 t0_0 (by decide +kernel) _ fun j => ?_
  blk_simp
  rfl

end Cert.KernelIdeal.Run

end
-- ==== Proof.KernelIdealRun.Body.lean ====
/-
The kernel's body, once, at any device: its windows open, it fills the send buffer, exchanges it, and adds up the
attention over its own and its neighbour's keys.
-/
module

public import proofs.«01_k».proof.Proof.KernelIdealRun.Finish

@[expose] public section

noncomputable section

namespace Cert.KernelIdeal.Run

open Cert.KernelIdeal Cert.KernelIdeal.Gen Cert.Grid2

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable {c : Dev nD} {S : sProp (MT nD τ sig Unit (Elt F) ℕ UU ℕ)} {α β : Type}

/-- A program in two parts runs its first part to a state from which its second runs. -/
theorem seq {p : Prog (TpuEff nD τ sig (Elt F) Λ₀ .tc) α} {f : α → Prog (TpuEff nD τ sig (Elt F) Λ₀ .tc) β}
    {Q : β → sProp (MT nD τ sig Unit (Elt F) ℕ UU ℕ)}
    (h : ∀ Q' : α → sProp (MT nD τ sig Unit (Elt F) ℕ UU ℕ), (∀ a, Q' a = WP c (f a) Q) → S ⊢ WP c p Q') : S ⊢ WP c (p >>= f) Q := by
  have e : WP c (p >>= f) Q = WP c p fun a => WP c (f a) Q := wp_bind ..
  rw [e]; exact h _ fun _ => rfl

/-- A finished part hands its result to the next. -/
theorem done {a : α} {f : α → Prog (TpuEff nD τ sig (Elt F) Λ₀ .tc) β}
    {Q : β → sProp (MT nD τ sig Unit (Elt F) ℕ UU ℕ)} {Q' : α → sProp (MT nD τ sig Unit (Elt F) ℕ UU ℕ)}
    (hQ : ∀ a, Q' a = WP c (f a) Q) (h : S ⊢ WP c (f a) Q) : S ⊢ WP c (.ret a) Q' :=
  BIBase.Entails.trans (h.trans (Entails.of_eq (hQ a).symm)) fupd_intro

/-- A finished program whose post holds after an update. -/
theorem ended {a : α} {Q : α → sProp (MT nD τ sig Unit (Elt F) ℕ UU ℕ)} (h : S ⊢ iprop(|={Set.univ}=> Q a)) : S ⊢ WP c (.ret a) Q :=
  BIBase.Entails.trans h (Entails.of_eq (wp_ret ..).symm)

/-- The end of the body: buffers gathered, cells closed. -/
theorem finale {vk : Dev nD → CK F} {K : GSem nD τ sig → ℕ} {sd rv : Fin 16 → ℕ} {R E : sProp (MT nD τ sig Unit (Elt F) ℕ UU ℕ)}
    {fq fk fv fo : CF F} {qr : PosShare TreeShare} {fr : CK F} {fb : CB F} {fa : CF F} {fl : CL F}
    (hsd : ∀ s, sd s = 4) (hrv : ∀ r, rv r = 4)
    (hfin : iprop(H c fq fk fv fo Finset.univ fullShare (vk c) Finset.univ fullShare (kvRem vk c) fb fa fl
      ∗ (((∃ W, owes (c : Thread nD τ) 0 W) ∗ bigSep Finset.univ (fun s => semVal (sendCell c s) 0)
        ∗ bigSep Finset.univ (fun r => semVal (recvCell c r) 0) ∗ semVal (barCell c) 0) ∗ R)) ⊢ E) :
    iprop(H c fq fk fv fo Finset.univ fullShare.right (vk c) ∅ qr fr fb fa fl ∗ (Tk vk K c [] sd rv
      ∗ (At c rR (qset (qt c 1)) (shr 1) (kvRem vk c) ∗ (At c rR (qset (qt c 3)) (shr 3) (kvRem vk c)
      ∗ (At c rR (qset (qt c 2)) (shr 2) (kvRem vk c) ∗ (At c rR (qset (qt c 0)) (shr 0) (kvRem vk c) ∗ (sendL vk c ∗ R)))))))
    ⊢ iprop(|={Set.univ}=> E) := by
  refine BIBase.Entails.trans (gather hsd hrv) ?_
  iintro ⟨HH, HV, HR⟩
  imod (close_all vk K c) $$ HV with HV
  imodintro
  iapply hfin
  isplitl [HH]; · iexact HH
  isplitl [HV]; · iexact HV
  iexact HR

end

attribute [local irreducible] Idealize.SL.Sem.wp

variable (vk : Dev nD → CK F) (K : GSem nD τ sig → ℕ) (c : Dev nD)

set_option maxHeartbeats 40000000 in
/-- The kernel's body on device `c`, from whole buffers and the start of the exchange: it ends with the quotient of the
    two sums in its result, every buffer whole, nothing owed and every counter at zero. -/
theorem body_run {fq fk fv fo : CF F} {fs fr : CK F} {fb : CB F} {fa : CF F} {fl : CL F}
    {R : sProp (MT nD τ sig Unit (Elt F) ℕ UU ℕ)} {Q : PUnit → sProp (MT nD τ sig Unit (Elt F) ℕ UU ℕ)}
    (hvk : vk c = kvSend fk fv)
    (hfin : iprop(H c fq fk fv
        (dv (oQ (qt c 1) (k0_pay18 fq) (kvRem vk c) (oQ (qt c 3) (k0_pay18 fq) (kvRem vk c) (oQ (qt c 2) (k0_pay18 fq) (kvRem vk c)
            (oQ (qt c 0) (k0_pay18 fq) (kvRem vk c) (oLoc (k0_pay18 fq) (vk c))))))
          (lQ (qt c 1) (k0_pay18 fq) (kvRem vk c) (lQ (qt c 3) (k0_pay18 fq) (kvRem vk c) (lQ (qt c 2) (k0_pay18 fq) (kvRem vk c)
            (lQ (qt c 0) (k0_pay18 fq) (kvRem vk c) (lLoc (k0_pay18 fq) (vk c)))))))
        Finset.univ fullShare (vk c) Finset.univ fullShare (kvRem vk c) (k0_pay18 fq)
        (oQ (qt c 1) (k0_pay18 fq) (kvRem vk c) (oQ (qt c 3) (k0_pay18 fq) (kvRem vk c) (oQ (qt c 2) (k0_pay18 fq) (kvRem vk c)
            (oQ (qt c 0) (k0_pay18 fq) (kvRem vk c) (oLoc (k0_pay18 fq) (vk c))))))
        (lQ (qt c 1) (k0_pay18 fq) (kvRem vk c) (lQ (qt c 3) (k0_pay18 fq) (kvRem vk c) (lQ (qt c 2) (k0_pay18 fq) (kvRem vk c)
            (lQ (qt c 0) (k0_pay18 fq) (kvRem vk c) (lLoc (k0_pay18 fq) (vk c))))))
      ∗ (((∃ W, owes (c : Thread nD τ) 0 W) ∗ bigSep Finset.univ (fun s => semVal (sendCell c s) 0)
        ∗ bigSep Finset.univ (fun r => semVal (recvCell c r) 0) ∗ semVal (barCell c) 0) ∗ R)) ⊢ Q ⟨⟩) :
    iprop(H c fq fk fv fo Finset.univ fullShare fs Finset.univ fullShare fr fb fa fl ∗ (Tk0 vk K c ∗ R))
      ⊢ WP c (cc0_body (Memref.whole qR) (Memref.isWhole_whole _) (Memref.whole kR) (Memref.isWhole_whole _)
          (Memref.whole vR) (Memref.isWhole_whole _) (Memref.whole oR) (Memref.isWhole_whole _) (Memref.whole sR) (Memref.isWhole_whole _)
          (Memref.whole rR) (Memref.isWhole_whole _) (Memref.whole bR) (Memref.isWhole_whole _) (Memref.whole aR) (Memref.isWhole_whole _)
          (Memref.whole lR) (Memref.isWhole_whole _) cc0_scratch5 cc0_scratch6 cc0_scratch7) Q := by
  rw [cc0_body_eq_skeleton]; unfold cc0_body_skel
  refine seq fun Q' hQ => ?_
  rw [k0_part57_eq_skeleton]; unfold k0_part57_skel
  have hP := PC_zero c fk fv fs
  repeat first
    | (with_reducible refine done hQ ?_; clear hQ Q'; try dsimp only)
    | with_reducible refine seq fun Q' hQ => ?_
    | simp only [k0_part1_eq_skeleton, k0_part1_skel, k0_part2_eq_skeleton, k0_part2_skel,
        Prog.lift, Prog.bind_op, Prog.bind_ret, Prog.pure_eq_ret, semSignalWord, semWaitWord, wp_deviceId]
  refine signals (qr := fullShare) (by clear * -; revert c; decide +kernel) (by clear * -; revert c; decide +kernel) (by clear * -; revert c; decide +kernel) rfl rfl ?_
  repeat first
    | (with_reducible refine done hQ ?_; clear hQ Q'; try dsimp only)
    | with_reducible refine seq fun Q' hQ => ?_
    | simp only [k0_part3_eq_skeleton, k0_part3_skel, k0_part4_eq_skeleton, k0_part4_skel,
        Prog.lift, Prog.bind_op, Prog.bind_ret, Prog.pure_eq_ret, semSignalWord, semWaitWord, wp_deviceId]
    | refine cast_k hP (by clear * -; revert c; decide +kernel) ?_
    | refine cast_v hP (by clear * -; revert c; decide +kernel) ?_
    | refine cast_old hP (held_univ _ _) (by clear * -; revert c; decide +kernel) ?_
    | (refine cast_st hP (held_univ _ _) (by clear * -; revert c; decide +kernel) rfl fun _ h => ?_; replace hP := h; clear h)
  refine bar_wait rfl rfl ?_
  refine split_send hvk (by assumption) ?_
  repeat first
    | (with_reducible refine done hQ ?_; clear hQ Q'; try dsimp only)
    | with_reducible refine seq fun Q' hQ => ?_
    | simp only [k0_part5_eq_skeleton, k0_part5_skel, k0_part6_eq_skeleton, k0_part6_skel, k0_part7_eq_skeleton, k0_part7_skel, k0_part8_eq_skeleton, k0_part8_skel,
        Prog.lift, Prog.bind_op, Prog.bind_ret, Prog.pure_eq_ret, semSignalWord, semWaitWord, wp_deviceId]
    | refine enq_x _ (by decide) (by clear * -; revert c; decide +kernel) (by clear * -; revert c; decide +kernel) rfl rfl rfl ?_
  repeat first
    | (with_reducible refine done hQ ?_; clear hQ Q'; try dsimp only)
    | with_reducible refine seq fun Q' hQ => ?_
    | simp only [k0_part9_eq_skeleton, k0_part9_skel, k0_part10_eq_skeleton, k0_part10_skel,
        Prog.lift, Prog.bind_op, Prog.bind_ret, Prog.pure_eq_ret, semSignalWord, semWaitWord, wp_deviceId]
    | refine cast_k hP (by clear * -; revert c; decide +kernel) ?_
    | refine cast_v hP (by clear * -; revert c; decide +kernel) ?_
    | refine cast_old hP (held_rest c (by decide) (by decide)) (by clear * -; revert c; decide +kernel) ?_
    | (refine cast_st hP (held_rest c (by decide) (by decide)) (by clear * -; revert c; decide +kernel) rfl fun _ h => ?_; replace hP := h; clear h)
    | refine whole_q ?_
  obtain rfl := PC_all ‹PC c fk fv 16 _›
  rw [← hvk]
  refine join_send ?_
  refine whole_b ?_
  refine whole_bst ?_
  have hL := PL_zero (k0_pay18 fq) (vk c) fl
  have hO := PO_zero (k0_pay18 fq) (vk c) fa
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
    | refine loc_b hO rfl ?_
    | refine loc_k hO rfl ?_
    | refine loc_v hO rfl ?_
    | refine loc_l hL rfl ?_
    | (refine loc_lst hL rfl rfl fun _ h => ?_; replace hL := h; clear h)
    | refine loc_o hO rfl ?_
    | (refine loc_ost hO rfl rfl fun _ h => ?_; replace hO := h; clear h)
  refine wait_send 0 (by rfl) (by rfl) (by rfl) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
  refine wait_recv 0 (by rfl) (by rfl) (by decide) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
  refine enq_y _ (by decide) (by decide) (by clear * -; revert c; decide +kernel) (by clear * -; revert c; decide +kernel) (by rfl) (by rfl) (by rfl) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
  refine enq_z _ (by decide) (by decide) (by clear * -; revert c; decide +kernel) (by clear * -; revert c; decide +kernel) (by rfl) (by rfl) (by rfl) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
    | refine loc_b hO rfl ?_
    | refine loc_k hO rfl ?_
    | refine loc_v hO rfl ?_
    | refine loc_l hL rfl ?_
    | (refine loc_lst hL rfl rfl fun _ h => ?_; replace hL := h; clear h)
    | refine loc_o hO rfl ?_
    | (refine loc_ost hO rfl rfl fun _ h => ?_; replace hO := h; clear h)
  refine wait_send 1 (by rfl) (by rfl) (by rfl) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
  refine wait_recv 1 (by rfl) (by rfl) (by decide) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
  refine enq_y _ (by decide) (by decide) (by clear * -; revert c; decide +kernel) (by clear * -; revert c; decide +kernel) (by rfl) (by rfl) (by rfl) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
  refine enq_z _ (by decide) (by decide) (by clear * -; revert c; decide +kernel) (by clear * -; revert c; decide +kernel) (by rfl) (by rfl) (by rfl) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
    | refine loc_b hO rfl ?_
    | refine loc_k hO rfl ?_
    | refine loc_v hO rfl ?_
    | refine loc_l hL rfl ?_
    | (refine loc_lst hL rfl rfl fun _ h => ?_; replace hL := h; clear h)
    | refine loc_o hO rfl ?_
    | (refine loc_ost hO rfl rfl fun _ h => ?_; replace hO := h; clear h)
  refine wait_send 2 (by rfl) (by rfl) (by rfl) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
  refine wait_recv 2 (by rfl) (by rfl) (by decide) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
  refine enq_y _ (by decide) (by decide) (by clear * -; revert c; decide +kernel) (by clear * -; revert c; decide +kernel) (by rfl) (by rfl) (by rfl) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
  refine enq_z _ (by decide) (by decide) (by clear * -; revert c; decide +kernel) (by clear * -; revert c; decide +kernel) (by rfl) (by rfl) (by rfl) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
    | refine loc_b hO rfl ?_
    | refine loc_k hO rfl ?_
    | refine loc_v hO rfl ?_
    | refine loc_l hL rfl ?_
    | (refine loc_lst hL rfl rfl fun _ h => ?_; replace hL := h; clear h)
    | refine loc_o hO rfl ?_
    | (refine loc_ost hO rfl rfl fun _ h => ?_; replace hO := h; clear h)
  refine wait_send 3 (by rfl) (by rfl) (by rfl) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
  refine wait_recv 3 (by rfl) (by rfl) (by decide) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
  refine enq_y _ (by decide) (by decide) (by clear * -; revert c; decide +kernel) (by clear * -; revert c; decide +kernel) (by rfl) (by rfl) (by rfl) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
  refine enq_z _ (by decide) (by decide) (by clear * -; revert c; decide +kernel) (by clear * -; revert c; decide +kernel) (by rfl) (by rfl) (by rfl) (by rfl) ?_
  repeat first
    | (with_reducible refine done hQ ?_; clear hQ Q'; try dsimp only)
    | with_reducible refine seq fun Q' hQ => ?_
    | simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel,
        Prog.lift, Prog.bind_op, Prog.bind_ret, Prog.pure_eq_ret, semSignalWord, semWaitWord, wp_deviceId]
    | refine loc_b hO rfl ?_
    | refine loc_k hO rfl ?_
    | refine loc_v hO rfl ?_
    | refine loc_l hL rfl ?_
    | (refine loc_lst hL rfl rfl fun _ h => ?_; replace hL := h; clear h)
    | refine loc_o hO rfl ?_
    | (refine loc_ost hO rfl rfl fun _ h => ?_; replace hO := h; clear h)
  obtain rfl := PL_all ‹PL (k0_pay18 fq) (vk c) 16 _›
  obtain rfl := PO_all ‹PO (k0_pay18 fq) (vk c) 16 _›
  refine take 0 (by decide) (by decide) ?_
  have hL := QL_zero (qt c 0) (k0_pay18 fq) (kvRem vk c) (lLoc (k0_pay18 fq) (vk c))
  have hO := QO_zero (qt c 0) (qt_lt c 0) (k0_pay18 fq) (kvRem vk c) (oLoc (k0_pay18 fq) (vk c))
  repeat first
    | (with_reducible refine done hQ ?_; clear hQ Q'; try dsimp only)
    | with_reducible refine seq fun Q' hQ => ?_
    | simp only [k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel,
        Prog.lift, Prog.bind_op, Prog.bind_ret, Prog.pure_eq_ret, semSignalWord, semWaitWord, wp_deviceId]
    | refine q_b hO (by clear * -; revert c; decide +kernel) ?_
    | refine q_k hO (by clear * -; revert c; decide +kernel) ?_
    | refine q_v hO (by clear * -; revert c; decide +kernel) ?_
    | refine q_l hL (by clear * -; revert c; decide +kernel) ?_
    | (refine q_lst hL (by clear * -; revert c; decide +kernel) (by decide) rfl fun _ h => ?_; replace hL := h; clear h)
    | refine q_o hO (by clear * -; revert c; decide +kernel) ?_
    | (refine q_ost hO (by clear * -; revert c; decide +kernel) (by decide) rfl fun _ h => ?_; replace hO := h; clear h)
  obtain rfl := QL_all ‹QL (qt c 0) (k0_pay18 fq) (kvRem vk c) (lLoc (k0_pay18 fq) (vk c)) 8 _›
  obtain rfl := QO_all ‹QO (qt c 0) (k0_pay18 fq) (kvRem vk c) (oLoc (k0_pay18 fq) (vk c)) 8 _›
  refine drop 0 ?_
  repeat first
    | (with_reducible refine done hQ ?_; clear hQ Q'; try dsimp only)
    | with_reducible refine seq fun Q' hQ => ?_
    | simp only [k0_part29_eq_skeleton, k0_part29_skel, k0_part30_eq_skeleton, k0_part30_skel, k0_part31_eq_skeleton, k0_part31_skel,
        Prog.lift, Prog.bind_op, Prog.bind_ret, Prog.pure_eq_ret, semSignalWord, semWaitWord, wp_deviceId]
  refine wait_recv 8 (by rfl) (by rfl) (by decide) (by rfl) ?_
  repeat first
    | (with_reducible refine done hQ ?_; clear hQ Q'; try dsimp only)
    | with_reducible refine seq fun Q' hQ => ?_
    | simp only [k0_part29_eq_skeleton, k0_part29_skel, k0_part30_eq_skeleton, k0_part30_skel, k0_part31_eq_skeleton, k0_part31_skel,
        Prog.lift, Prog.bind_op, Prog.bind_ret, Prog.pure_eq_ret, semSignalWord, semWaitWord, wp_deviceId]
  refine wait_recv 9 (by rfl) (by rfl) (by decide) (by rfl) ?_
  repeat first
    | (with_reducible refine done hQ ?_; clear hQ Q'; try dsimp only)
    | with_reducible refine seq fun Q' hQ => ?_
    | simp only [k0_part29_eq_skeleton, k0_part29_skel, k0_part30_eq_skeleton, k0_part30_skel, k0_part31_eq_skeleton, k0_part31_skel,
        Prog.lift, Prog.bind_op, Prog.bind_ret, Prog.pure_eq_ret, semSignalWord, semWaitWord, wp_deviceId]
  refine wait_recv 10 (by rfl) (by rfl) (by decide) (by rfl) ?_
  repeat first
    | (with_reducible refine done hQ ?_; clear hQ Q'; try dsimp only)
    | with_reducible refine seq fun Q' hQ => ?_
    | simp only [k0_part29_eq_skeleton, k0_part29_skel, k0_part30_eq_skeleton, k0_part30_skel, k0_part31_eq_skeleton, k0_part31_skel,
        Prog.lift, Prog.bind_op, Prog.bind_ret, Prog.pure_eq_ret, semSignalWord, semWaitWord, wp_deviceId]
  refine wait_recv 11 (by rfl) (by rfl) (by decide) (by rfl) ?_
  repeat first
    | (with_reducible refine done hQ ?_; clear hQ Q'; try dsimp only)
    | with_reducible refine seq fun Q' hQ => ?_
    | simp only [k0_part31_eq_skeleton, k0_part31_skel, k0_part32_eq_skeleton, k0_part32_skel,
        Prog.lift, Prog.bind_op, Prog.bind_ret, Prog.pure_eq_ret, semSignalWord, semWaitWord, wp_deviceId]
  refine take 2 (by decide) (by decide) ?_
  have hL := QL_zero (qt c 2) (k0_pay18 fq) (kvRem vk c) (lQ (qt c 0) (k0_pay18 fq) (kvRem vk c) (lLoc (k0_pay18 fq) (vk c)))
  have hO := QO_zero (qt c 2) (qt_lt c 2) (k0_pay18 fq) (kvRem vk c) (oQ (qt c 0) (k0_pay18 fq) (kvRem vk c) (oLoc (k0_pay18 fq) (vk c)))
  repeat first
    | (with_reducible refine done hQ ?_; clear hQ Q'; try dsimp only)
    | with_reducible refine seq fun Q' hQ => ?_
    | simp only [k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel,
        Prog.lift, Prog.bind_op, Prog.bind_ret, Prog.pure_eq_ret, semSignalWord, semWaitWord, wp_deviceId]
    | refine q_b hO (by clear * -; revert c; decide +kernel) ?_
    | refine q_k hO (by clear * -; revert c; decide +kernel) ?_
    | refine q_v hO (by clear * -; revert c; decide +kernel) ?_
    | refine q_l hL (by clear * -; revert c; decide +kernel) ?_
    | (refine q_lst hL (by clear * -; revert c; decide +kernel) (by decide) rfl fun _ h => ?_; replace hL := h; clear h)
    | refine q_o hO (by clear * -; revert c; decide +kernel) ?_
    | (refine q_ost hO (by clear * -; revert c; decide +kernel) (by decide) rfl fun _ h => ?_; replace hO := h; clear h)
  obtain rfl := QL_all ‹QL (qt c 2) (k0_pay18 fq) (kvRem vk c) (lQ (qt c 0) (k0_pay18 fq) (kvRem vk c) (lLoc (k0_pay18 fq) (vk c))) 8 _›
  obtain rfl := QO_all ‹QO (qt c 2) (k0_pay18 fq) (kvRem vk c) (oQ (qt c 0) (k0_pay18 fq) (kvRem vk c) (oLoc (k0_pay18 fq) (vk c))) 8 _›
  refine drop 2 ?_
  repeat first
    | (with_reducible refine done hQ ?_; clear hQ Q'; try dsimp only)
    | with_reducible refine seq fun Q' hQ => ?_
    | simp only [k0_part36_eq_skeleton, k0_part36_skel, k0_part37_eq_skeleton, k0_part37_skel, k0_part38_eq_skeleton, k0_part38_skel, k0_part39_eq_skeleton, k0_part39_skel,
        Prog.lift, Prog.bind_op, Prog.bind_ret, Prog.pure_eq_ret, semSignalWord, semWaitWord, wp_deviceId]
  refine wait_recv 12 (by rfl) (by rfl) (by decide) (by rfl) ?_
  repeat first
    | (with_reducible refine done hQ ?_; clear hQ Q'; try dsimp only)
    | with_reducible refine seq fun Q' hQ => ?_
    | simp only [k0_part36_eq_skeleton, k0_part36_skel, k0_part37_eq_skeleton, k0_part37_skel, k0_part38_eq_skeleton, k0_part38_skel, k0_part39_eq_skeleton, k0_part39_skel,
        Prog.lift, Prog.bind_op, Prog.bind_ret, Prog.pure_eq_ret, semSignalWord, semWaitWord, wp_deviceId]
  refine wait_recv 13 (by rfl) (by rfl) (by decide) (by rfl) ?_
  repeat first
    | (with_reducible refine done hQ ?_; clear hQ Q'; try dsimp only)
    | with_reducible refine seq fun Q' hQ => ?_
    | simp only [k0_part36_eq_skeleton, k0_part36_skel, k0_part37_eq_skeleton, k0_part37_skel, k0_part38_eq_skeleton, k0_part38_skel, k0_part39_eq_skeleton, k0_part39_skel,
        Prog.lift, Prog.bind_op, Prog.bind_ret, Prog.pure_eq_ret, semSignalWord, semWaitWord, wp_deviceId]
  refine wait_recv 14 (by rfl) (by rfl) (by decide) (by rfl) ?_
  repeat first
    | (with_reducible refine done hQ ?_; clear hQ Q'; try dsimp only)
    | with_reducible refine seq fun Q' hQ => ?_
    | simp only [k0_part36_eq_skeleton, k0_part36_skel, k0_part37_eq_skeleton, k0_part37_skel, k0_part38_eq_skeleton, k0_part38_skel, k0_part39_eq_skeleton, k0_part39_skel,
        Prog.lift, Prog.bind_op, Prog.bind_ret, Prog.pure_eq_ret, semSignalWord, semWaitWord, wp_deviceId]
  refine wait_recv 15 (by rfl) (by rfl) (by decide) (by rfl) ?_
  repeat first
    | (with_reducible refine done hQ ?_; clear hQ Q'; try dsimp only)
    | with_reducible refine seq fun Q' hQ => ?_
    | simp only [k0_part39_eq_skeleton, k0_part39_skel, k0_part40_eq_skeleton, k0_part40_skel,
        Prog.lift, Prog.bind_op, Prog.bind_ret, Prog.pure_eq_ret, semSignalWord, semWaitWord, wp_deviceId]
  refine take 3 (by decide) (by decide) ?_
  have hL := QL_zero (qt c 3) (k0_pay18 fq) (kvRem vk c) (lQ (qt c 2) (k0_pay18 fq) (kvRem vk c) (lQ (qt c 0) (k0_pay18 fq) (kvRem vk c) (lLoc (k0_pay18 fq) (vk c))))
  have hO := QO_zero (qt c 3) (qt_lt c 3) (k0_pay18 fq) (kvRem vk c) (oQ (qt c 2) (k0_pay18 fq) (kvRem vk c) (oQ (qt c 0) (k0_pay18 fq) (kvRem vk c) (oLoc (k0_pay18 fq) (vk c))))
  repeat first
    | (with_reducible refine done hQ ?_; clear hQ Q'; try dsimp only)
    | with_reducible refine seq fun Q' hQ => ?_
    | simp only [k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel,
        Prog.lift, Prog.bind_op, Prog.bind_ret, Prog.pure_eq_ret, semSignalWord, semWaitWord, wp_deviceId]
    | refine q_b hO (by clear * -; revert c; decide +kernel) ?_
    | refine q_k hO (by clear * -; revert c; decide +kernel) ?_
    | refine q_v hO (by clear * -; revert c; decide +kernel) ?_
    | refine q_l hL (by clear * -; revert c; decide +kernel) ?_
    | (refine q_lst hL (by clear * -; revert c; decide +kernel) (by decide) rfl fun _ h => ?_; replace hL := h; clear h)
    | refine q_o hO (by clear * -; revert c; decide +kernel) ?_
    | (refine q_ost hO (by clear * -; revert c; decide +kernel) (by decide) rfl fun _ h => ?_; replace hO := h; clear h)
  obtain rfl := QL_all ‹QL (qt c 3) (k0_pay18 fq) (kvRem vk c) (lQ (qt c 2) (k0_pay18 fq) (kvRem vk c) (lQ (qt c 0) (k0_pay18 fq) (kvRem vk c) (lLoc (k0_pay18 fq) (vk c)))) 8 _›
  obtain rfl := QO_all ‹QO (qt c 3) (k0_pay18 fq) (kvRem vk c) (oQ (qt c 2) (k0_pay18 fq) (kvRem vk c) (oQ (qt c 0) (k0_pay18 fq) (kvRem vk c) (oLoc (k0_pay18 fq) (vk c)))) 8 _›
  refine drop 3 ?_
  repeat first
    | (with_reducible refine done hQ ?_; clear hQ Q'; try dsimp only)
    | with_reducible refine seq fun Q' hQ => ?_
    | simp only [k0_part44_eq_skeleton, k0_part44_skel, k0_part45_eq_skeleton, k0_part45_skel, k0_part46_eq_skeleton, k0_part46_skel, k0_part47_eq_skeleton, k0_part47_skel,
        Prog.lift, Prog.bind_op, Prog.bind_ret, Prog.pure_eq_ret, semSignalWord, semWaitWord, wp_deviceId]
  refine wait_send 4 (by rfl) (by rfl) (by rfl) (by rfl) ?_
  repeat first
    | (with_reducible refine done hQ ?_; clear hQ Q'; try dsimp only)
    | with_reducible refine seq fun Q' hQ => ?_
    | simp only [k0_part44_eq_skeleton, k0_part44_skel, k0_part45_eq_skeleton, k0_part45_skel, k0_part46_eq_skeleton, k0_part46_skel, k0_part47_eq_skeleton, k0_part47_skel,
        Prog.lift, Prog.bind_op, Prog.bind_ret, Prog.pure_eq_ret, semSignalWord, semWaitWord, wp_deviceId]
  refine wait_recv 4 (by rfl) (by rfl) (by decide) (by rfl) ?_
  repeat first
    | (with_reducible refine done hQ ?_; clear hQ Q'; try dsimp only)
    | with_reducible refine seq fun Q' hQ => ?_
    | simp only [k0_part44_eq_skeleton, k0_part44_skel, k0_part45_eq_skeleton, k0_part45_skel, k0_part46_eq_skeleton, k0_part46_skel, k0_part47_eq_skeleton, k0_part47_skel,
        Prog.lift, Prog.bind_op, Prog.bind_ret, Prog.pure_eq_ret, semSignalWord, semWaitWord, wp_deviceId]
  refine wait_send 5 (by rfl) (by rfl) (by rfl) (by rfl) ?_
  repeat first
    | (with_reducible refine done hQ ?_; clear hQ Q'; try dsimp only)
    | with_reducible refine seq fun Q' hQ => ?_
    | simp only [k0_part44_eq_skeleton, k0_part44_skel, k0_part45_eq_skeleton, k0_part45_skel, k0_part46_eq_skeleton, k0_part46_skel, k0_part47_eq_skeleton, k0_part47_skel,
        Prog.lift, Prog.bind_op, Prog.bind_ret, Prog.pure_eq_ret, semSignalWord, semWaitWord, wp_deviceId]
  refine wait_recv 5 (by rfl) (by rfl) (by decide) (by rfl) ?_
  repeat first
    | (with_reducible refine done hQ ?_; clear hQ Q'; try dsimp only)
    | with_reducible refine seq fun Q' hQ => ?_
    | simp only [k0_part44_eq_skeleton, k0_part44_skel, k0_part45_eq_skeleton, k0_part45_skel, k0_part46_eq_skeleton, k0_part46_skel, k0_part47_eq_skeleton, k0_part47_skel,
        Prog.lift, Prog.bind_op, Prog.bind_ret, Prog.pure_eq_ret, semSignalWord, semWaitWord, wp_deviceId]
  refine wait_send 6 (by rfl) (by rfl) (by rfl) (by rfl) ?_
  repeat first
    | (with_reducible refine done hQ ?_; clear hQ Q'; try dsimp only)
    | with_reducible refine seq fun Q' hQ => ?_
    | simp only [k0_part44_eq_skeleton, k0_part44_skel, k0_part45_eq_skeleton, k0_part45_skel, k0_part46_eq_skeleton, k0_part46_skel, k0_part47_eq_skeleton, k0_part47_skel,
        Prog.lift, Prog.bind_op, Prog.bind_ret, Prog.pure_eq_ret, semSignalWord, semWaitWord, wp_deviceId]
  refine wait_recv 6 (by rfl) (by rfl) (by decide) (by rfl) ?_
  repeat first
    | (with_reducible refine done hQ ?_; clear hQ Q'; try dsimp only)
    | with_reducible refine seq fun Q' hQ => ?_
    | simp only [k0_part44_eq_skeleton, k0_part44_skel, k0_part45_eq_skeleton, k0_part45_skel, k0_part46_eq_skeleton, k0_part46_skel, k0_part47_eq_skeleton, k0_part47_skel,
        Prog.lift, Prog.bind_op, Prog.bind_ret, Prog.pure_eq_ret, semSignalWord, semWaitWord, wp_deviceId]
  refine wait_send 7 (by rfl) (by rfl) (by rfl) (by rfl) ?_
  repeat first
    | (with_reducible refine done hQ ?_; clear hQ Q'; try dsimp only)
    | with_reducible refine seq fun Q' hQ => ?_
    | simp only [k0_part44_eq_skeleton, k0_part44_skel, k0_part45_eq_skeleton, k0_part45_skel, k0_part46_eq_skeleton, k0_part46_skel, k0_part47_eq_skeleton, k0_part47_skel,
        Prog.lift, Prog.bind_op, Prog.bind_ret, Prog.pure_eq_ret, semSignalWord, semWaitWord, wp_deviceId]
  refine wait_recv 7 (by rfl) (by rfl) (by decide) (by rfl) ?_
  repeat first
    | (with_reducible refine done hQ ?_; clear hQ Q'; try dsimp only)
    | with_reducible refine seq fun Q' hQ => ?_
    | simp only [k0_part46_eq_skeleton, k0_part46_skel, k0_part47_eq_skeleton, k0_part47_skel, k0_part48_eq_skeleton, k0_part48_skel,
        Prog.lift, Prog.bind_op, Prog.bind_ret, Prog.pure_eq_ret, semSignalWord, semWaitWord, wp_deviceId]
  refine take 1 (by decide) (by decide) ?_
  have hL := QL_zero (qt c 1) (k0_pay18 fq) (kvRem vk c) (lQ (qt c 3) (k0_pay18 fq) (kvRem vk c) (lQ (qt c 2) (k0_pay18 fq) (kvRem vk c) (lQ (qt c 0) (k0_pay18 fq) (kvRem vk c) (lLoc (k0_pay18 fq) (vk c)))))
  have hO := QO_zero (qt c 1) (qt_lt c 1) (k0_pay18 fq) (kvRem vk c) (oQ (qt c 3) (k0_pay18 fq) (kvRem vk c) (oQ (qt c 2) (k0_pay18 fq) (kvRem vk c) (oQ (qt c 0) (k0_pay18 fq) (kvRem vk c) (oLoc (k0_pay18 fq) (vk c)))))
  repeat first
    | (with_reducible refine done hQ ?_; clear hQ Q'; try dsimp only)
    | with_reducible refine seq fun Q' hQ => ?_
    | simp only [k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel,
        Prog.lift, Prog.bind_op, Prog.bind_ret, Prog.pure_eq_ret, semSignalWord, semWaitWord, wp_deviceId]
    | refine q_b hO (by clear * -; revert c; decide +kernel) ?_
    | refine q_k hO (by clear * -; revert c; decide +kernel) ?_
    | refine q_v hO (by clear * -; revert c; decide +kernel) ?_
    | refine q_l hL (by clear * -; revert c; decide +kernel) ?_
    | (refine q_lst hL (by clear * -; revert c; decide +kernel) (by decide) rfl fun _ h => ?_; replace hL := h; clear h)
    | refine q_o hO (by clear * -; revert c; decide +kernel) ?_
    | (refine q_ost hO (by clear * -; revert c; decide +kernel) (by decide) rfl fun _ h => ?_; replace hO := h; clear h)
  obtain rfl := QL_all ‹QL (qt c 1) (k0_pay18 fq) (kvRem vk c) (lQ (qt c 3) (k0_pay18 fq) (kvRem vk c) (lQ (qt c 2) (k0_pay18 fq) (kvRem vk c) (lQ (qt c 0) (k0_pay18 fq) (kvRem vk c) (lLoc (k0_pay18 fq) (vk c))))) 8 _›
  obtain rfl := QO_all ‹QO (qt c 1) (k0_pay18 fq) (kvRem vk c) (oQ (qt c 3) (k0_pay18 fq) (kvRem vk c) (oQ (qt c 2) (k0_pay18 fq) (kvRem vk c) (oQ (qt c 0) (k0_pay18 fq) (kvRem vk c) (oLoc (k0_pay18 fq) (vk c))))) 8 _›
  refine drop 1 ?_
  have hD := PD_zero (oQ (qt c 1) (k0_pay18 fq) (kvRem vk c) (oQ (qt c 3) (k0_pay18 fq) (kvRem vk c) (oQ (qt c 2) (k0_pay18 fq) (kvRem vk c) (oQ (qt c 0) (k0_pay18 fq) (kvRem vk c) (oLoc (k0_pay18 fq) (vk c)))))) (lQ (qt c 1) (k0_pay18 fq) (kvRem vk c) (lQ (qt c 3) (k0_pay18 fq) (kvRem vk c) (lQ (qt c 2) (k0_pay18 fq) (kvRem vk c) (lQ (qt c 0) (k0_pay18 fq) (kvRem vk c) (lLoc (k0_pay18 fq) (vk c)))))) fo
  repeat first
    | (with_reducible refine done hQ ?_; clear hQ Q'; try dsimp only)
    | with_reducible refine seq fun Q' hQ => ?_
    | simp only [k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel,
        Prog.lift, Prog.bind_op, Prog.bind_ret, Prog.pure_eq_ret, semSignalWord, semWaitWord, wp_deviceId]
    | refine d_a (by assumption) rfl ?_
    | refine d_l hD rfl ?_
    | refine d_o hD rfl ?_
    | (refine d_st hD rfl rfl fun _ h => ?_; replace hD := h; clear h)
  obtain rfl := PD_all ‹PD (oQ (qt c 1) (k0_pay18 fq) (kvRem vk c) (oQ (qt c 3) (k0_pay18 fq) (kvRem vk c) (oQ (qt c 2) (k0_pay18 fq) (kvRem vk c) (oQ (qt c 0) (k0_pay18 fq) (kvRem vk c) (oLoc (k0_pay18 fq) (vk c)))))) (lQ (qt c 1) (k0_pay18 fq) (kvRem vk c) (lQ (qt c 3) (k0_pay18 fq) (kvRem vk c) (lQ (qt c 2) (k0_pay18 fq) (kvRem vk c) (lQ (qt c 0) (k0_pay18 fq) (kvRem vk c) (lLoc (k0_pay18 fq) (vk c)))))) 16 _›
  repeat first
    | (with_reducible refine done hQ ?_; clear hQ Q'; try dsimp only)
    | with_reducible refine seq fun Q' hQ => ?_
    | simp only [k0_part55_eq_skeleton, k0_part55_skel, k0_part56_eq_skeleton, k0_part56_skel, k0_part57_eq_skeleton, k0_part57_skel,
        Prog.lift, Prog.bind_op, Prog.bind_ret, Prog.pure_eq_ret, semSignalWord, semWaitWord, wp_deviceId]
  refine wait_send 8 (by rfl) (by rfl) (by rfl) (by rfl) ?_
  repeat first
    | (with_reducible refine done hQ ?_; clear hQ Q'; try dsimp only)
    | with_reducible refine seq fun Q' hQ => ?_
    | simp only [k0_part55_eq_skeleton, k0_part55_skel, k0_part56_eq_skeleton, k0_part56_skel, k0_part57_eq_skeleton, k0_part57_skel,
        Prog.lift, Prog.bind_op, Prog.bind_ret, Prog.pure_eq_ret, semSignalWord, semWaitWord, wp_deviceId]
  refine wait_send 12 (by rfl) (by rfl) (by rfl) (by rfl) ?_
  repeat first
    | (with_reducible refine done hQ ?_; clear hQ Q'; try dsimp only)
    | with_reducible refine seq fun Q' hQ => ?_
    | simp only [k0_part55_eq_skeleton, k0_part55_skel, k0_part56_eq_skeleton, k0_part56_skel, k0_part57_eq_skeleton, k0_part57_skel,
        Prog.lift, Prog.bind_op, Prog.bind_ret, Prog.pure_eq_ret, semSignalWord, semWaitWord, wp_deviceId]
  refine wait_send 9 (by rfl) (by rfl) (by rfl) (by rfl) ?_
  repeat first
    | (with_reducible refine done hQ ?_; clear hQ Q'; try dsimp only)
    | with_reducible refine seq fun Q' hQ => ?_
    | simp only [k0_part55_eq_skeleton, k0_part55_skel, k0_part56_eq_skeleton, k0_part56_skel, k0_part57_eq_skeleton, k0_part57_skel,
        Prog.lift, Prog.bind_op, Prog.bind_ret, Prog.pure_eq_ret, semSignalWord, semWaitWord, wp_deviceId]
  refine wait_send 13 (by rfl) (by rfl) (by rfl) (by rfl) ?_
  repeat first
    | (with_reducible refine done hQ ?_; clear hQ Q'; try dsimp only)
    | with_reducible refine seq fun Q' hQ => ?_
    | simp only [k0_part55_eq_skeleton, k0_part55_skel, k0_part56_eq_skeleton, k0_part56_skel, k0_part57_eq_skeleton, k0_part57_skel,
        Prog.lift, Prog.bind_op, Prog.bind_ret, Prog.pure_eq_ret, semSignalWord, semWaitWord, wp_deviceId]
  refine wait_send 10 (by rfl) (by rfl) (by rfl) (by rfl) ?_
  repeat first
    | (with_reducible refine done hQ ?_; clear hQ Q'; try dsimp only)
    | with_reducible refine seq fun Q' hQ => ?_
    | simp only [k0_part55_eq_skeleton, k0_part55_skel, k0_part56_eq_skeleton, k0_part56_skel, k0_part57_eq_skeleton, k0_part57_skel,
        Prog.lift, Prog.bind_op, Prog.bind_ret, Prog.pure_eq_ret, semSignalWord, semWaitWord, wp_deviceId]
  refine wait_send 14 (by rfl) (by rfl) (by rfl) (by rfl) ?_
  repeat first
    | (with_reducible refine done hQ ?_; clear hQ Q'; try dsimp only)
    | with_reducible refine seq fun Q' hQ => ?_
    | simp only [k0_part55_eq_skeleton, k0_part55_skel, k0_part56_eq_skeleton, k0_part56_skel, k0_part57_eq_skeleton, k0_part57_skel,
        Prog.lift, Prog.bind_op, Prog.bind_ret, Prog.pure_eq_ret, semSignalWord, semWaitWord, wp_deviceId]
  refine wait_send 11 (by rfl) (by rfl) (by rfl) (by rfl) ?_
  repeat first
    | (with_reducible refine done hQ ?_; clear hQ Q'; try dsimp only)
    | with_reducible refine seq fun Q' hQ => ?_
    | simp only [k0_part55_eq_skeleton, k0_part55_skel, k0_part56_eq_skeleton, k0_part56_skel, k0_part57_eq_skeleton, k0_part57_skel,
        Prog.lift, Prog.bind_op, Prog.bind_ret, Prog.pure_eq_ret, semSignalWord, semWaitWord, wp_deviceId]
  refine wait_send 15 (by rfl) (by rfl) (by rfl) (by rfl) ?_
  repeat first
    | (with_reducible refine done hQ ?_; clear hQ Q'; try dsimp only)
    | with_reducible refine seq fun Q' hQ => ?_
    | simp only [k0_part55_eq_skeleton, k0_part55_skel, k0_part56_eq_skeleton, k0_part56_skel, k0_part57_eq_skeleton, k0_part57_skel,
        Prog.lift, Prog.bind_op, Prog.bind_ret, Prog.pure_eq_ret, semSignalWord, semWaitWord, wp_deviceId]
  refine ended ?_
  exact finale (by decide +kernel) (by decide +kernel) hfin

end Cert.KernelIdeal.Run

end
-- ==== Proof.KernelIdealRun.BodyOb.lean ====
/-
The kernel's body against the pipeline's account of it.
-/
module

public import proofs.«01_k».proof.Proof.KernelIdealRun.Data
public import proofs.«01_k».proof.Proof.KernelIdealRun.Body
public import Idealize.ShloMosaic.Lib.Pipeline.RegionTalk
public import Idealize.ShloMosaic.Lib.Pipeline.ValueKit

@[expose] public section

noncomputable section

namespace Cert.KernelIdeal.Run

open Cert.KernelIdeal Cert.KernelIdeal.Gen Cert.Grid2

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation to the pipeline -/

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owes_in (c : Dev nD) : ((dat0 (F := F) m c).owesAt () t0_0.castSucc : sProp 𝕄) ⊢ iprop(∃ W, owes (c : Thread nD τ) (O₀ c) W) := by
  unfold Dat.owesAt Pipeline.owesWithin; rw [owed_first]
  iintro ⟨%W, -, HO⟩; iexists W; iexact HO

theorem owes_out (c : Dev nD) : iprop(∃ W, owes (c : Thread nD τ) 0 W) ⊢ ((dat0 (F := F) m c).owesAt () t0_0.succ : sProp 𝕄) := by
  unfold Dat.owesAt Pipeline.owesWithin Dat.bound
  rw [show (dat0 (F := F) m c).owed t0_0.succ = 0 from owed_last m c, show (dat0 (F := F) m c).recorded t0_0.succ = Set.univ from rfl]
  iintro ⟨%W, HO⟩; iexists W; isplitr; · ipureintro; exact fun _ _ => Or.inl trivial
  iexact HO

set_option maxRecDepth 4000 in
/-- The body runs from the staged operands to the staged result. -/
theorem body_ob (c : Dev nD) : BodyObligation (dat0 (F := F) m c) defs₀ 𝒱₀ () Set.univ := fun t => by
  obtain rfl := fin_N0 t
  rw [bigSep_W0, bigSep_W0]
  simp only [owns_whole]
  rw [show (dat0 m c).Φ t0_0.castSucc = iprop(Xk m c ∗ scratch c ∗ ∃ r, prngReg c r) from rfl,
    show (dat0 m c).Φ t0_0.succ = iprop(semVal (barCell c) 0 ∗ zeros c ∗ scratch c ∗ ∃ r, prngReg c r) from rfl]
  unfold Xk scratch
  iintro ⟨⟨⟨%K, #Hlev, #HI, HS, HV, HB, #Hr, Hat, Hcr⟩, ⟨⟨%fs, Hs⟩, ⟨%fr, Hr'⟩, ⟨%fb, Hb⟩, ⟨%fa, Ha⟩, ⟨%fl, Hl⟩⟩, Hp⟩, HO,
    ⟨%d0, %f0, %hf0, H0⟩, ⟨%d1, %f1, %hf1, H1⟩, ⟨%d2, %f2, %hf2, H2⟩, ⟨%d3, %f3, %hf3, H3⟩⟩
  rw [before_q] at hf0; rw [before_k] at hf1; rw [before_v] at hf2
  subst hf0 hf1 hf2
  ihave HO := (owes_in m c) $$ HO
  iapply (body_run (vk m) K c (fq := inQ m c) (fk := inK m c) (fv := inV m c) (fo := f3) (fs := fs) (fr := fr) (fb := fb) (fa := fa) (fl := fl)
    (R := iprop(∃ r, prngReg c r)) rfl ?_)
  rotate_left
  · isplitl [H0 H1 H2 H3 Hs Hr' Hb Ha Hl]
    · unfold H; iframe
    isplitr [Hp]
    · unfold Tk0; iframe
      isplitr; · iexact Hlev
      isplitr; · iexact HI
      iexact Hr
    iexact Hp
  unfold H zeros
  iintro ⟨⟨H0, H1, H2, H3, Hs, Hr, Hb, Ha, Hl⟩, ⟨HO, HzS, HzR, HzB⟩, Hp⟩
  isplitl [HzB HzS HzR Hs Hr Hb Ha Hl Hp]
  · isplitl [HzB]; · iexact HzB
    isplitl [HzS HzR]; · isplitl [HzS] <;> iassumption
    isplitr [Hp]
    · isplitl [Hs]; · iexists _; iexact Hs
      isplitl [Hr]; · iexists _; iexact Hr
      isplitl [Hb]; · iexists _; iexact Hb
      isplitl [Ha]; · iexists _; iexact Ha
      iexists _; iexact Hl
    iexact Hp
  isplitl [HO]; · iapply (owes_out m c); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  iexists _; isplitr; swap; (· iexact H3); ipureintro; rfl

end Cert.KernelIdeal.Run

end
-- ==== Proof.KernelIdealRun.Region.lean ====
/-
The kernel's call as one piece of the program: what it is entered with, what it leaves, and the program as the list of
its three pieces.
-/
module

public import proofs.«01_k».proof.Proof.KernelIdealRun.BodyOb

@[expose] public section

noncomputable section

namespace Cert.KernelIdeal.Run

open Cert.KernelIdeal Cert.KernelIdeal.Gen Cert.Grid2

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Two families side by side are one family of pairs. -/
theorem paired {ι M : Type} [URA M] {S : Finset ι} {Φ Ψ : ι → sProp M} : iprop(bigSep S Φ ∗ bigSep S Ψ) ⊢ bigSep S fun i => iprop(Φ i ∗ Ψ i) :=
  Entails.of_eq (BI.bigSep_sep _ _ _).symm

/-- One family of pairs is two families side by side. -/
theorem apart {ι M : Type} [URA M] {S : Finset ι} {Φ Ψ : ι → sProp M} : bigSep S (fun i => iprop(Φ i ∗ Ψ i)) ⊢ iprop(bigSep S Φ ∗ bigSep S Ψ) :=
  Entails.of_eq (BI.bigSep_sep _ _ _)

/-! ## Entering and leaving the call -/

/-- What the launch gives device `c` for the exchange: the right to open its 32 cells, the duties it pays, its place on
    its barrier, and the credit of what others owe it. -/
def Given (c : Dev nD) : sProp 𝕄 :=
  iprop(∃ K, invs (vk m) K
    ∗ bigSep Finset.univ (fun s : Fin 16 => openTok ER (sendCell c s)) ∗ bigSep Finset.univ (fun r : Fin 16 => openTok ER (recvCell c r))
    ∗ bigSep Finset.univ (fun s : Fin 16 => dutyTok ER (sendCell c s) 0 0)
    ∗ bigSep Finset.univ (fun s : Fin 16 => dutyTok ER (recvCell (peer c s) s) 0 0)
    ∗ bigSep Finset.univ (fun g : Fin 3 => dutyTok ER (barCell (from' c g)) 0 g)
    ∗ atPos ER (barCell c) 0 ∅ 0
    ∗ bigSep Finset.univ (fun r : Fin 16 => cred (tallyAt (recvCell c r) () N)) ∗ cred (tallyAt (barCell c) () 3))

/-- The kernel's 32 counters: 16 and 16. -/
theorem ownSems_eq (c : Dev nD) : (Pipeline.ownSems0 osem c : sProp 𝕄) = zeros c := by
  unfold Pipeline.ownSems0 zeros
  rw [BI.bigSep_univ_equiv (finSumFinEquiv (m := 16) (n := 16)), BI.bigSep_univ_sum]
  have e : (fun r : Fin 16 => (semVal ((c : Thread nD τ), osem (finSumFinEquiv (m := 16) (n := 16) (.inr r))) 0 : sProp 𝕄))
      = fun r => semVal (recvCell c r) 0 := by
    funext r
    have h : osem (finSumFinEquiv (m := 16) (n := 16) (.inr r)) = .dma (rSem r) := by revert r; decide
    rw [h]
  rw [e]; rfl

theorem hopen (c : Dev nD) : iprop(Given m c ∗ Pipeline.ownSems0 osem c ∗ levAts L lv) ⊢ (|={Set.univ}=> Xk m c : sProp 𝕄) := by
  rw [ownSems_eq]
  have opS (K : GSem nD τ sig → ℕ) : iprop(invs (vk m) K ∗ bigSep Finset.univ (fun s : Fin 16 => iprop(openTok ER (sendCell c s) ∗ semVal (sendCell c s) 0)))
      ⊢ (|={Set.univ}=> bigSep Finset.univ (fun s : Fin 16 => iprop(atPos ER (sendCell c s) 0 ∅ 0 ∗ reached ER (sendCell c s) 0)) : sProp 𝕄) := by
    refine BIBase.Entails.trans ?_ (bigSep_fupd _ _)
    refine bigSep_with_persistent fun s _ => ?_
    iintro ⟨HI, Ha, Hb⟩
    iapply (Rounds.cell_open ER (Rd (vk m)) (g := sendCell c s) (Set.mem_univ (K (sendCell c s))))
    isplitl [HI]; · iapply (inv_send (vk m) K c s); iexact HI
    isplitl [Ha] <;> iassumption
  have opR (K : GSem nD τ sig → ℕ) : iprop(invs (vk m) K ∗ bigSep Finset.univ (fun r : Fin 16 => iprop(openTok ER (recvCell c r) ∗ semVal (recvCell c r) 0)))
      ⊢ (|={Set.univ}=> bigSep Finset.univ (fun r : Fin 16 => iprop(atPos ER (recvCell c r) 0 ∅ 0 ∗ reached ER (recvCell c r) 0)) : sProp 𝕄) := by
    refine BIBase.Entails.trans ?_ (bigSep_fupd _ _)
    refine bigSep_with_persistent fun s _ => ?_
    iintro ⟨HI, Ha, Hb⟩
    iapply (Rounds.cell_open ER (Rd (vk m)) (g := recvCell c s) (Set.mem_univ (K (recvCell c s))))
    isplitl [HI]; · iapply (inv_recv (vk m) K c s); iexact HI
    isplitl [Ha] <;> iassumption
  unfold Given zeros Xk
  iintro ⟨⟨%K, #HI, HoS, HoR, HtS, HtR, HtB, HaB, HcR, HcB⟩, ⟨HvS, HvR⟩, #Hlev⟩
  imod (opS K) $$ [HoS HvS] with HS
  · isplitr; · iexact HI
    iapply paired
    isplitl [HoS] <;> iassumption
  imod (opR K) $$ [HoR HvR] with HR
  · isplitr; · iexact HI
    iapply paired
    isplitl [HoR] <;> iassumption
  ihave HS := apart $$ HS; icases HS with ⟨HaS, HrS⟩
  ihave HR := apart $$ HR; icases HR with ⟨HaR, #HrR⟩
  imodintro
  iexists K
  isplitr; · iexact Hlev
  isplitr; · iexact HI
  isplitl [HtS HtR HrS HaS]
  · have e : (fun s => SD (vk m) c s 0) = fun s => iprop(dutyTok ER (sendCell c s) 0 0 ∗ dutyTok ER (recvCell (peer c s) s) 0 0 ∗ reached ER (sendCell c s) 0 ∗ atPos ER (sendCell c s) 0 ∅ 0) := rfl
    rw [e]
    iapply paired; isplitl [HtS]; · iexact HtS
    iapply paired; isplitl [HtR]; · iexact HtR
    iapply paired; isplitl [HrS] <;> iassumption
  isplitl [HaR HcR]
  · have e : (fun r => RV (vk m) c r 0) = fun r => iprop(atPos ER (recvCell c r) 0 ∅ 0 ∗ cred (tallyAt (recvCell c r) () N)) := rfl
    rw [e]
    iapply paired; isplitl [HaR] <;> iassumption
  isplitl [HtB]; · iexact HtB
  isplitr; · iexact HrR
  isplitl [HaB]; · iexact HaB
  iexact HcB

theorem scopedRest_eq (c : Dev nD) : (Pipeline.scopedRest (Ix := Unit) (Name := ℕ) (U := UU) (Lvl := ℕ) (Val := Elt F)
    (Pipeline.pin (pcfgs (F := F)) adm 0).spec c : sProp 𝕄) = scratch c := scopedRest0_eq c

theorem held_none (c : Dev nD) (W : Valuation τ sig (Elt F)) : (StableHlo.held (c.tc : Thread nD τ) (∅ : Finset (DevRef τ sig)) W : sProp 𝕄) = iprop(emp) := by
  unfold StableHlo.held; exact BI.bigSep_empty

theorem hin (c : Dev nD) : iprop(Pipeline.scopedRest (Pipeline.pin (pcfgs (F := F)) adm 0).spec c ∗ (∃ r, prngReg c r)
    ∗ StableHlo.held (c.tc : Thread nD τ) ∅ (V₁ m c) ∗ Xk m c) ⊢ (pdats m 0 c).Φ 0 := by
  rw [show (pdats m 0 c).Φ 0 = iprop(Xk m c ∗ scratch c ∗ ∃ r, prngReg c r) from rfl, scopedRest_eq, held_none]
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (barCell c) 0) := by
  rw [show (pdats m 0 c).Φ (Fin.last _) = iprop(semVal (barCell c) 0 ∗ zeros c ∗ scratch c ∗ ∃ r, prngReg c r) from rfl,
    scopedRest_eq, held_none, ownSems_eq]
  iintro ⟨Hb, Hz, Hs, Hp⟩
  isplitl [Hs]; · iexact Hs
  isplitl [Hp]; · iexact Hp
  isplitr; · iempintro
  isplitl [Hz] <;> iassumption

theorem O₀_pos {c : Dev nD} {g : GSem nD τ sig} {u : Unit} (h : 0 < O₀ c g u) : (∃ d, g = barCell d) ∨ ∃ s, g = recvCell (peer c s) s := by
  by_contra hn
  rw [not_or] at hn
  have hb (d : Dev nD) : tallyAt (barCell d) () 1 g u = 0 := by
    rw [tallyAt_apply, if_neg fun h' => hn.1 ⟨d, h'.1⟩]
  have h' : 0 < owed c order g u + tallyAt (barCell (from' c 2)) () 1 g u + tallyAt (barCell (from' c 1)) () 1 g u
      + tallyAt (barCell (from' c 0)) () 1 g u := h
  rw [hb, hb, hb] at h'
  obtain ⟨s, -, hs⟩ := owed_pos (show 0 < owed c order g u by omega)
  exact hn.2 ⟨s, hs⟩

theorem cutD (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases O₀_pos h with ⟨d, rfl⟩ | ⟨s, rfl⟩
    · exact ⟨by rw [L_tc]; exact Finset.mem_singleton_self _, Nat.one_pos⟩
    · refine ⟨by rw [L_tc]; exact Finset.mem_singleton_self _, ?_⟩
      show 0 < (if 20 + s.val < 20 then 0 else if 20 + s.val < 28 then 2 else 3)
      rw [if_neg (by omega)]; split <;> decide
  · exact absurd h (Nat.lt_irrefl 0)

/-- The buffers that outlive the call; the call's own arrays among them; the others. -/
def bufs : Finset (DevRef τ sig) := (StableHlo.tcRefs τ sig).filter fun b => ¬ b.isScoped
def arrs : Finset (DevRef τ sig) := Pipeline.arrRefs (τ := τ) (pcfgs (F := F) 0).spec
def others : Finset (DevRef τ sig) := {Proc.devRef .tc main_arg0, Proc.devRef .tc main_arg1, Proc.devRef .tc main_arg2, Proc.devRef .tc main_v5}

theorem arr_in (c : Dev nD) (w : Fin 4) : (pdats (F := F) m 0 c).arrAt w 0 = V₁ m c (Proc.devRef .tc (Pipeline.arrRef (Pipeline.pin (pcfgs (F := F)) adm 0).spec w)) := rfl

theorem arr_out (c : Dev nD) (w : Fin 4) : (pdats (F := F) m 0 c).arrAt w (Pipeline.pin (pcfgs (F := F)) adm 0).N
    = V₂ m c (Proc.devRef .tc (Pipeline.arrRef (Pipeline.pin (pcfgs (F := F)) adm 0).spec w)) := by
  fin_cases w
  · refine ((dat0 (F := F) m c).arrAt_in 0 rfl _).trans ?_
    exact (Function.update_of_ne (show (Proc.devRef .tc main_v1 : DevRef τ sig) ≠ Proc.devRef .tc main_v4 by decide) (out m c) (V₁ m c)).symm
  · refine ((dat0 (F := F) m c).arrAt_in 1 rfl _).trans ?_
    exact (Function.update_of_ne (show (Proc.devRef .tc main_v2 : DevRef τ sig) ≠ Proc.devRef .tc main_v4 by decide) (out m c) (V₁ m c)).symm
  · refine ((dat0 (F := F) m c).arrAt_in 2 rfl _).trans ?_
    exact (Function.update_of_ne (show (Proc.devRef .tc main_v3 : DevRef τ sig) ≠ Proc.devRef .tc main_v4 by decide) (out m c) (V₁ m c)).symm
  · refine (arrAt_out m c).trans ?_
    exact (Function.update_self (Proc.devRef .tc main_v4 : DevRef τ sig) (out m c) (V₁ m c)).symm

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
/-- The call. -/
def reg : ℝ𝕊 0 :=
  Pipeline.RegionSeg.ofTalk (pcfgs (F := F)) adm (pdats m) () defs₀ 𝒱₀ L lv 0 osem (by decide : Pipeline.OwnSemFacts spec0 osem)
    ∅ others (Finset.empty_subset _) (launch0.toP) rfl (fun c => (body_ob m c).loose)
    (fun _ => 0) O₀ (fun c => (owed_zero m c).trans (zero_add _).symm) (owed_last m) (fun _ => rfl)
    (fun c => (pdats m 0 c).share_full fun _ => rfl)
    (V₁ m) (V₂ m) (fun c b hb => Function.update_of_ne (by
      have h := (Finset.mem_sdiff.mp hb).1
      rintro rfl; revert h; decide) _ _)
    (Given m) (fun c => semVal (barCell c) 0) (Xk m) (fun c => semVal (barCell c) 0) (hopen m) (hin m) (hout m)
    (fun c => by iintro H; imodintro; iexact H)
    (fun _ => 0)
    ⟨fun c w s => by rw [L_tc]; exact Finset.mem_singleton_self _,
      fun c w s => by fin_cases w <;> fin_cases s <;> exact Nat.le_refl 0, fun c t g i h => cutD m c t g i h⟩
    (fun _ => iprop(emp))
    (arr_in m) (arr_out m)

end Cert.KernelIdeal.Run

end
-- ==== Proof.KernelIdealRun.Main.lean ====
/-
The run of all the devices from their launch: how the exchange's state is dealt out, and what every execution ends with.
-/
module

public import proofs.«01_k».proof.Proof.KernelIdealRun.Region
public import Idealize.ShloMosaic.Lib.Pipeline.RegionTalk
public import Idealize.ShloMosaic.Lib.Pipeline.ValueKit

@[expose] public section

noncomputable section

namespace Cert.KernelIdeal.Run

open Cert.KernelIdeal Cert.KernelIdeal.Gen Cert.Grid2

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The three pieces -/

local notation "ℍ" => Pipeline.HostSeg (Name := ℕ) (U := UU) (pcfgs (F := F)) defs₀ 𝒱₀ L lv

theorem sub0 : ∀ op ∈ (hostOps0 : List (HloOp τ sig (Elt F))), op.bufs ⊆ bufs := fun op h =>
  Pipeline.sub_ucRefs op ((List.forall_iff_forall_mem.mp hostOps0_sub) op h)
theorem sub1 : ∀ op ∈ (hostOps1 : List (HloOp τ sig (Elt F))), op.bufs ⊆ bufs := fun op h =>
  Pipeline.sub_ucRefs op ((List.forall_iff_forall_mem.mp hostOps1_sub) op h)

theorem fresh0 : List.Forall (fun op => op.fresh = ∅) (hostOps0 : List (HloOp τ sig (Elt F))) := ⟨rfl, rfl, rfl⟩
theorem fresh1 : List.Forall (fun op => op.fresh = ∅) (hostOps1 : List (HloOp τ sig (Elt F))) := rfl

/-- What rides beside the buffers before the call, and after it. -/
def Before (c : Dev nD) : sProp 𝕄 := iprop(Given m c ∗ (∃ r, prngReg c r) ∗ ∃ W, owes (c : Thread nD τ) (O₀ c) W)
def After (c : Dev nD) : sProp 𝕄 := iprop(semVal (barCell c) 0 ∗ ∃ W, owes (c : Thread nD τ) (0 : CellTallies nD τ sig Unit) W)

/-- The three reshapes before the call, and the one after it. -/
def seg0 : ℍ := Pipeline.HostSeg.ofOps _ _ _ _ _ bufs hostOps0 sub0 (List.forall_iff_forall_mem.mp fresh0) (V₀ m) (Before m)
def seg2 : ℍ := Pipeline.HostSeg.ofOps _ _ _ _ _ bufs hostOps1 sub1 (List.forall_iff_forall_mem.mp fresh1) (V₂ m) After

/-- The program of every device as these pieces. -/
def segs : List (Pipeline.Seg (pcfgs (F := F)) adm (pdats m) () defs₀ 𝒱₀ L lv) :=
  [.host (seg0 m), .region (reg m), .host (seg2 m)]

theorem main_pieces (c : Dev nD) : main (F := F) c = Pipeline.Seg.run (segs m) :=
  main_segs adm (pdats m) () 𝒱₀ L lv (seg0 m) (seg2 m) (reg m) rfl rfl c

theorem arrs_sub : (Pipeline.arrRefs (τ := τ) (pcfgs (F := F) 0).spec) ⊆ bufs := (by decide : Pipeline.arrRefs (τ := τ) spec0 ⊆ bufs)
theorem arrs_rest : bufs \ (Pipeline.arrRefs (τ := τ) (pcfgs (F := F) 0).spec) = others := (by decide : bufs \ Pipeline.arrRefs (τ := τ) spec0 = others)

theorem bufs_split (c : Dev nD) (W : Valuation τ sig (Elt F)) : (StableHlo.held (c.tc : Thread nD τ) bufs W : sProp 𝕄)
    = iprop(StableHlo.held (c.tc : Thread nD τ) (Pipeline.arrRefs (τ := τ) (pcfgs (F := F) 0).spec) W ∗ StableHlo.held (c.tc : Thread nD τ) others W) := by
  rw [StableHlo.held_sub_split _ (arrs_sub (F := F)) W, arrs_rest]

set_option backward.isDefEq.respectTransparency.types false in
theorem reg_pre (c : Dev nD) : iprop(StableHlo.held (c : Thread nD τ) bufs (V₁ m c) ∗ Before m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) others (V₁ m c) ∗ emp) ∗ Given m c ∗ ∃ Wd, owes (c : Thread nD τ) (0 + O₀ c) Wd)
  rw [zero_add, bufs_split]
  unfold Before
  iintro ⟨⟨Ha, Ho⟩, HG, Hp, HO⟩
  isplitl [Ha]; · iexact Ha
  isplitl [Hp]; · iexact Hp
  isplitl [Ho]
  · isplitl [Ho]; · iexact Ho
    iempintro
  isplitl [HG] <;> iassumption

set_option backward.isDefEq.respectTransparency.types false in
theorem reg_post (c : Dev nD) : (reg m).post c ⊢ iprop(StableHlo.held (c : Thread nD τ) bufs (V₂ m c) ∗ After c) := by
  show iprop(StableHlo.held (c.tc : Thread nD τ) (Pipeline.arrRefs (τ := τ) (pcfgs (F := F) 0).spec) (V₂ m c) ∗ (∃ r, prngReg c r)
    ∗ (StableHlo.held (c.tc : Thread nD τ) others (V₁ m c) ∗ emp) ∗ semVal (barCell c) 0 ∗ ∃ Wd, owes (c : Thread nD τ) (0 : CellTallies nD τ sig Unit) Wd) ⊢ _
  have e : (StableHlo.held (c.tc : Thread nD τ) others (V₁ m c) : sProp 𝕄) = StableHlo.held (c.tc : Thread nD τ) others (V₂ m c) := by
    unfold StableHlo.held
    refine bigSep_congr fun b hb => ?_
    rw [show V₂ m c b = V₁ m c b from Function.update_of_ne (by rintro rfl; revert hb; decide) _ _]
  rw [bufs_split, e]
  unfold After
  iintro ⟨Ha, -, ⟨Ho, -⟩, Hb, HO⟩
  isplitl [Ha Ho]; · isplitl [Ha] <;> iassumption
  isplitl [Hb] <;> iassumption

/-! ## The cells and the tokens -/

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- The counter a kernel cell counts on. -/
def cellSem : Fin 16 ⊕ Fin 16 → SemLoc sig := Sum.elim (fun s => .dma (sSem s)) (fun r => .dma (rSem r))
theorem cellSem_inj : Function.Injective cellSem := by decide
theorem cellSem_ne : ∀ k, cellSem k ≠ .reg barrier0 := by decide

def barEmb : Dev nD ↪ GSem nD τ sig := ⟨fun c => barCell c, fun _ _ h => congrArg (fun g : GSem nD τ sig => g.1.1) h⟩
def ownEmb : Dev nD × (Fin 16 ⊕ Fin 16) ↪ GSem nD τ sig :=
  ⟨fun p => ((p.1 : Thread nD τ), cellSem p.2), fun _ _ h =>
    Prod.ext (congrArg (fun g : GSem nD τ sig => g.1.1) h) (cellSem_inj (congrArg Prod.snd h))⟩

/-- The barrier cells, counted from the start, and the kernel's own, which sleep until the call. -/
abbrev barCells : Finset (GSem nD τ sig) := Finset.univ.map barEmb
abbrev ownCells : Finset (GSem nD τ sig) := Finset.univ.map ownEmb

/-- Every duty of a cell: three on a barrier, one on each of the others. -/
def duty : Fin 3 ⊕ (Fin 16 ⊕ Fin 16) → SemLoc sig × Fin 3 := Sum.elim (fun g => (.reg barrier0, g)) (fun k => (cellSem k, 0))
theorem duty_inj : Function.Injective duty := by decide +kernel
def tokEmb : Dev nD × (Fin 3 ⊕ (Fin 16 ⊕ Fin 16)) ↪ GSem nD τ sig × ℕ × Fin 3 :=
  ⟨fun p => (((p.1 : Thread nD τ), (duty p.2).1), 0, (duty p.2).2), fun _ _ h =>
    Prod.ext (congrArg (fun t : GSem nD τ sig × ℕ × Fin 3 => t.1.1.1) h)
      (duty_inj (Prod.ext (congrArg (fun t : GSem nD τ sig × ℕ × Fin 3 => t.1.2) h) (congrArg (fun t : GSem nD τ sig × ℕ × Fin 3 => t.2.2) h)))⟩
abbrev allToks : Finset (GSem nD τ sig × ℕ × Fin 3) := Finset.univ.map tokEmb

theorem disjoint_cells : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact cellSem_ne p.2 (congrArg Prod.snd h)

/-- What the run starts from. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- All of a resource on one device. -/
def parked (c₀ : Dev nD) (X : sProp 𝕄) (c : Dev nD) : sProp 𝕄 := if c = c₀ then X else iprop(emp)
theorem bigSep_parked (c₀ : Dev nD) (X : sProp 𝕄) : bigSep Finset.univ (parked c₀ X) = X := by
  rw [bigSep_univ_at _ c₀, bigSep_congr (s := Finset.univ.erase c₀) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def G : Dev nD → sProp 𝕄 := parked 0 (BI.own (ER (launchOf barCells ownCells allToks)))

/-! ## Handing the tokens round -/

/-- The neighbour relation in each direction is a rearrangement of the devices. -/
def turn (g : Fin 3) : Dev nD ≃ Dev nD := ⟨fun c => from' c g, fun c => dst c g, fun c => dst_from c g, fun c => from_dst c g⟩

/-- A family over devices and directions may be taken at each device's neighbours instead. -/
theorem handed {n : ℕ} (e : Fin n → Dev nD ≃ Dev nD) (Φ : Dev nD → Fin n → sProp 𝕄) :
    bigSep Finset.univ (fun c : Dev nD => bigSep Finset.univ fun g : Fin n => Φ c g)
      = bigSep Finset.univ fun c : Dev nD => bigSep Finset.univ fun g : Fin n => Φ (e g c) g := by
  rw [BI.bigSep_univ_comm, BI.bigSep_univ_comm (fun (c : Dev nD) (g : Fin n) => Φ (e g c) g)]
  exact bigSep_congr fun g _ => bigSep_univ_equiv (e g) (fun c => Φ c g)

/-- The tokens device `c` spends. -/
def spends (c : Dev nD) : sProp 𝕄 :=
  iprop(bigSep Finset.univ (fun g : Fin 3 => dutyTok ER (barCell (from' c g)) 0 g)
    ∗ bigSep Finset.univ (fun s : Fin 16 => dutyTok ER (sendCell c s) 0 0)
    ∗ bigSep Finset.univ (fun s : Fin 16 => dutyTok ER (recvCell (peer c s) s) 0 0))

theorem toks_handed : bigSep allToks (fun x => (dutyTok ER x.1 x.2.1 x.2.2 : sProp 𝕄)) ⊢ bigSep Finset.univ fun c : Dev nD => spends c := by
  have e1 : bigSep allToks (fun x => (dutyTok ER x.1 x.2.1 x.2.2 : sProp 𝕄)) = bigSep Finset.univ fun c : Dev nD =>
      iprop(bigSep Finset.univ (fun g : Fin 3 => (dutyTok ER (barCell c) 0 g : sProp 𝕄))
        ∗ bigSep Finset.univ (fun s : Fin 16 => (dutyTok ER (sendCell c s) 0 0 : sProp 𝕄))
        ∗ bigSep Finset.univ (fun s : Fin 16 => (dutyTok ER (recvCell c s) 0 0 : sProp 𝕄))) := by
    rw [BI.bigSep_map, bigSep_univ_prod]
    refine bigSep_congr fun c _ => ?_
    rw [BI.bigSep_univ_sum, BI.bigSep_univ_sum]; rfl
  rw [e1]
  unfold spends
  iintro H
  ihave H := apart $$ H; icases H with ⟨H1, H⟩
  ihave H := apart $$ H; icases H with ⟨H2, H3⟩
  iapply paired; isplitl [H1]
  · iapply (Entails.of_eq (handed turn fun c g => (dutyTok ER (barCell c) 0 g : sProp 𝕄))); iexact H1
  iapply paired; isplitl [H2]; · iexact H2
  iapply (Entails.of_eq (handed (fun s => (turn (grp s)).symm) fun c s => (dutyTok ER (recvCell c s) 0 0 : sProp 𝕄))); iexact H3

/-! ## What a device is owed -/

theorem recv_inj {c d : Dev nD} {r s : Fin 16} : recvCell c r = recvCell d s ↔ c = d ∧ r = s := by
  constructor
  · intro h
    have h2 : rSem r = rSem s := by
      have := congrArg Prod.snd h
      exact SemLoc.dma.inj this
    refine ⟨congrArg (fun g : GSem nD τ sig => g.1.1) h, ?_⟩
    have key : ∀ r s : Fin 16, rSem r = rSem s → r = s := by decide
    exact key r s h2
  · rintro ⟨rfl, rfl⟩; rfl

theorem recv_ne_bar (c d : Dev nD) (r : Fin 16) : recvCell c r ≠ barCell d := by
  intro h; have := congrArg Prod.snd h; exact absurd this (by rintro ⟨⟩)

theorem bar_inj {c d : Dev nD} : barCell c = barCell d ↔ c = d :=
  ⟨fun h => congrArg (fun g : GSem nD τ sig => g.1.1) h, fun h => by rw [h]⟩

/-- A device owes landing `r` of `c` one transfer if it is the one that sends it. -/
theorem owed_recv (d c : Dev nD) (r : Fin 16) (l : List (Fin 16)) :
    owed d l (recvCell c r) () = if peer d r = c then N * l.count r else 0 := by
  induction l with
  | nil => show 0 = _; simp
  | cons s l ih =>
    have e : owed d (s :: l) (recvCell c r) () = owed d l (recvCell c r) () + tallyAt (recvCell (peer d s) s) () N (recvCell c r) () := rfl
    rw [e, ih, tallyAt_apply]
    by_cases h : r = s
    · subst h
      by_cases h' : peer d r = c
      · rw [if_pos h', if_pos h', if_pos ⟨recv_inj.mpr ⟨h'.symm, rfl⟩, rfl⟩, List.count_cons_self]; ring
      · rw [if_neg h', if_neg h', if_neg fun q => h' (recv_inj.mp q.1).1.symm]
    · rw [if_neg (c := recvCell c r = recvCell (peer d s) s ∧ _) fun q => h (recv_inj.mp q.1).2, List.count_cons_of_ne (Ne.symm h)]
      rfl

theorem owed_bar (d c : Dev nD) (l : List (Fin 16)) : owed d l (barCell c) () = 0 := by
  by_contra h
  obtain ⟨s, -, hs⟩ := owed_pos (Nat.pos_of_ne_zero h)
  exact recv_ne_bar _ _ _ hs.symm

theorem O₀_at (d : Dev nD) (g : GSem nD τ sig) : O₀ d g () = owed d order g () + tallyAt (barCell (from' d 2)) () 1 g ()
    + tallyAt (barCell (from' d 1)) () 1 g () + tallyAt (barCell (from' d 0)) () 1 g () := rfl

theorem O₀_recv (d c : Dev nD) (r : Fin 16) : O₀ d (recvCell c r) () = if d = from' c (grp r) then N else 0 := by
  have hc : order.count r = 1 := by revert r; decide
  have hb (e : Dev nD) : tallyAt (barCell e) () 1 (recvCell c r) () = 0 := by
    rw [tallyAt_apply, if_neg fun q => recv_ne_bar c e r q.1]
  rw [O₀_at, owed_recv, hb, hb, hb, hc]
  have e : (peer d r = c) = (d = from' c (grp r)) :=
    propext ⟨fun h => by rw [← h]; exact (from_dst d (grp r)).symm, fun h => by rw [h]; exact dst_from c (grp r)⟩
  simp only [e, Nat.mul_one, Nat.add_zero]

theorem O₀_bar (d c : Dev nD) : O₀ d (barCell c) () = (if d = dst c 2 then 1 else 0) + (if d = dst c 1 then 1 else 0) + (if d = dst c 0 then 1 else 0) := by
  have hb (g : Fin 3) : tallyAt (barCell (from' d g)) () 1 (barCell c) () = if d = dst c g then 1 else 0 := by
    rw [tallyAt_apply]
    exact if_congr ⟨fun h => by rw [bar_inj.mp h.1]; exact (dst_from d g).symm,
      fun h => ⟨by rw [h]; exact bar_inj.mpr (from_dst c g).symm, rfl⟩⟩ rfl rfl
  rw [O₀_at, owed_bar, hb, hb, hb, Nat.zero_add]

theorem credit_recv (c : Dev nD) (r : Fin 16) :
    tallyOn (recvCell c r) (launchCredit (Pipeline.owing O₀) 0 (recvCell c r)) = (tallyAt (recvCell c r) () N : CellTallies nD τ sig Unit) := by
  unfold tallyAt; refine congrArg _ (Finsupp.ext fun u => ?_); cases u
  rw [Pipeline.launchCredit_owing, Finsupp.single_eq_same, Finset.sum_congr rfl fun d _ => O₀_recv d c r,
    Finset.sum_ite_eq' Finset.univ (from' c (grp r)) fun _ => N, if_pos (Finset.mem_univ _)]

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  have h1 (g : Fin 3) : (∑ d : Dev nD, if d = dst c g then 1 else 0) = 1 := by
    rw [Finset.sum_ite_eq' Finset.univ (dst c g) fun _ => 1, if_pos (Finset.mem_univ _)]
  rw [Pipeline.launchCredit_owing, Finsupp.single_eq_same, Finset.sum_congr rfl fun d _ => O₀_bar d c,
    Finset.sum_add_distrib, Finset.sum_add_distrib, h1, h1, h1]

def recvEmb : Fin 16 ↪ SemLoc sig := ⟨fun r => .dma (rSem r), by decide⟩
theorem recv_others : Finset.univ.map recvEmb ⊆ (Finset.univ.erase (SemLoc.reg barrier0) : Finset (SemLoc sig)) := by decide

theorem credits (c : Dev nD) : (Pipeline.launchCred O₀ c : sProp 𝕄)
    ⊢ iprop(cred (tallyAt (barCell c) () 3) ∗ bigSep Finset.univ (fun r : Fin 16 => cred (tallyAt (recvCell c r) () N))) := by
  unfold Pipeline.launchCred
  rw [bigSep_univ_at _ (SemLoc.reg barrier0), credit_bar]
  refine sep_mono_right ((bigSep_subset recv_others).trans ?_)
  rw [BI.bigSep_map]
  exact Entails.of_eq (bigSep_congr fun r _ => congrArg cred (credit_recv c r))

/-! ## The start -/

/-- Everything a device starts with, and what it ends with. -/
abbrev T₀ (c : Dev nD) : sProp 𝕄 := iprop(StableHlo.held (c : Thread nD τ) bufs (V₀ m c) ∗ Before m c)
abbrev Tₙ (c : Dev nD) : sProp 𝕄 := iprop(StableHlo.held (c : Thread nD τ) others (V₃ m c) ∗ semVal (barCell c) 0)

/-- The invariants and the barrier rounds, for all to consult. -/
def records (κ : GSem nD τ sig → ℕ) : sProp 𝕄 :=
  iprop((bigSep (barCells ∪ ownCells) fun g => cellInv ER (Rd (vk m)) (κ g) g) ∗ bigSep barCells fun g => reached ER g 0)

instance records_persistent (κ : GSem nD τ sig → ℕ) : BI.Persistent (records m κ) := by unfold records; infer_instance

theorem records_invs (κ : GSem nD τ sig → ℕ) : records m κ ⊢ invs (vk m) κ := by
  have e : (bigSep (barCells ∪ ownCells) fun g => (cellInv ER (Rd (vk m)) (κ g) g : sProp 𝕄))
      = iprop(bigSep Finset.univ (fun c : Dev nD => (cellInv ER (Rd (vk m)) (κ (barCell c)) (barCell c) : sProp 𝕄))
        ∗ bigSep Finset.univ fun c : Dev nD => bigSep Finset.univ fun k : Fin 16 ⊕ Fin 16 =>
          (cellInv ER (Rd (vk m)) (κ (ownEmb (c, k))) (ownEmb (c, k)) : sProp 𝕄)) := by
    rw [bigSep_union disjoint_cells, BI.bigSep_map, BI.bigSep_map, bigSep_univ_prod]; rfl
  have e' : (bigSep barCells fun g => (reached ER g 0 : sProp 𝕄)) = bigSep Finset.univ fun c : Dev nD => (reached ER (barCell c) 0 : sProp 𝕄) :=
    BI.bigSep_map ..
  unfold records invs
  rw [e, e', bigSep_univ_prod, bigSep_univ_prod]
  iintro ⟨⟨H1, H2⟩, H3⟩
  isplitl [H1]; · iexact H1
  isplitl [H3]; · iexact H3
  iapply apart
  iapply (Entails.of_eq (bigSep_congr (s := (Finset.univ : Finset (Dev nD))) fun c _ =>
    BI.bigSep_univ_sum (fun k : Fin 16 ⊕ Fin 16 => (cellInv ER (Rd (vk m)) (κ (ownEmb (c, k))) (ownEmb (c, k)) : sProp 𝕄))))
  iexact H2

/-- A device's own share of the exchange's state at the start. -/
def own₀ (c : Dev nD) : sProp 𝕄 :=
  iprop(atPos ER (barCell c) 0 ∅ 0
    ∗ (bigSep Finset.univ (fun s : Fin 16 => openTok ER (sendCell c s)) ∗ bigSep Finset.univ (fun r : Fin 16 => openTok ER (recvCell c r)))
    ∗ spends c)

/-- The rest of what a device starts with. -/
def rest₀ (c : Dev nD) : sProp 𝕄 :=
  iprop(StableHlo.held (c : Thread nD τ) bufs (V₀ m c)
    ∗ (cred (tallyAt (barCell c) () 3) ∗ bigSep Finset.univ (fun r : Fin 16 => cred (tallyAt (recvCell c r) () N)))
    ∗ owes (c : Thread nD τ) (O₀ c) ∅ ∗ ∃ r, prngReg c r)

theorem T₀_intro (κ : GSem nD τ sig → ℕ) (c : Dev nD) : iprop(records m κ ∗ (own₀ c ∗ rest₀ m c)) ⊢ T₀ m c := by
  unfold own₀ rest₀ T₀ Before Given spends
  iintro ⟨#HR, ⟨Hat, ⟨HoS, HoR⟩, HtB, HtS, HtR⟩, Hh, ⟨HcB, HcR⟩, HO, Hp⟩
  isplitl [Hh]; · iexact Hh
  isplitr [HO Hp]
  · iexists κ
    isplitr; · iapply (records_invs m κ); iexact HR
    isplitl [HoS]; · iexact HoS
    isplitl [HoR]; · iexact HoR
    isplitl [HtS]; · iexact HtS
    isplitl [HtR]; · iexact HtR
    isplitl [HtB]; · iexact HtB
    isplitl [Hat]; · iexact Hat
    isplitl [HcR] <;> iassumption
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(rest₀ m c ∗ (semVal (barCell c) 0 ∗ G c)) : sProp 𝕄) := by
    rw [show unscopedBufs c (fun b => m ((c : Thread nD τ).loc b)) = StableHlo.held (c : Thread nD τ) bufs (V₀ m c) from unscopedBufs_held c (V₀ m c),
      unscopedSems0_eq]
    unfold rest₀
    iintro ⟨Hh, Hus, HO, Hcr, Hp, HG⟩
    ihave Hc := (credits (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hopen : bigSep ownCells (fun g => (openTok ER g : sProp 𝕄)) ⊢ bigSep Finset.univ (fun c : Dev nD =>
      iprop(bigSep Finset.univ (fun s : Fin 16 => (openTok ER (sendCell c s) : sProp 𝕄)) ∗ bigSep Finset.univ (fun r : Fin 16 => (openTok ER (recvCell c r) : sProp 𝕄)))) :=
    Entails.of_eq (by
      rw [BI.bigSep_map, bigSep_univ_prod]
      exact bigSep_congr fun c _ => BI.bigSep_univ_sum (fun k : Fin 16 ⊕ Fin 16 => (openTok ER (ownEmb (c, k)) : sProp 𝕄)))
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(rest₀ m c ∗ (semVal (barCell c) 0 ∗ G c)) : sProp 𝕄) from bigSep_mono fun c _ => hcore c) $$ H
  ihave H := apart $$ H; icases H with ⟨HB, H⟩
  ihave H := apart $$ H; icases H with ⟨Hv, HG⟩
  ihave Hu := (show bigSep Finset.univ (G (F := F)) ⊢ BI.own (ER (launchOf barCells ownCells allToks)) from
    Entails.of_eq (bigSep_parked (F := F) 0 (BI.own (ER (launchOf barCells ownCells allToks))))) $$ HG
  imod (Rounds.fund_launch ER (Rd (vk m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(own₀ c ∗ rest₀ m c)) fun c _ => T₀_intro m κ c)
  isplitr
  · unfold records
    isplitr; · iexact Hinv
    iexact Hr
  iapply paired
  isplitr [HB]
  · unfold own₀
    iapply paired; isplitl [Hat]; · iapply hat $$ Hat
    iapply paired; isplitl [Hopen]; · iapply hopen $$ Hopen
    iapply (toks_handed (F := F)); iexact Htok
  · iexact HB

/-! ## The run -/

theorem others_eq (c : Dev nD) (W : Valuation τ sig (Elt F)) : (StableHlo.held (c : Thread nD τ) others W : sProp 𝕄)
    = iprop(At c main_arg0 Finset.univ fullShare (W main_arg0) ∗ At c main_arg1 Finset.univ fullShare (W main_arg1) ∗ At c main_arg2 Finset.univ fullShare (W main_arg2) ∗ At c main_v5 Finset.univ fullShare (W main_v5)) := by
  unfold StableHlo.held
  rw [bigSep_eq_bigSepL_of_eq [Proc.devRef .tc main_arg0, Proc.devRef .tc main_arg1, Proc.devRef .tc main_arg2, Proc.devRef .tc main_v5] (by decide) (by decide)]
  rfl

/-- No operation of the host, nor the call, writes an argument. -/
theorem V₃_arg0 (c : Dev nD) : V₃ m c main_arg0 = m ((c : Thread nD τ).loc main_arg0) := by
  refine (StableHlo.after_of_forall_not_mem (b := Proc.devRef .tc main_arg0) _ _ (List.forall_iff_forall_mem.mp
    (by simp only [hostOps1, List.Forall, StableHlo.reshape_writes, Finset.mem_singleton]; exact StableHlo.devRef_ne_of_ne (by decide)))).trans ?_
  refine (Function.update_of_ne (show (Proc.devRef .tc main_arg0 : DevRef τ sig) ≠ Proc.devRef .tc main_v4 by decide) _ _).trans ?_
  exact StableHlo.after_of_forall_not_mem (b := Proc.devRef .tc main_arg0) _ _ (List.forall_iff_forall_mem.mp
    (by simp only [hostOps0, List.Forall, StableHlo.reshape_writes, Finset.mem_singleton]; repeat' apply And.intro
        all_goals exact StableHlo.devRef_ne_of_ne (by decide)))
theorem V₃_arg1 (c : Dev nD) : V₃ m c main_arg1 = m ((c : Thread nD τ).loc main_arg1) := by
  refine (StableHlo.after_of_forall_not_mem (b := Proc.devRef .tc main_arg1) _ _ (List.forall_iff_forall_mem.mp
    (by simp only [hostOps1, List.Forall, StableHlo.reshape_writes, Finset.mem_singleton]; exact StableHlo.devRef_ne_of_ne (by decide)))).trans ?_
  refine (Function.update_of_ne (show (Proc.devRef .tc main_arg1 : DevRef τ sig) ≠ Proc.devRef .tc main_v4 by decide) _ _).trans ?_
  exact StableHlo.after_of_forall_not_mem (b := Proc.devRef .tc main_arg1) _ _ (List.forall_iff_forall_mem.mp
    (by simp only [hostOps0, List.Forall, StableHlo.reshape_writes, Finset.mem_singleton]; repeat' apply And.intro
        all_goals exact StableHlo.devRef_ne_of_ne (by decide)))
theorem V₃_arg2 (c : Dev nD) : V₃ m c main_arg2 = m ((c : Thread nD τ).loc main_arg2) := by
  refine (StableHlo.after_of_forall_not_mem (b := Proc.devRef .tc main_arg2) _ _ (List.forall_iff_forall_mem.mp
    (by simp only [hostOps1, List.Forall, StableHlo.reshape_writes, Finset.mem_singleton]; exact StableHlo.devRef_ne_of_ne (by decide)))).trans ?_
  refine (Function.update_of_ne (show (Proc.devRef .tc main_arg2 : DevRef τ sig) ≠ Proc.devRef .tc main_v4 by decide) _ _).trans ?_
  exact StableHlo.after_of_forall_not_mem (b := Proc.devRef .tc main_arg2) _ _ (List.forall_iff_forall_mem.mp
    (by simp only [hostOps0, List.Forall, StableHlo.reshape_writes, Finset.mem_singleton]; repeat' apply And.intro
        all_goals exact StableHlo.devRef_ne_of_ne (by decide)))

theorem unscoped_bar : ∀ sm : SemLoc sig, sm.isScoped .tc = false → sm = .reg barrier0 := by decide

set_option backward.isDefEq.respectTransparency.types false in
/-- From any memory, with every counter at zero, every weakly fair execution on the 32 devices terminates; at the end the
    arguments are as they were, each device's result holds the reshaped result of its call, and every counter reads zero. -/
theorem run_main : θ_run defs (onTc (τ := τ) (main (F := F))) ⟨m, fun _ => 0, ρ⟩
    (fun r => (∀ c : Dev nD, r.2.mem ((c : Thread nD τ).loc main_v5) = V₃ m c main_v5
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_pieces m c])
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_parked]; iexact HX)
    (T₀ := T₀ m) (Tₙ := Tₙ m)
    (hch := by
      refine ⟨fun c => .rfl, fun c => reg_pre m c, fun c => reg_post m c, fun c => ?_⟩
      show iprop(StableHlo.held (c : Thread nD τ) bufs (V₃ m c) ∗ After c)
        ⊢ iprop(Tₙ m c ∗ ∃ W, owes (c : Thread nD τ) (0 : CellTallies nD τ sig Unit) W)
      rw [bufs_split]
      unfold After
      iintro ⟨⟨-, Hh⟩, Hb0, HO⟩
      isplitr [HO]
      · isplitl [Hh] <;> iassumption
      · iexact HO)
    (hinit := init m ρ)
    (QY := fun c s => (s.mem ((c : Thread nD τ).loc main_arg0) = V₃ m c main_arg0
      ∧ s.mem ((c : Thread nD τ).loc main_arg1) = V₃ m c main_arg1
      ∧ s.mem ((c : Thread nD τ).loc main_arg2) = V₃ m c main_arg2
      ∧ s.mem ((c : Thread nD τ).loc main_v5) = V₃ m c main_v5) ∧ s.sem (barCell c) = 0)
    (hfin := fun c s' => by
      dsimp only [Tₙ]; rw [others_eq]
      iintro ⟨⟨⟨H0, H1, H2, H5⟩, Hb0⟩, HSI⟩
      icombine HSI H0 gives %h0
      icombine HSI H1 gives %h1
      icombine HSI H2 gives %h2
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h5⟩, by simpa using hb⟩
      iexact HSI)
    (hQ := fun s h hs => ⟨fun c => by
        obtain ⟨⟨h0, h1, h2, h5⟩, -⟩ := h c
        rw [V₃_arg0] at h0; rw [V₃_arg1] at h1; rw [V₃_arg2] at h2
        exact ⟨h5, h0, h1, h2⟩,
      sem_eq_zero hs fun c sm hsm => by
        obtain rfl := unscoped_bar sm hsm
        exact (h c).2⟩)

end Cert.KernelIdeal.Run

end
-- ==== Proof.KernelIdealRun.Same.lean ====
/-
The program at bits and its idealization are one text, so that what is proved of the second for any float values holds of
the first.
-/
module

public import proofs.«01_k».proof.Defs
public import proofs.«01_k».proof.Proof.Gen.Kernel
public import proofs.«01_k».proof.Proof.Gen.KernelIdeal
public import proofs.«01_k».proof.Proof.KernelIdealRun.Main

@[expose] public section

noncomputable section

namespace Cert.Same

open Idealize.ShloMosaic Idealize.SL.Sem

/-- The two kernels' body tables are one. -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

/-- The two programs' body tables are one. -/
theorem defs_eq : Cert.Kernel.defs (F := Bits) = Cert.KernelIdeal.defs (F := Bits) := by
  unfold Cert.Kernel.defs Cert.KernelIdeal.defs
  exact congrArg (Pipeline.defs _) defs₀_eq

/-- The kernel, read at bits, runs and leaves its arguments and every counter as they were. -/
theorem frame_p : Cert.quiescent_Kernel := fun m ρ _ => by
  have h := Cert.KernelIdeal.Run.run_main (F := Bits) m ρ
  have e : θ_run (Cert.Kernel.defs (F := Bits)) (onTc (τ := Cert.Kernel.τ) (Cert.Kernel.main (F := Bits))) ⟨m, fun _ => 0, ρ⟩
      = θ_run (Cert.KernelIdeal.defs (F := Bits)) (onTc (τ := Cert.KernelIdeal.τ) (Cert.KernelIdeal.main (F := Bits))) ⟨m, fun _ => 0, ρ⟩ :=
    congrArg (fun D => θ_run D (onTc (τ := Cert.KernelIdeal.τ) (Cert.KernelIdeal.main (F := Bits))) ⟨m, fun _ => 0, ρ⟩) defs_eq
  rw [e]
  exact (θ_run Cert.KernelIdeal.defs _ _).mono (fun _ h => ⟨fun c => (h.1 c).2, h.2⟩) h

end Cert.Same

end
-- ==== Proof.Value.Blocks.lean ====
/-
What the kernel's blocks of arithmetic compute over the extended reals, element by element.
-/
module

public import proofs.«01_k».proof.Proof.Gen.KernelIdeal.Skeleton
public import proofs.«01_k».proof.Proof.Grid2
public import Idealize.ShloMosaic.Lib.Pointwise
public import Idealize.ShloMosaic.Lib.ValueIdx
public import Idealize.ShloMosaic.PureOps.Ideal.Laws

@[expose] public section

noncomputable section

namespace Cert.KernelIdeal.Blocks

open Cert.KernelIdeal Cert.KernelIdeal.Gen Cert.Grid2
open Idealize.ShloMosaic
open scoped BigOperators

/-- An exponentiated score: of row `i` of `a` with row `j` of `b`, over the 64 columns of a head. -/
def ex {A B : ℕ} [NeZero A] [NeZero B] (a : (⟨2, ![A, 64]⟩ : Shape).Idx → EReal) (b : (⟨2, ![B, 64]⟩ : Shape).Idx → EReal)
    (i j : ℕ) : EReal :=
  Ideal.exp (∑ d ∈ Finset.range 64, a (at2 A 64 i d) * b (at2 B 64 j d))

theorem pay26 (a b : Vec Ideal S256x64 .bf16) (x : S256x256.Idx) :
    k0_pay26 (F := Ideal) a b x = ex (A := 256) (B := 256) a b (x 0).val (x 1).val := by
  show Ideal.exp (Ideal.matmul dot_S256x64_S256x64_S256x256_1_1_0_0_n_n a b _ x) = _
  rw [Ideal.matmul_apply₁_of (a := 1) _ rfl (K := 64) rfl _ _ _ _ (fun k => at2 256 64 (x 0).val k.val) (fun k => at2 256 64 (x 1).val k.val)]
  · unfold ex
    rw [Finset.sum_range]
    congr 1
    exact (congrArg (· + _) Ideal.ofBits_zero_f32).trans (zero_add _)
  · intro k; exact at2_of rfl rfl
  · intro k; exact at2_of rfl rfl

theorem pay82 (a : Vec Ideal S256x64 .bf16) (b : Vec Ideal S128x64 .bf16) (x : S256x128.Idx) :
    k0_pay82 (F := Ideal) a b x = ex (A := 256) (B := 128) a b (x 0).val (x 1).val := by
  show Ideal.exp (Ideal.matmul dot_S256x64_S128x64_S256x128_1_1_0_0_n_n a b _ x) = _
  rw [Ideal.matmul_apply₁_of (a := 1) _ rfl (K := 64) rfl _ _ _ _ (fun k => at2 256 64 (x 0).val k.val) (fun k => at2 128 64 (x 1).val k.val)]
  · unfold ex
    rw [Finset.sum_range]
    congr 1
    exact (congrArg (· + _) Ideal.ofBits_zero_f32).trans (zero_add _)
  · intro k; exact at2_of rfl rfl
  · intro k; exact at2_of rfl rfl

/-- The cast of a shape to itself changes nothing. -/
theorem cast_self {s : Shape} {α : Type} (v : s.Idx → α) (h : s.ShapeCasts s) (x : s.Idx) : shapeCast s v h x = v x :=
  shapeCast_apply v h x x rfl

/-- A column of 256 read as a vector of 256. -/
theorem cast_col {α : Type} (v : S256.Idx → α) (h : S256.ShapeCasts S256x1) (x : S256x1.Idx) :
    shapeCast S256x1 v h x = v (ix1 (n0 := 256) (x 0)) := by
  refine shapeCast_apply v h x _ ?_
  rw [Shape.rowMajor_val_one, Shape.rowMajor_val_two]
  have := lt1 x
  show (x 0).val = (x 0).val * 1 + (x 1).val
  omega

/-- The sum of a row of exponentiated scores against 256 keys. -/
theorem pay27 (a b : Vec Ideal S256x64 .bf16) (x : S256x1.Idx) :
    k0_pay27 (F := Ideal) a b x = ∑ j ∈ Finset.range 256, ex (A := 256) (B := 256) a b (x 0).val j := by
  unfold k0_pay27
  refine (cast_self _ _ x).trans ((cast_col _ _ x).trans ?_)
  rw [Finset.sum_range]
  refine (Ideal.multiReduction_add_single _ _ _ _ _ _).trans ?_
  exact Finset.sum_congr rfl fun k _ => pay26 a b _

/-- That sum against 128 further keys, added to what was summed before. -/
theorem pay83 (a : Vec Ideal S256x64 .bf16) (b : Vec Ideal S128x64 .bf16) (l : Vec Ideal S256x1 .f32) (x : S256x1.Idx) :
    k0_pay83 (F := Ideal) a b l x = l x + ∑ j ∈ Finset.range 128, ex (A := 256) (B := 128) a b (x 0).val j := by
  unfold k0_pay83
  refine (cast_self _ _ x).trans (congrArg (l x + ·) ((cast_col _ _ x).trans ?_))
  rw [Finset.sum_range]
  refine (Ideal.multiReduction_add_single _ _ _ _ _ _).trans ?_
  exact Finset.sum_congr rfl fun k _ => pay82 a b _

/-- The values of 256 keys, each times its exponentiated score, summed. -/
theorem pay28 (a b v : Vec Ideal S256x64 .bf16) (x : S256x64.Idx) :
    k0_pay28 (F := Ideal) a b v x
      = ∑ j ∈ Finset.range 256, ex (A := 256) (B := 256) a b (x 0).val j * v (at2 256 64 j (x 1).val) := by
  unfold k0_pay28
  refine (cast_self _ _ x).trans ?_
  show Ideal.matmul dot_S256x256_S256x64_S256x64_1_0_0_1_n_n (k0_pay26 (F := Ideal) a b) v _ x = _
  rw [Ideal.matmul_apply₁_of (a := 1) _ rfl (K := 256) rfl _ _ _ _ (fun k => at2 256 256 (x 0).val k.val) (fun k => at2 256 64 k.val (x 1).val)]
  · rw [Finset.sum_range]
    refine ((congrArg (· + _) Ideal.ofBits_zero_f32).trans (zero_add _)).trans (Finset.sum_congr rfl fun k _ => ?_)
    rw [pay26, at2_0, at2_1, Nat.mod_eq_of_lt (lt0 x), Nat.mod_eq_of_lt k.isLt]
  · intro k; exact at2_of rfl rfl
  · intro k; exact at2_of rfl rfl

/-- The same for 128 further keys, added to what was summed before. -/
theorem pay84 (a : Vec Ideal S256x64 .bf16) (b v : Vec Ideal S128x64 .bf16) (o : Vec Ideal S256x64 .f32) (x : S256x64.Idx) :
    k0_pay84 (F := Ideal) a b v o x
      = o x + ∑ j ∈ Finset.range 128, ex (A := 256) (B := 128) a b (x 0).val j * v (at2 128 64 j (x 1).val) := by
  unfold k0_pay84
  refine (cast_self _ _ x).trans (congrArg (o x + ·) ?_)
  show Ideal.matmul dot_S256x128_S128x64_S256x64_1_0_0_1_n_n (k0_pay82 (F := Ideal) a b) v _ x = _
  rw [Ideal.matmul_apply₁_of (a := 1) _ rfl (K := 128) rfl _ _ _ _ (fun k => at2 256 128 (x 0).val k.val) (fun k => at2 128 64 k.val (x 1).val)]
  · rw [Finset.sum_range]
    refine ((congrArg (· + _) Ideal.ofBits_zero_f32).trans (zero_add _)).trans (Finset.sum_congr rfl fun k _ => ?_)
    rw [pay82, at2_0, at2_1, Nat.mod_eq_of_lt (lt0 x), Nat.mod_eq_of_lt k.isLt]
  · intro k; exact at2_of rfl rfl
  · intro k; exact at2_of rfl rfl

/-- The quotient at the end: each element over its row's sum. -/
theorem pay189 (o : Vec Ideal S256x64 .f32) (l : Vec Ideal S256x1 .f32) (x : S256x64.Idx) :
    k0_pay189 (F := Ideal) o l x = Ideal.div (o x) (l (at2 256 1 (x 0).val 0)) := by
  show Ideal.div (o x) (broadcastTo S256x64 l broadcasts_S256x1_S256x64 x) = _
  congr 1
  refine broadcastTo_apply l _ x _ fun d => ?_
  match d with
  | ⟨0, _⟩ => exact Nat.mod_eq_of_lt (lt0 x)
  | ⟨1, _⟩ => rfl

/-- The word of one eighth. -/
theorem eighth : Ideal.ofBits .f32 0x3E000000#32 = ((1 / 8 : ℝ) : EReal) := by
  simp [Ideal.ofBits, Ideal.ieee, -EReal.coe_mul]; norm_num

/-- The queries are scaled by one eighth before they are kept. -/
theorem pay18 (f : Vec Ideal S512x512 .f32) (x : S512x512.Idx) :
    k0_pay18 (F := Ideal) f x = f x * ((1 / 8 : ℝ) : EReal) := by
  unfold k0_pay18
  refine (cast_self _ _ x).trans ?_
  show shapeCast S512x512 f shapeCasts_S512x512_S512x512 x * Ideal.ofBits .f32 0x3E000000#32 = _
  rw [cast_self, eighth]

/-- Keys and values are kept as they are. -/
theorem pay1 (f : Vec Ideal S64x512 .f32) (x : S64x512.Idx) : k0_pay1 (F := Ideal) f x = f x := by
  unfold k0_pay1
  refine (cast_self _ _ x).trans ?_
  show shapeCast S64x512 f shapeCasts_S64x512_S64x512 x = _
  rw [cast_self]

end Cert.KernelIdeal.Blocks

end
-- ==== Proof.Value.Kern.lean ====
/-
What the kernel leaves on a device over the extended reals, element by element: the sums over the device's own keys
and over those it was sent, of the exponentiated scores and of the values they weigh, one over the other.
-/
module

public import proofs.«01_k».proof.Proof.Value.Blocks
public import proofs.«01_k».proof.Proof.KernelIdealRun.Data

@[expose] public section

noncomputable section

namespace Cert.KernelIdeal.Elem

open Cert.KernelIdeal Cert.KernelIdeal.Gen Cert.KernelIdeal.Run Cert.KernelIdeal.Blocks Cert.Grid2
open Idealize.ShloMosaic
open scoped BigOperators

variable (fb : CB Ideal) (fs fr : CK Ideal)

/-- The exponentiated score of query row `r` with key row `k`, at head `h`. -/
def wt (r k h : ℕ) : EReal :=
  Ideal.exp (∑ d ∈ Finset.range 64, (fb (at2 512 512 r (64 * h + d)) : EReal) * (fs (at2 1024 512 k (64 * h + d)) : EReal))

/-- Scores of blocks are scores of the rows they were cut from. -/
theorem ex_blk {A B : ℕ} [NeZero A] [NeZero B] (a b h i j : ℕ) (hi : i < A) (hj : j < B) :
    ex (A := A) (B := B) (blk A 64 a (64 * h) fb) (blk B 64 b (64 * h) fs) i j = wt fb fs (a + i) (b + j) h := by
  unfold ex wt
  refine congrArg _ (Finset.sum_congr rfl fun d hd => ?_)
  have hd' := Finset.mem_range.mp hd
  show (fb (at2 512 512 (a + i % A) (64 * h + d % 64)) : EReal) * (fs (at2 1024 512 (b + j % B) (64 * h + d % 64)) : EReal) = _
  rw [Nat.mod_eq_of_lt hi, Nat.mod_eq_of_lt hj, Nat.mod_eq_of_lt hd']

/-- A block of a column read at an element. -/
theorem blk_self {R C h w : ℕ} [NeZero R] [NeZero C] [NeZero h] [NeZero w] {α : Type} (f : (⟨2, ![R, C]⟩ : Shape).Idx → α)
    (x : (⟨2, ![R, C]⟩ : Shape).Idx) (a b i j : ℕ) (hi : i < h) (hj : j < w) (e0 : a + i = (x 0).val) (e1 : b + j = (x 1).val) :
    blk h w a b f (at2 h w i j) = f x := by
  show f (at2 R C (a + i % h) (b + j % w)) = f x
  rw [Nat.mod_eq_of_lt hi, Nat.mod_eq_of_lt hj, e0, e1, at2_eta]

/-- The sums of weights over the device's own keys. -/
theorem lLoc_apply (x : S512x8.Idx) :
    (lLoc fb fs x : EReal) = ∑ j ∈ Finset.range 256, wt fb fs (x 0).val (256 * ((x 0).val / 256) + j) (x 1).val := by
  have h0 : (x 0).val < 512 := lt0 x
  refine (pay27 _ _ _).trans (Finset.sum_congr rfl fun j hj => ?_)
  rw [ex_blk fb fs _ _ _ _ _ (by rw [at2_0]; omega) (Finset.mem_range.mp hj)]
  rw [at2_0]
  congr 1; omega

/-- The weighted values over the device's own keys. -/
theorem oLoc_apply (x : S512x512.Idx) :
    (oLoc fb fs x : EReal) = ∑ j ∈ Finset.range 256, wt fb fs (x 0).val (256 * ((x 0).val / 256) + j) ((x 1).val / 64)
      * (fs (at2 1024 512 (512 + (256 * ((x 0).val / 256) + j)) (x 1).val) : EReal) := by
  have h0 : (x 0).val < 512 := lt0 x
  refine (pay28 _ _ _ _).trans (Finset.sum_congr rfl fun j hj => ?_)
  have hj' := Finset.mem_range.mp hj
  rw [ex_blk fb fs _ _ _ _ _ (by rw [at2_0]; omega) hj']
  rw [at2_0, at2_1]
  refine congrArg₂ (· * ·) (by congr 1; omega) ?_
  show (fs (at2 1024 512 (512 + 256 * ((x 0).val / 256) + j % 256) (64 * ((x 1).val / 64) + (x 1).val % 64 % 64 % 64)) : EReal) = _
  refine congrArg fs ?_
  congr 1 <;> omega

/-- A quarter's weights added. -/
theorem lQ_apply (q : ℕ) (l : CL Ideal) (x : S512x8.Idx) :
    (lQ q fb fr l x : EReal) = if (x 0).val / 256 = q / 2 then
      (l x : EReal) + ∑ j ∈ Finset.range 128, wt fb fr (x 0).val (128 * q + j) (x 1).val else (l x : EReal) := by
  have h0 : (x 0).val < 512 := lt0 x
  unfold lQ
  by_cases hb : (x 0).val / 256 = q / 2
  · rw [if_pos hb, if_pos hb]
    refine (pay83 _ _ _ _).trans (congrArg₂ (· + ·) ?_ (Finset.sum_congr rfl fun j hj => ?_))
    · exact blk_self l x _ _ _ _ (by omega) (by omega) (by omega) (by omega)
    · rw [ex_blk fb fr _ _ _ _ _ (by rw [at2_0]; omega) (Finset.mem_range.mp hj)]
      rw [at2_0]
      congr 1; omega
  · rw [if_neg hb, if_neg hb]

/-- A quarter's weighted values added. -/
theorem oQ_apply (q : ℕ) (o : CF Ideal) (x : S512x512.Idx) :
    (oQ q fb fr o x : EReal) = if (x 0).val / 256 = q / 2 then
      (o x : EReal) + ∑ j ∈ Finset.range 128, wt fb fr (x 0).val (128 * q + j) ((x 1).val / 64)
        * (fr (at2 1024 512 (512 + (128 * q + j)) (x 1).val) : EReal) else (o x : EReal) := by
  have h0 : (x 0).val < 512 := lt0 x
  unfold oQ
  by_cases hb : (x 0).val / 256 = q / 2
  · rw [if_pos hb, if_pos hb]
    refine (pay84 _ _ _ _ _).trans (congrArg₂ (· + ·) ?_ (Finset.sum_congr rfl fun j hj => ?_))
    · exact blk_self o x _ _ _ _ (by omega) (by omega) (by omega) (by omega)
    · have hj' := Finset.mem_range.mp hj
      rw [ex_blk fb fr _ _ _ _ _ (by rw [at2_0]; omega) hj']
      rw [at2_0, at2_1]
      refine congrArg₂ (· * ·) (by congr 1; omega) ?_
      show (fr (at2 1024 512 (512 + 128 * q + j % 128) (64 * ((x 1).val / 64) + (x 1).val % 64 % 64 % 64)) : EReal) = _
      refine congrArg fr ?_
      congr 1 <;> omega
  · rw [if_neg hb, if_neg hb]

/-- The four quarters come in one of four orders. -/
theorem order (c : Dev nD) : (qt c 0, qt c 2, qt c 3, qt c 1) = (0, 1, 2, 3) ∨ (qt c 0, qt c 2, qt c 3, qt c 1) = (1, 0, 3, 2)
    ∨ (qt c 0, qt c 2, qt c 3, qt c 1) = (2, 3, 0, 1) ∨ (qt c 0, qt c 2, qt c 3, qt c 1) = (3, 2, 1, 0) := by
  revert c; decide +kernel

/-- Whatever the order, a batch's two quarters are added once each: together its 256 other keys. -/
theorem quarters (c : Dev nD) (s : EReal) (f : ℕ → EReal) (b : ℕ) (hb : b < 2) :
    (let A := fun q t => if b = q / 2 then t + ∑ j ∈ Finset.range 128, f (128 * q + j) else t
     A (qt c 1) (A (qt c 3) (A (qt c 2) (A (qt c 0) s)))) = s + ∑ j ∈ Finset.range 256, f (256 * b + j) := by
  have hs : ∑ j ∈ Finset.range 256, f (256 * b + j)
      = ∑ j ∈ Finset.range 128, f (128 * (2 * b) + j) + ∑ j ∈ Finset.range 128, f (128 * (2 * b + 1) + j) := by
    rw [show (256 : ℕ) = 128 + 128 from rfl, Finset.sum_range_add]
    refine congrArg₂ (· + ·) (Finset.sum_congr rfl fun j _ => ?_) (Finset.sum_congr rfl fun j _ => ?_) <;>
    · congr 1; omega
  rw [hs]
  have hb' : b = 0 ∨ b = 1 := by omega
  rcases order c with h | h | h | h <;>
  · obtain ⟨h0, h2, h3, h1⟩ : _ ∧ _ ∧ _ ∧ _ := by simpa only [Prod.mk.injEq] using h
    rw [h0, h1, h2, h3]
    rcases hb' with rfl | rfl <;> simp [← add_assoc, add_right_comm]

variable (m : (ℓ : Loc nD τ sig) → Buf (Elt Ideal) ℓ)

/-- All the sums of weights. -/
theorem accL_apply (c : Dev nD) (x : S512x8.Idx) :
    (accL m c x : EReal) = ∑ j ∈ Finset.range 256, wt (inB m c) (vk m c) (x 0).val (256 * ((x 0).val / 256) + j) (x 1).val
      + ∑ j ∈ Finset.range 256, wt (inB m c) (kvRem (vk m) c) (x 0).val (256 * ((x 0).val / 256) + j) (x 1).val := by
  have h0 : (x 0).val < 512 := lt0 x
  unfold accL
  rw [lQ_apply, lQ_apply, lQ_apply, lQ_apply, lLoc_apply]
  exact quarters c _ (fun k => wt (inB m c) (kvRem (vk m) c) (x 0).val k (x 1).val) _ (by omega)

/-- All the weighted values. -/
theorem accO_apply (c : Dev nD) (x : S512x512.Idx) :
    (accO m c x : EReal) = ∑ j ∈ Finset.range 256, wt (inB m c) (vk m c) (x 0).val (256 * ((x 0).val / 256) + j) ((x 1).val / 64)
        * (vk m c (at2 1024 512 (512 + (256 * ((x 0).val / 256) + j)) (x 1).val) : EReal)
      + ∑ j ∈ Finset.range 256, wt (inB m c) (kvRem (vk m) c) (x 0).val (256 * ((x 0).val / 256) + j) ((x 1).val / 64)
        * (kvRem (vk m) c (at2 1024 512 (512 + (256 * ((x 0).val / 256) + j)) (x 1).val) : EReal) := by
  have h0 : (x 0).val < 512 := lt0 x
  unfold accO
  rw [oQ_apply, oQ_apply, oQ_apply, oQ_apply, oLoc_apply]
  exact quarters c _ (fun k => wt (inB m c) (kvRem (vk m) c) (x 0).val k ((x 1).val / 64)
    * (kvRem (vk m) c (at2 1024 512 (512 + k) (x 1).val) : EReal)) _ (by omega)

/-- The result: the one over the other. -/
theorem out_apply (c : Dev nD) (x : S512x512.Idx) :
    (out m c x : EReal) = Ideal.div (accO m c x) (accL m c (at2 512 8 (x 0).val ((x 1).val / 64))) := by
  have h0 : (x 0).val < 512 := lt0 x
  have h1 : (x 1).val < 512 := lt1 x
  refine (pay189 _ _ _).trans (congrArg₂ Ideal.div ?_ ?_)
  · exact blk_self (accO m c) x _ _ _ _ (by omega) (by omega) (by omega) (by omega)
  · refine blk_self (accL m c) (at2 512 8 (x 0).val ((x 1).val / 64)) _ _ _ _ (by rw [at2_0]; omega) (by omega) ?_ ?_
    · rw [at2_0, at2_0]; omega
    · rw [at2_1]; omega

end Cert.KernelIdeal.Elem

end
-- ==== Proof.Value.Sums.lean ====
/-
Sums in the extended reals: a real factor moves through a sum, and the weights of a softmax divided out after
the sum instead of before it.
-/
module

public import Idealize.ShloMosaic.PureOps.Ideal
public import Mathlib.Data.EReal.Operations
public import Mathlib.Analysis.SpecialFunctions.Exp

@[expose] public section

noncomputable section

namespace Cert.Sums

open Idealize.ShloMosaic
open scoped BigOperators

variable {ι : Type} (t : Finset ι)

/-- The sum of reals, read as extended reals. -/
theorem coe_sum (f : ι → ℝ) : ((∑ i ∈ t, f i : ℝ) : EReal) = ∑ i ∈ t, (f i : EReal) := by
  classical
  induction t using Finset.induction_on with
  | empty => simp
  | insert a u ha ih => rw [Finset.sum_insert ha, Finset.sum_insert ha, EReal.coe_add, ih]

/-- A nonnegative real factor moves into a sum. -/
theorem mul_sum (a : ℝ) (ha : 0 ≤ a) (v : ι → EReal) : (a : EReal) * ∑ i ∈ t, v i = ∑ i ∈ t, (a : EReal) * v i := by
  classical
  induction t using Finset.induction_on with
  | empty => simp
  | insert b u hb ih =>
    rw [Finset.sum_insert hb, Finset.sum_insert hb, ← ih]
    exact EReal.left_distrib_of_nonneg_of_ne_top (by exact_mod_cast ha) (EReal.coe_ne_top a) _ _

/-- Softmax weights: subtracting a real from every score and dividing each weight before the sum is the same as
    dividing the sum of the plain exponentials times the values by the sum of the exponentials. -/
theorem softmax (hne : t.Nonempty) (s : ι → ℝ) (mx : ℝ) (v : ι → EReal) :
    ∑ k ∈ t, v k * Ideal.div (Ideal.exp ((s k : EReal) - (mx : EReal))) (0 + ∑ j ∈ t, Ideal.exp ((s j : EReal) - (mx : EReal)))
      = Ideal.div (∑ k ∈ t, Ideal.exp (s k) * v k) (∑ k ∈ t, Ideal.exp (s k)) := by
  have pos (f : ι → ℝ) : 0 < ∑ k ∈ t, Real.exp (f k) := Finset.sum_pos (fun _ _ => Real.exp_pos _) hne
  have e1 (k : ι) : Ideal.exp ((s k : EReal) - (mx : EReal)) = ((Real.exp (s k - mx) : ℝ) : EReal) := by
    rw [← EReal.coe_sub]; rfl
  have e2 (k : ι) : Ideal.exp (s k : EReal) = ((Real.exp (s k) : ℝ) : EReal) := rfl
  simp only [e1, e2, zero_add]
  rw [← coe_sum, ← coe_sum, Ideal.div_coe (pos _).ne', mul_comm, mul_sum t _ (by have := pos s; positivity)]
  refine Finset.sum_congr rfl fun k _ => ?_
  rw [Ideal.div_coe (pos _).ne', mul_comm (v k), ← mul_assoc, ← EReal.coe_mul, ← EReal.coe_mul]
  congr 2
  have h : ∑ j ∈ t, Real.exp (s j - mx) = (∑ j ∈ t, Real.exp (s j)) * Real.exp (-mx) := by
    rw [Finset.sum_mul]
    exact Finset.sum_congr rfl fun j _ => by rw [← Real.exp_add]; rfl
  rw [h, sub_eq_add_neg, Real.exp_add]
  have h1 := pos s
  have h2 := Real.exp_pos (-mx)
  field_simp

/-- The largest of finitely many reals, from `⊥` up, is a real. -/
theorem fold_max_real (hne : t.Nonempty) (s : ι → ℝ) : ∃ mx : ℝ, t.fold max (⊥ : EReal) (fun k => (s k : EReal)) = mx := by
  classical
  induction hne using Finset.Nonempty.cons_induction with
  | singleton a => exact ⟨s a, by simp⟩
  | cons a u ha hu ih =>
    obtain ⟨mx, h⟩ := ih
    exact ⟨max (s a) mx, by rw [Finset.fold_cons, h]; exact (EReal.coe_strictMono.monotone.map_max).symm⟩

end Cert.Sums

end
-- ==== Proof.Value.Ref.lean ====
/-
What the reference computes over the extended reals, element by element: attention, its scores shifted by their
row's largest before they are exponentiated, and its weights divided by their row's sum before they meet the values.
-/
module

public import proofs.«01_k».proof.Proof.Gen.ReferenceIdeal
public import proofs.«01_k».proof.Proof.Value.Sums
public import Idealize.ShloMosaic.Lib.Pipeline.Value
public import Idealize.ShloMosaic.Lib.Pointwise
public import Idealize.ShloMosaic.Lib.IdealHost
public import Idealize.ShloMosaic.PureOps.Ideal.Laws

@[expose] public section

noncomputable section

namespace Cert.Grid4

open Idealize.ShloMosaic

variable {A B C D : ℕ}

/-- The index of a rank-four array with the given coordinates, each wrapped so that it is always one. -/
def at4 (A B C D : ℕ) [NeZero A] [NeZero B] [NeZero C] [NeZero D] (i j k l : ℕ) : (⟨4, ![A, B, C, D]⟩ : Shape).Idx := fun d =>
  match d with
  | ⟨0, _⟩ => (⟨i % A, Nat.mod_lt _ (Nat.pos_of_ne_zero (NeZero.ne A))⟩ : Fin A)
  | ⟨1, _⟩ => (⟨j % B, Nat.mod_lt _ (Nat.pos_of_ne_zero (NeZero.ne B))⟩ : Fin B)
  | ⟨2, _⟩ => (⟨k % C, Nat.mod_lt _ (Nat.pos_of_ne_zero (NeZero.ne C))⟩ : Fin C)
  | ⟨3, _⟩ => (⟨l % D, Nat.mod_lt _ (Nat.pos_of_ne_zero (NeZero.ne D))⟩ : Fin D)

theorem lt0 (x : (⟨4, ![A, B, C, D]⟩ : Shape).Idx) : (x 0).val < A := (x 0).isLt
theorem lt1 (x : (⟨4, ![A, B, C, D]⟩ : Shape).Idx) : (x 1).val < B := (x 1).isLt
theorem lt2 (x : (⟨4, ![A, B, C, D]⟩ : Shape).Idx) : (x 2).val < C := (x 2).isLt
theorem lt3 (x : (⟨4, ![A, B, C, D]⟩ : Shape).Idx) : (x 3).val < D := (x 3).isLt

/-- An index with those four coordinates. -/
theorem at4_of [NeZero A] [NeZero B] [NeZero C] [NeZero D] {x : (⟨4, ![A, B, C, D]⟩ : Shape).Idx} {i j k l : ℕ}
    (h0 : (x 0).val = i) (h1 : (x 1).val = j) (h2 : (x 2).val = k) (h3 : (x 3).val = l) : x = at4 A B C D i j k l := by
  subst h0 h1 h2 h3
  funext d
  match d with
  | ⟨0, _⟩ => exact Fin.ext (Nat.mod_eq_of_lt (lt0 x)).symm
  | ⟨1, _⟩ => exact Fin.ext (Nat.mod_eq_of_lt (lt1 x)).symm
  | ⟨2, _⟩ => exact Fin.ext (Nat.mod_eq_of_lt (lt2 x)).symm
  | ⟨3, _⟩ => exact Fin.ext (Nat.mod_eq_of_lt (lt3 x)).symm

end Cert.Grid4

namespace Cert.ReferenceIdeal.Elem

open Cert.ReferenceIdeal Cert.ReferenceIdeal.Gen Cert.Grid4
open Idealize.ShloMosaic
open scoped BigOperators

abbrev Arr := FVec Ideal S2x512x8x64 .f32

variable (Q K V : Arr)

/-- The scores. -/
def sc : FVec Ideal S2x8x512x512 .f32 :=
  mulf (Host.dotGeneral dot_S2x512x8x64_S2x512x8x64_S2x8x512x512_3_3_1_1_02_02 none Q K)
    (broadcastInDim S2x8x512x512 ![] bcast_S_S2x8x512x512 (constant S_ .f32 0x3E000000#32))

/-- A value per row, along the row. -/
def along (r : FVec Ideal S2x8x512 .f32) : FVec Ideal S2x8x512x512 .f32 :=
  broadcastInDim S2x8x512x512 ![0, 1, 2, 3] bcast_S2x8x512x1_S2x8x512x512_0_1_2_3
    (broadcastInDim S2x8x512x1 ![0, 1, 2] bcast_S2x8x512_S2x8x512x1_0_1_2 r)

/-- The exponentials of the shifted scores. -/
def pe : FVec Ideal S2x8x512x512 .f32 :=
  Host.exp (subf (sc Q K) (along (Host.reduce FloatOps.maximumf (sc Q K) (constant S_ .f32 0xFF800000#32) reducesTo_S2x8x512x512_S2x8x512_d3 h_S_)))

/-- The reference's result. -/
def res : FVec Ideal S2x512x8x64 .f32 :=
  transpose S2x512x8x64 [0, 3, 1, 2] (Host.dotGeneral dot_S2x512x8x64_S2x8x512x512_S2x8x64x512_1_3_3_2_02_01 none V
    (Host.divf (pe Q K) (along (Host.reduceAdd (pe Q K) (constant S_ .f32 0x00000000#32) reducesTo_S2x8x512x512_S2x8x512_d3 h_S_))))
    transposes_S2x8x64x512_S2x512x8x64_0_3_1_2

/-- A score is the product of a query's row and a key's, times one eighth. -/
def score (b h s k : ℕ) : EReal :=
  (∑ d ∈ Finset.range 64, Q (at4 2 512 8 64 b s h d) * K (at4 2 512 8 64 b k h d)) * ((1 / 8 : ℝ) : EReal)

theorem eighth : Ideal.ofBits .f32 0x3E000000#32 = ((1 / 8 : ℝ) : EReal) := by
  simp [Ideal.ofBits, Ideal.ieee, -EReal.coe_mul]; norm_num

theorem sc_apply (y : S2x8x512x512.Idx) : sc Q K y = score Q K (y 0).val (y 1).val (y 2).val (y 3).val := by
  show Ideal.matmul dot_S2x512x8x64_S2x512x8x64_S2x8x512x512_3_3_1_1_02_02 Q K (fun _ => 0) y
    * broadcastInDim S2x8x512x512 ![] bcast_S_S2x8x512x512 (constant (F := Ideal) S_ .f32 0x3E000000#32) y = _
  rw [Ideal.matmul_apply₁_of (a := 3) _ rfl (K := 64) rfl _ _ _ _ (fun k => at4 2 512 8 64 (y 0).val (y 2).val (y 1).val k.val)
    (fun k => at4 2 512 8 64 (y 0).val (y 3).val (y 1).val k.val)]
  · unfold score
    rw [Finset.sum_range, zero_add]
    exact congrArg (_ * ·) ((ValueIdx.broadcastInDim_scalar_apply _ _ y).trans eighth)
  · intro k; exact at4_of rfl rfl rfl rfl
  · intro k; exact at4_of rfl rfl rfl rfl

theorem along_apply (r : FVec Ideal S2x8x512 .f32) (y : S2x8x512x512.Idx) :
    along r y = r (ix3 (n0 := 2) (n1 := 8) (n2 := 512) (y 0) (y 1) (y 2)) := by
  unfold along
  refine (broadcastInDim_apply _ _ _ y (at4 2 8 512 1 (y 0).val (y 1).val (y 2).val 0) fun a => ?_).trans
    (broadcastInDim_apply _ _ _ _ _ fun a => ?_)
  · match a with
    | ⟨0, _⟩ => exact Nat.mod_eq_of_lt (lt0 y)
    | ⟨1, _⟩ => exact Nat.mod_eq_of_lt (lt1 y)
    | ⟨2, _⟩ => exact Nat.mod_eq_of_lt (lt2 y)
    | ⟨3, _⟩ => rfl
  · match a with
    | ⟨0, _⟩ => exact (Nat.mod_eq_of_lt (lt0 y)).symm
    | ⟨1, _⟩ => exact (Nat.mod_eq_of_lt (lt1 y)).symm
    | ⟨2, _⟩ => exact (Nat.mod_eq_of_lt (lt2 y)).symm

theorem red : S2x8x512x512.Reduces [3] S2x8x512 := by decide

/-- A row's largest score. -/
def top (b h s : ℕ) : EReal := (Finset.univ : Finset (Fin 512)).fold max ⊥ fun k => score Q K b h s k.val

theorem pe_apply (y : S2x8x512x512.Idx) :
    pe Q K y = Ideal.exp (score Q K (y 0).val (y 1).val (y 2).val (y 3).val - top Q K (y 0).val (y 1).val (y 2).val) := by
  show Ideal.exp (sc Q K y - along _ y) = _
  rw [sc_apply, along_apply, Host.reduce_eq_fold_single _ _ _ _ red]
  have e : (constant (F := Ideal) S_ .f32 0xFF800000#32) (Shape.Idx.first h_S_) = (⊥ : EReal) := by
    show Ideal.ofBits .f32 0xFF800000#32 = ⊥
    simp [Ideal.ofBits, Ideal.ieee]
  rw [e]
  have e2 : sc Q K ∘ red.lift (ix3 (n0 := 2) (n1 := 8) (n2 := 512) (y 0) (y 1) (y 2))
      = fun k : Fin 512 => score Q K (y 0).val (y 1).val (y 2).val k.val := funext fun k => sc_apply Q K _
  rw [e2]
  rfl

/-- The sum of a row's exponentials. -/
def tot (b h s : ℕ) : EReal := 0 + ∑ k ∈ Finset.range 512, Ideal.exp (score Q K b h s k - top Q K b h s)

theorem tot_apply (y : S2x8x512x512.Idx) :
    along (Host.reduceAdd (pe Q K) (constant S_ .f32 0x00000000#32) reducesTo_S2x8x512x512_S2x8x512_d3 h_S_) y
      = tot Q K (y 0).val (y 1).val (y 2).val := by
  rw [along_apply, ValueIdx.hostReduceAdd_apply, Ideal.hostReduceAdd_single _ red]
  have e : (constant (F := Ideal) S_ .f32 0x00000000#32) (Shape.Idx.first h_S_) = (0 : EReal) := Ideal.ofBits_zero_f32
  unfold tot
  rw [e, Finset.sum_range]
  congr 1
  exact Finset.sum_congr rfl fun k _ => pe_apply Q K _

/-- The reference at an element: the values of the 512 keys, each times its weight. -/
theorem res_apply (x : S2x512x8x64.Idx) :
    res Q K V x = ∑ k ∈ Finset.range 512, V (at4 2 512 8 64 (x 0).val k (x 2).val (x 3).val)
      * Ideal.div (Ideal.exp (score Q K (x 0).val (x 2).val (x 1).val k - top Q K (x 0).val (x 2).val (x 1).val))
          (tot Q K (x 0).val (x 2).val (x 1).val) := by
  unfold res
  rw [transpose_apply _ _ _ x (at4 2 8 64 512 (x 0).val (x 2).val (x 3).val (x 1).val) (by
    intro a
    match a with
    | ⟨0, _⟩ => exact Nat.mod_eq_of_lt (lt0 x)
    | ⟨1, _⟩ => exact Nat.mod_eq_of_lt (lt1 x)
    | ⟨2, _⟩ => exact Nat.mod_eq_of_lt (lt2 x)
    | ⟨3, _⟩ => exact Nat.mod_eq_of_lt (lt3 x))]
  show Ideal.matmul dot_S2x512x8x64_S2x8x512x512_S2x8x64x512_1_3_3_2_02_01 V _ (fun _ => 0) _ = _
  rw [Ideal.matmul_apply₁_of (a := 1) _ rfl (K := 512) rfl _ _ _ _ (fun k => at4 2 512 8 64 (x 0).val k.val (x 2).val (x 3).val)
    (fun k => at4 2 8 512 512 (x 0).val (x 2).val (x 1).val k.val)]
  · rw [Finset.sum_range, zero_add]
    refine Finset.sum_congr rfl fun k _ => ?_
    rw [ValueIdx.hostDivf_apply, pe_apply, tot_apply]
    have h0 : (x 0).val % 2 = (x 0).val := Nat.mod_eq_of_lt (lt0 x)
    have h1 : (x 2).val % 8 = (x 2).val := Nat.mod_eq_of_lt (lt2 x)
    have h2 : (x 1).val % 512 = (x 1).val := Nat.mod_eq_of_lt (lt1 x)
    have h3 : k.val % 512 = k.val := Nat.mod_eq_of_lt k.isLt
    show _ * Ideal.div (Ideal.exp (score Q K ((x 0).val % 2) ((x 2).val % 8) ((x 1).val % 512) (k.val % 512)
      - top Q K ((x 0).val % 2) ((x 2).val % 8) ((x 1).val % 512))) (tot Q K ((x 0).val % 2) ((x 2).val % 8) ((x 1).val % 512)) = _
    rw [h0, h1, h2, h3]
  · intro k; exact at4_of (Nat.mod_eq_of_lt (lt0 x)) rfl (Nat.mod_eq_of_lt (lt2 x)) (Nat.mod_eq_of_lt (lt3 x))
  · intro k; exact at4_of (Nat.mod_eq_of_lt (lt0 x)) (Nat.mod_eq_of_lt (lt2 x)) (Nat.mod_eq_of_lt (lt1 x)) rfl

end Cert.ReferenceIdeal.Elem

end
-- ==== Proof.Value.Join.lean ====
/-
The kernel's result on a device is that device's block of the reference's, over the extended reals and for queries and
keys that are real numbers.
-/
module

public import proofs.«01_k».proof.Proof.Value.Kern
public import proofs.«01_k».proof.Proof.Value.Ref
public import Idealize.ShloMosaic.Lib.Layout

@[expose] public section

noncomputable section

namespace Cert.Join

open Cert.KernelIdeal Cert.KernelIdeal.Gen Cert.KernelIdeal.Run Cert.KernelIdeal.Elem Cert.Grid2 Cert.Grid4
open Idealize.ShloMosaic Idealize.ShloMosaic.TcCoe
open scoped BigOperators

variable (m : (ℓ : Loc nD τ sig) → Buf (Elt Ideal) ℓ)

/-! ## The operands of the kernel, and its result, through the host's reshapes -/

/-- Row `r` of a matrix of 512 rows is position `r % 256` of batch `r / 256`; column `l` is column `l % 64` of head `l / 64`. -/
theorem flat_apply {α : Type} (v : S2x256x8x64.Idx → α) (h : S2x256x8x64.ShapeCasts S512x512) (r l : ℕ) (hr : r < 512) (hl : l < 512) :
    shapeCast S512x512 v h (at2 512 512 r l) = v (at4 2 256 8 64 (r / 256) (r % 256) (l / 64) (l % 64)) := by
  refine shapeCast_apply v h _ _ ?_
  rw [Shape.rowMajor_val_four, Shape.rowMajor_val_two]
  show ((((r / 256) % 2) * 256 + r % 256 % 256) * 8 + l / 64 % 8) * 64 + l % 64 % 64 = r % 512 * 512 + l % 512
  omega

theorem unflat_apply {α : Type} (v : S512x512.Idx → α) (h : S512x512.ShapeCasts S2x256x8x64) (y : S2x256x8x64.Idx) :
    shapeCast S2x256x8x64 v h y = v (at2 512 512 (256 * (y 0).val + (y 1).val) (64 * (y 2).val + (y 3).val)) := by
  have h0 := Grid4.lt0 y
  have h1 := Grid4.lt1 y
  have h2 := Grid4.lt2 y
  have h3 := Grid4.lt3 y
  refine shapeCast_apply v h _ _ ?_
  rw [Shape.rowMajor_val_four, Shape.rowMajor_val_two]
  show (256 * (y 0).val + (y 1).val) % 512 * 512 + (64 * (y 2).val + (y 3).val) % 512
    = (((y 0).val * 256 + (y 1).val) * 8 + (y 2).val) * 64 + (y 3).val
  omega

theorem inQ_eq (c : Dev nD) : inQ m c = shapeCast S512x512 (m ((c : Thread nD τ).loc main_arg0)) shapeCasts_S2x256x8x64_S512x512 := by
  unfold inQ; after_results; rfl
theorem inK_eq (c : Dev nD) : inK m c = shapeCast S512x512 (m ((c : Thread nD τ).loc main_arg1)) shapeCasts_S2x256x8x64_S512x512 := by
  unfold inK; after_results; rfl
theorem inV_eq (c : Dev nD) : inV m c = shapeCast S512x512 (m ((c : Thread nD τ).loc main_arg2)) shapeCasts_S2x256x8x64_S512x512 := by
  unfold inV; after_results; rfl
theorem res_eq (c : Dev nD) : V₃ m c main_v5 = shapeCast S2x256x8x64 (out m c) shapeCasts_S512x512_S2x256x8x64 := by
  after_results
  exact congrArg (fun f => shapeCast S2x256x8x64 f shapeCasts_S512x512_S2x256x8x64) (Function.update_self (Proc.devRef .tc main_v4) (out m c) (V₁ m c))

/-- Device `c`'s block along the cut axis starts where its `x` coordinate says. -/
theorem block_eq {α : Type} (c : Dev nD) (v : (⟨4, ![2, 512, 8, 64]⟩ : Shape).Idx → α) (h) (y : (⟨4, ![2, 256, 8, 64]⟩ : Shape).Idx) :
    Layout.blockN ⟨4, ![2, 256, 8, 64]⟩ ⟨4, ![2, 512, 8, 64]⟩ (Layout.meshBlock [2, 4, 4] ![[], [0], [], []] c) v h y
      = v (at4 2 512 8 64 (y 0).val (256 * (c.val / 16) + (y 1).val) (y 2).val (y 3).val) := by
  rw [Layout.blockN_apply]
  have hc : c.val < 32 := c.isLt
  have e (b) := Layout.TilesN.idx_val h (Layout.meshBlock [2, 4, 4] ![[], [0], [], []] c) y b
  refine congrArg v (at4_of ?_ ?_ ?_ ?_)
  · rw [e]; show 0 * 2 + (y 0).val = _; omega
  · rw [e]; show (c.val / 16 % 2 * 1 + 0) * 256 + (y 1).val = _; omega
  · rw [e]; show 0 * 8 + (y 2).val = _; omega
  · rw [e]; show 0 * 64 + (y 3).val = _; omega

/-! ## What the kernel reads, in terms of the whole arrays -/

/-- The devices' blocks, of three whole arrays. -/
structure Blocks (Q K V : ReferenceIdeal.Elem.Arr) : Prop where
  q (c : Dev nD) : m ((c : Thread nD τ).loc main_arg0)
    = Layout.blockN ⟨4, ![2, 256, 8, 64]⟩ ⟨4, ![2, 512, 8, 64]⟩ (Layout.meshBlock [2, 4, 4] ![[], [0], [], []] c) Q
  k (c : Dev nD) : m ((c : Thread nD τ).loc main_arg1)
    = Layout.blockN ⟨4, ![2, 256, 8, 64]⟩ ⟨4, ![2, 512, 8, 64]⟩ (Layout.meshBlock [2, 4, 4] ![[], [0], [], []] c) K
  v (c : Dev nD) : m ((c : Thread nD τ).loc main_arg2)
    = Layout.blockN ⟨4, ![2, 256, 8, 64]⟩ ⟨4, ![2, 512, 8, 64]⟩ (Layout.meshBlock [2, 4, 4] ![[], [0], [], []] c) V

variable {m} {Q K V : ReferenceIdeal.Elem.Arr} (H : Blocks m Q K V)

/-- A device's operand, at a row and a column of one head. -/
theorem operand {A : ReferenceIdeal.Elem.Arr} (c : Dev nD) (h) (r l : ℕ) (hr : r < 512) (hl : l < 512) :
    shapeCast S512x512 (Layout.blockN ⟨4, ![2, 256, 8, 64]⟩ ⟨4, ![2, 512, 8, 64]⟩ (Layout.meshBlock [2, 4, 4] ![[], [0], [], []] c) A)
        h (at2 512 512 r l)
      = A (at4 2 512 8 64 (r / 256) (256 * (c.val / 16) + r % 256) (l / 64) (l % 64)) := by
  rw [flat_apply _ _ _ _ hr hl, block_eq]
  refine congrArg A (at4_of ?_ ?_ ?_ ?_)
  · show r / 256 % 2 % 2 = _; omega
  · show (256 * (c.val / 16) + r % 256 % 256) % 512 = _
    have hc : c.val < 32 := c.isLt
    omega
  · show l / 64 % 8 % 8 = _; omega
  · show l % 64 % 64 % 64 = _; omega

include H in
theorem inQ_apply (c : Dev nD) (r l : ℕ) (hr : r < 512) (hl : l < 512) :
    inQ m c (at2 512 512 r l) = Q (at4 2 512 8 64 (r / 256) (256 * (c.val / 16) + r % 256) (l / 64) (l % 64)) := by
  rw [inQ_eq, H.q]; exact operand c _ r l hr hl
include H in
theorem inK_apply (c : Dev nD) (r l : ℕ) (hr : r < 512) (hl : l < 512) :
    inK m c (at2 512 512 r l) = K (at4 2 512 8 64 (r / 256) (256 * (c.val / 16) + r % 256) (l / 64) (l % 64)) := by
  rw [inK_eq, H.k]; exact operand c _ r l hr hl
include H in
theorem inV_apply (c : Dev nD) (r l : ℕ) (hr : r < 512) (hl : l < 512) :
    inV m c (at2 512 512 r l) = V (at4 2 512 8 64 (r / 256) (256 * (c.val / 16) + r % 256) (l / 64) (l % 64)) := by
  rw [inV_eq, H.v]; exact operand c _ r l hr hl

/-- What a device sends holds its keys in the first 512 rows and its values in the next. -/
theorem vk_key (c : Dev nD) (k l : ℕ) (hk : k < 512) (hl : l < 512) : vk m c (at2 1024 512 k l) = inK m c (at2 512 512 k l) := by
  unfold vk kvSend
  have e : (at2 1024 512 k l 0).val = k := by rw [at2_0]; omega
  rw [e, if_pos hk]
  refine (KernelIdeal.Blocks.pay1 _ _).trans ?_
  show inK m c (at2 512 512 (k % 512 / 64 * 64 + k % 64 % 64) (0 + l % 512 % 512)) = _
  congr 2 <;> omega
theorem vk_val (c : Dev nD) (k l : ℕ) (hk : k < 512) (hl : l < 512) : vk m c (at2 1024 512 (512 + k) l) = inV m c (at2 512 512 k l) := by
  unfold vk kvSend
  have e : (at2 1024 512 (512 + k) l 0).val = 512 + k := by rw [at2_0]; omega
  rw [e, if_neg (by omega)]
  refine (KernelIdeal.Blocks.pay1 _ _).trans ?_
  show inV m c (at2 512 512 ((512 + k) % 512 / 64 * 64 + (512 + k) % 64 % 64) (0 + l % 512 % 512)) = _
  congr 2 <;> omega

/-- Whatever lands comes from a device on the other side of the cut. -/
theorem src_side (c : Dev nD) (q : ℕ) : (srcDev c q).val / 16 = 1 - c.val / 16 := by
  have h : ∀ c : Dev nD, (xn (ym c)).val / 16 = 1 - c.val / 16 ∧ (xn (zm c)).val / 16 = 1 - c.val / 16
      ∧ (xn c).val / 16 = 1 - c.val / 16 := by decide +kernel
  obtain ⟨h1, h2, h3⟩ := h c
  unfold srcDev; split_ifs <;> assumption

/-- What lands at a row, by the device that sent it. -/
theorem rem_at (c : Dev nD) (k l : ℕ) (hk : k < 1024) :
    kvRem (vk m) c (at2 1024 512 k l) = vk m (srcDev c (k % 512 / 128)) (at2 1024 512 k l) := by
  have e : (at2 1024 512 k l 0).val = k := by rw [at2_0]; omega
  unfold kvRem
  rw [e]

/-- A weight of a landed key, by the device that sent it. -/
theorem wt_rem (c : Dev nD) (r k h : ℕ) (hk : k < 512) :
    wt (inB m c) (kvRem (vk m) c) r k h = wt (inB m c) (vk m (srcDev c (k % 512 / 128))) r k h := by
  unfold wt
  refine congrArg _ (Finset.sum_congr rfl fun d _ => ?_)
  rw [rem_at c k _ (by omega)]

/-- An exponentiated score, in the whole arrays. -/
def ew (Q K : ReferenceIdeal.Elem.Arr) (b h s k : ℕ) : EReal :=
  Ideal.exp (∑ d ∈ Finset.range 64, (Q (at4 2 512 8 64 b s h d) * ((1 / 8 : ℝ) : EReal)) * K (at4 2 512 8 64 b k h d))

include H in
theorem wt_eq (c e : Dev nD) (r k h : ℕ) (hr : r < 512) (hk : k < 512) (hh : h < 8) (hb : k / 256 = r / 256) :
    wt (inB m c) (vk m e) r k h = ew Q K (r / 256) h (256 * (c.val / 16) + r % 256) (256 * (e.val / 16) + k % 256) := by
  unfold wt ew
  refine congrArg _ (Finset.sum_congr rfl fun d hd => ?_)
  have hd' := Finset.mem_range.mp hd
  have e1 : (64 * h + d) / 64 = h := by omega
  have e2 : (64 * h + d) % 64 = d := by omega
  refine congrArg₂ (· * ·) ?_ ?_
  · refine (KernelIdeal.Blocks.pay18 _ _).trans (congrArg (· * _) ((inQ_apply H c r (64 * h + d) hr (by omega)).trans ?_))
    rw [e1, e2]
  · rw [vk_key e k _ hk (by omega), inK_apply H e k _ hk (by omega), e1, e2, hb]

/-- The two sides' 256 keys are the 512. -/
theorem halves (X : ℕ) (hX : X < 2) (g : ℕ → EReal) :
    ∑ j ∈ Finset.range 256, g (256 * X + j) + ∑ j ∈ Finset.range 256, g (256 * (1 - X) + j) = ∑ k ∈ Finset.range 512, g k := by
  rw [show (512 : ℕ) = 256 + 256 from rfl, Finset.sum_range_add]
  have h : X = 0 ∨ X = 1 := by omega
  rcases h with rfl | rfl
  · simp
  · simp [add_comm]

include H in
/-- The sum of a row's weights, in the whole arrays. -/
theorem sum_l (c : Dev nD) (r h : ℕ) (hr : r < 512) (hh : h < 8) :
    (accL m c (at2 512 8 r h) : EReal) = ∑ k ∈ Finset.range 512, ew Q K (r / 256) h (256 * (c.val / 16) + r % 256) k := by
  have hc : c.val < 32 := c.isLt
  have e0 : (at2 512 8 r h 0).val = r := by rw [at2_0]; omega
  have e1 : (at2 512 8 r h 1).val = h := by rw [at2_1]; omega
  rw [accL_apply, e0, e1, ← halves (c.val / 16) (by omega)]
  refine congrArg₂ (· + ·) (Finset.sum_congr rfl fun j hj => ?_) (Finset.sum_congr rfl fun j hj => ?_) <;>
    have hj' := Finset.mem_range.mp hj
  · rw [wt_eq H c c r _ h hr (by omega) hh (by omega)]
    congr 1; omega
  · rw [wt_rem c r _ h (by omega), wt_eq H c _ r _ h hr (by omega) hh (by omega), src_side]
    congr 1; omega

include H in
/-- The weighted values' sum, in the whole arrays. -/
theorem sum_o (c : Dev nD) (r l : ℕ) (hr : r < 512) (hl : l < 512) :
    (accO m c (at2 512 512 r l) : EReal) = ∑ k ∈ Finset.range 512, ew Q K (r / 256) (l / 64) (256 * (c.val / 16) + r % 256) k
      * V (at4 2 512 8 64 (r / 256) k (l / 64) (l % 64)) := by
  have hc : c.val < 32 := c.isLt
  have e0 : (at2 512 512 r l 0).val = r := by rw [at2_0]; omega
  have e1 : (at2 512 512 r l 1).val = l := by rw [at2_1]; omega
  rw [accO_apply, e0, e1, ← halves (c.val / 16) (by omega)]
  refine congrArg₂ (· + ·) (Finset.sum_congr rfl fun j hj => ?_) (Finset.sum_congr rfl fun j hj => ?_) <;>
    have hj' := Finset.mem_range.mp hj
  · rw [wt_eq H c c r _ (l / 64) hr (by omega) (by omega) (by omega), vk_val c _ l (by omega) hl, inV_apply H c _ l (by omega) hl]
    rw [show (256 * (r / 256) + j) % 256 = j by omega, show (256 * (r / 256) + j) / 256 = r / 256 by omega]
  · have er : (256 * (r / 256) + j) % 256 = j := by omega
    refine congrArg₂ (· * ·) ?_ ?_
    · rw [wt_rem c r _ (l / 64) (by omega), wt_eq H c _ r _ (l / 64) hr (by omega) (by omega) (by omega), src_side, er]
    · rw [rem_at c _ l (by omega), vk_val _ _ l (by omega) hl, inV_apply H _ _ l (by omega) hl, src_side, er, show (256 * (r / 256) + j) / 256 = r / 256 by omega]

/-! ## The two results -/

include H in
/-- For real queries and keys, and any values, the kernel leaves each device its block of the reference's result. -/
theorem result (hQ : ∀ i, ∃ r : ℝ, Q i = r) (hK : ∀ i, ∃ r : ℝ, K i = r) (c : Dev nD) :
    V₃ m c main_v5 = Layout.blockN ⟨4, ![2, 256, 8, 64]⟩ ⟨4, ![2, 512, 8, 64]⟩ (Layout.meshBlock [2, 4, 4] ![[], [0], [], []] c)
      (ReferenceIdeal.Elem.res Q K V) := by
  choose q hq using hQ
  choose k hk using hK
  have hc : c.val < 32 := c.isLt
  funext y
  have h0 := Grid4.lt0 y
  have h1 := Grid4.lt1 y
  have h2 := Grid4.lt2 y
  have h3 := Grid4.lt3 y
  rw [res_eq, block_eq]
  refine (unflat_apply _ _ y).trans ?_
  rw [out_apply, sum_o H c _ _ (by omega) (by omega)]
  have e0 : (at2 512 512 (256 * (y 0).val + (y 1).val) (64 * (y 2).val + (y 3).val) 0).val = 256 * (y 0).val + (y 1).val := by
    rw [at2_0]; omega
  have e1 : (at2 512 512 (256 * (y 0).val + (y 1).val) (64 * (y 2).val + (y 3).val) 1).val = 64 * (y 2).val + (y 3).val := by
    rw [at2_1]; omega
  rw [e0, e1, sum_l H c _ _ (by omega) (by omega)]
  rw [show (256 * (y 0).val + (y 1).val) / 256 = (y 0).val by omega, show (256 * (y 0).val + (y 1).val) % 256 = (y 1).val by omega,
    show (64 * (y 2).val + (y 3).val) / 64 = (y 2).val by omega, show (64 * (y 2).val + (y 3).val) % 64 = (y 3).val by omega]
  rw [ReferenceIdeal.Elem.res_apply]
  have a0 : (at4 2 512 8 64 (y 0).val (256 * (c.val / 16) + (y 1).val) (y 2).val (y 3).val 0).val = (y 0).val := Nat.mod_eq_of_lt h0
  have a1 : (at4 2 512 8 64 (y 0).val (256 * (c.val / 16) + (y 1).val) (y 2).val (y 3).val 1).val = 256 * (c.val / 16) + (y 1).val :=
    Nat.mod_eq_of_lt (by omega)
  have a2 : (at4 2 512 8 64 (y 0).val (256 * (c.val / 16) + (y 1).val) (y 2).val (y 3).val 2).val = (y 2).val := Nat.mod_eq_of_lt h2
  have a3 : (at4 2 512 8 64 (y 0).val (256 * (c.val / 16) + (y 1).val) (y 2).val (y 3).val 3).val = (y 3).val := Nat.mod_eq_of_lt h3
  rw [a0, a1, a2, a3]
  generalize (y 0).val = b, 256 * (c.val / 16) + (y 1).val = s, (y 2).val = h, (y 3).val = d
  -- the scores, as reals
  let sr : ℕ → ℝ := fun j => (∑ i ∈ Finset.range 64, q (at4 2 512 8 64 b s h i) * k (at4 2 512 8 64 b j h i)) * (1 / 8)
  have hs (j : ℕ) : ReferenceIdeal.Elem.score Q K b h s j = (sr j : EReal) := by
    unfold ReferenceIdeal.Elem.score
    simp only [hq, hk, ← EReal.coe_mul]
    rw [← Sums.coe_sum, ← EReal.coe_mul]
  have hw (j : ℕ) : ew Q K b h s j = Ideal.exp (sr j : EReal) := by
    unfold ew
    simp only [hq, hk, ← EReal.coe_mul]
    rw [← Sums.coe_sum]
    congr 2
    show _ = (∑ i ∈ Finset.range 64, q (at4 2 512 8 64 b s h i) * k (at4 2 512 8 64 b j h i)) * (1 / 8)
    rw [Finset.sum_mul]
    exact Finset.sum_congr rfl fun i _ => by ring
  obtain ⟨mx, hmx⟩ : ∃ mx : ℝ, ReferenceIdeal.Elem.top Q K b h s = mx := by
    unfold ReferenceIdeal.Elem.top
    simp only [hs]
    exact Sums.fold_max_real _ ⟨(0 : Fin 512), Finset.mem_univ _⟩ fun j : Fin 512 => sr j.val
  unfold ReferenceIdeal.Elem.tot
  simp only [hs, hw, hmx]
  exact (Sums.softmax (Finset.range 512) ⟨0, by simp⟩ sr mx fun j => V (at4 2 512 8 64 b j h d)).symm

end Cert.Join

end
-- ==== Proof.Value.Finite.lean ====
/-
The precondition, read at the reals: every element of the queries and of the keys is a real number.
-/
module

public import proofs.«01_k».proof.Proof.Value.Join
public import proofs.«01_k».proof.Pre_finite_qk_KernelIdeal
public import Idealize.ShloMosaic.Lib.ValueIdxCore
public import Idealize.ShloMosaic.Lib.IdealHost

@[expose] public section

noncomputable section

namespace Cert.Finite

open Idealize.ShloMosaic Cert.Grid4
open Cert.Pre_finite_qk_KernelIdeal (S2x256x8x64 S_)

/-- The word compared with is infinity. -/
theorem inf_word : Ideal.ofBits .f32 0x7F800000#32 = (⊤ : EReal) := by simp [Ideal.ofBits, Ideal.ieee]

/-- An array whose absolute values all compare below infinity is real everywhere. -/
theorem real_of_lt (h : S_.BroadcastsInDim S2x256x8x64 (![] : Fin 0 → Fin S2x256x8x64.rank)) (x : FVec Ideal S2x256x8x64 .f32)
    (e : cmpf .olt (Host.absf x) (broadcastInDim S2x256x8x64 ![] h (constant (F := Ideal) S_ .f32 0x7F800000#32)) = fun _ => 1#1)
    (i : S2x256x8x64.Idx) : ∃ r : ℝ, (x i : EReal) = r := by
  have ei := congrFun e i
  rw [ValueIdx.cmpf_apply, ValueIdx.broadcastInDim_scalar_apply] at ei
  change Ideal.cmp .olt (max (x i : EReal) (-(x i : EReal))) (Ideal.ofBits .f32 0x7F800000#32) = 1#1 at ei
  rw [inf_word] at ei
  have lt : max (x i : EReal) (-(x i : EReal)) < ⊤ := by
    by_contra hn
    simp [Ideal.cmp, hn] at ei
  have h1 : (x i : EReal) ≠ ⊤ := fun h => by simp [h] at lt
  have h2 : (x i : EReal) ≠ ⊥ := fun h => by simp [h] at lt
  exact ⟨(x i : EReal).toReal, (EReal.coe_toReal h1 h2).symm⟩

/-- An array of which every device's block is real is real. -/
theorem whole (A : ReferenceIdeal.Elem.Arr)
    (e : ∀ (c : Dev Cert.KernelIdeal.nD) (i : S2x256x8x64.Idx), ∃ r : ℝ,
      ((Layout.blockN ⟨4, ![2, 256, 8, 64]⟩ ⟨4, ![2, 512, 8, 64]⟩ (Layout.meshBlock [2, 4, 4] ![[], [0], [], []] c) A : S2x256x8x64.Idx → EReal) i) = r)
    (x) : ∃ r : ℝ, (A x : EReal) = r := by
  have h0 := Grid4.lt0 x
  have h1 := Grid4.lt1 x
  have h2 := Grid4.lt2 x
  have h3 := Grid4.lt3 x
  obtain ⟨r, hr⟩ := e ⟨16 * ((x 1).val / 256), by show _ < 32; omega⟩ (at4 2 256 8 64 (x 0).val ((x 1).val % 256) (x 2).val (x 3).val)
  refine ⟨r, Eq.trans (congrArg A ?_) ((Join.block_eq _ A _ _).symm.trans hr)⟩
  refine at4_of ?_ ?_ ?_ ?_
  · show _ = (x 0).val % 2; omega
  · show _ = (256 * (16 * ((x 1).val / 256) / 16) + (x 1).val % 256 % 256); omega
  · show _ = (x 2).val % 8; omega
  · show _ = (x 3).val % 64; omega

end Cert.Finite

end
-- ==== Proof.lean ====
/-
The claims, assembled: the kernel on 32 devices runs, leaves its arguments and every counter as they were, read at bits
and read at the reals; the reference runs; the two readings are of one text; and, read at the reals, of queries and keys
that are real numbers, each device's result is its block of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelIdealRun.Same
public import proofs.«01_k».proof.Proof.Value.Finite
public import Idealize.ShloMosaic.Init

@[expose] public section

noncomputable section

namespace Cert.Proof

open Idealize.ShloMosaic Idealize.SL.Sem

/-- The kernel, read at the reals. -/
theorem frame_pi : Cert.quiescent_KernelIdeal := fun m ρ _ =>
  (θ_run Cert.KernelIdeal.defs _ _).mono (fun _ h => ⟨fun c => (h.1 c).2, h.2⟩) (Cert.KernelIdeal.Run.run_main (F := Ideal) m ρ)

/-- The reference, which has no counter. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The precondition's own side condition: a scalar fills an array of one device's shape. -/
theorem pre_k : Cert.Pre_finite_qk_KernelIdeal.Facts := ⟨by decide⟩

/-- The same at the whole arrays' shape. -/
theorem pre_r : Cert.Pre_finite_qk_ReferenceIdeal.Facts := ⟨by decide⟩

/-- Each device's result is its block of attention over the whole sequence. -/
theorem algebraic : Cert.algebraic_KernelIdeal_ReferenceIdeal_pre_finite_qk_KernelIdeal (hPre_finite_qk_KernelIdeal := pre_k) := by
  intro m g m' g' pre cut
  have B : Cert.Join.Blocks m _ _ _ := ⟨fun c => (cut c).1, fun c => (cut c).2.1, fun c => (cut c).2.2⟩
  have rq := Cert.Finite.whole _ fun c i => by
    have h := Cert.Finite.real_of_lt _ _ (pre c).1 i
    rwa [(cut c).1] at h
  have rk := Cert.Finite.whole _ fun c i => by
    have h := Cert.Finite.real_of_lt _ _ (pre c).2 i
    rwa [(cut c).2.1] at h
  refine ⟨Cert.ReferenceIdeal.Elem.res (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · exact (θ_run Cert.KernelIdeal.defs _ _).mono
      (fun _ h c => ⟨(h.1 c).1.trans (Cert.Join.result B rq rk c), (h.1 c).2⟩) (Cert.KernelIdeal.Run.run_main (F := Ideal) m g)
  · exact (θ_run Cert.ReferenceIdeal.defs _ _).mono (fun _ h => h 0) (Cert.ReferenceIdeal.Value.run (F := Ideal) m' g')

/-- All the claims, with the side conditions the programs and the precondition state. -/
theorem claim : Cert.Claim := ⟨Cert.Kernel.Gen.facts, Cert.KernelIdeal.Gen.facts, Cert.ReferenceIdeal.Gen.facts, pre_k, pre_r,
  Cert.Same.frame_p, frame_pi, fun m ρ _ => frame_pi m ρ trivial, frame_ri, fun m ρ _ => frame_ri m ρ trivial, trivial, algebraic⟩

end Cert.Proof

end
